-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_ones [hPre_finite_and_ones : Cert.Pre_finite_and_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_ones [hPre_finite_and_ones : Cert.Pre_finite_and_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_rope_weights [hPre_finite_rope_weights : Cert.Pre_finite_rope_weights.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_rope_weights.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).1 = (fun _ => 1#1)
    ∧ (Cert.Pre_finite_rope_weights.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_rope_weights [hPre_finite_rope_weights : Cert.Pre_finite_rope_weights.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_rope_weights.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).1 = (fun _ => 1#1)
    ∧ (Cert.Pre_finite_rope_weights.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_ones [hKernelIdeal : Cert.KernelIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_ones [hReferenceIdeal : Cert.ReferenceIdeal.Facts] [hPre_finite_and_ones : Cert.Pre_finite_and_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Kernel7Ideal_pre_finite_rope_weights [hKernel7Ideal : Cert.Kernel7Ideal.Facts] [hPre_finite_rope_weights : Cert.Pre_finite_rope_weights.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_rope_weights m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Reference7Ideal_pre_finite_rope_weights [hReference7Ideal : Cert.Reference7Ideal.Facts] [hPre_finite_rope_weights : Cert.Pre_finite_rope_weights.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_rope_weights m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  True

def algebraic_KernelIdeal_ReferenceIdeal_pre_finite_and_ones [hKernelIdeal : Cert.KernelIdeal.Facts] [hReferenceIdeal : Cert.ReferenceIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_rope_weights [hKernel7Ideal : Cert.Kernel7Ideal.Facts] [hReference7Ideal : Cert.Reference7Ideal.Facts] [hPre_finite_rope_weights : Cert.Pre_finite_rope_weights.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_rope_weights m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v14_0)) (v1 : (c : Dev Cert.Kernel7Ideal.nD) → Buf (Elt Ideal) ((c.tc : Thread Cert.Kernel7Ideal.nD Cert.Kernel7Ideal.τ).loc Cert.Kernel7Ideal.main_v14_1)) (v2 : (c : Dev Cert.Kernel7Ideal.nD) → Buf (Elt Ideal) ((c.tc : Thread Cert.Kernel7Ideal.nD Cert.Kernel7Ideal.τ).loc Cert.Kernel7Ideal.main_v14_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14_0) = v0 c
          ∧ r.2.mem ((c.tc : Thread Cert.Kernel7Ideal.nD Cert.Kernel7Ideal.τ).loc Cert.Kernel7Ideal.main_v14_1) = v1 c
          ∧ r.2.mem ((c.tc : Thread Cert.Kernel7Ideal.nD Cert.Kernel7Ideal.τ).loc Cert.Kernel7Ideal.main_v14_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v96) = v0 c
          ∧ r.2.mem ((c.tc : Thread Cert.Reference7Ideal.nD Cert.Reference7Ideal.τ).loc Cert.Reference7Ideal.main_v97) = v1 c
          ∧ r.2.mem ((c.tc : Thread Cert.Reference7Ideal.nD Cert.Reference7Ideal.τ).loc Cert.Reference7Ideal.main_v98) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_and_ones : Cert.Pre_finite_and_ones.Facts) (hPre_finite_rope_weights : Cert.Pre_finite_rope_weights.Facts),
    quiescent_Kernel (hKernel := hKernel)
    ∧ quiescent_KernelIdeal (hKernelIdeal := hKernelIdeal)
    ∧ quiescent_KernelIdeal_pre_finite_and_ones (hKernelIdeal := hKernelIdeal) (hPre_finite_and_ones := hPre_finite_and_ones)
    ∧ quiescent_ReferenceIdeal (hReferenceIdeal := hReferenceIdeal)
    ∧ quiescent_ReferenceIdeal_pre_finite_and_ones (hReferenceIdeal := hReferenceIdeal) (hPre_finite_and_ones := hPre_finite_and_ones)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_rope_weights (hKernel7Ideal := hKernel7Ideal) (hPre_finite_rope_weights := hPre_finite_rope_weights)
    ∧ quiescent_Reference7Ideal (hReference7Ideal := hReference7Ideal)
    ∧ quiescent_Reference7Ideal_pre_finite_rope_weights (hReference7Ideal := hReference7Ideal) (hPre_finite_rope_weights := hPre_finite_rope_weights)
    ∧ preserves_Kernel_KernelIdeal
    ∧ algebraic_KernelIdeal_ReferenceIdeal_pre_finite_and_ones (hKernelIdeal := hKernelIdeal) (hReferenceIdeal := hReferenceIdeal) (hPre_finite_and_ones := hPre_finite_and_ones)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_rope_weights (hKernel7Ideal := hKernel7Ideal) (hReference7Ideal := hReference7Ideal) (hPre_finite_rope_weights := hPre_finite_rope_weights)
-- ==== Pre_finite_and_ones.lean ====
abbrev S4096x8192 : Shape := ⟨2, ![4096, 8192]⟩
abbrev S8192x4096 : Shape := ⟨2, ![8192, 4096]⟩
abbrev S16x2304x512 : Shape := ⟨3, ![16, 2304, 512]⟩
abbrev S4x2048x8192 : Shape := ⟨3, ![4, 2048, 8192]⟩
abbrev S4x8192x2048 : Shape := ⟨3, ![4, 8192, 2048]⟩
abbrev S16x16x144x512 : Shape := ⟨4, ![16, 16, 144, 512]⟩
abbrev S16x16x1x512 : Shape := ⟨4, ![16, 16, 1, 512]⟩
abbrev S16x16x512 : Shape := ⟨3, ![16, 16, 512]⟩
abbrev S_ : Shape := ⟨0, ![]⟩

class Facts : Prop where
  bitsLt_bf16_f32 : FTy.bits .bf16 < FTy.bits .f32
  shapeCasts_S16x2304x512_S16x16x144x512 : S16x2304x512.ShapeCasts S16x16x144x512
  slices_S16x16x144x512_S16x16x1x512_0_0_128_0 : S16x16x144x512.Slices ![0, 0, 128, 0] S16x16x1x512
  shapeCasts_S16x16x1x512_S16x16x512 : S16x16x1x512.ShapeCasts S16x16x512
  bcast_S_S4096x8192 : S_.BroadcastsInDim S4096x8192 (![] : Fin 0 → Fin S4096x8192.rank)
  bcast_S_S8192x4096 : S_.BroadcastsInDim S8192x4096 (![] : Fin 0 → Fin S8192x4096.rank)
  bcast_S_S16x16x512 : S_.BroadcastsInDim S16x16x512 (![] : Fin 0 → Fin S16x16x512.rank)

variable [Facts]

def fn {F : FTy → Type} [FloatOps F] (main_arg0 : FVec F S4096x8192 .bf16) (main_arg1 : FVec F S8192x4096 .bf16) (main_arg2 : FVec F S16x2304x512 .bf16) (main_arg3 : FVec F S4x2048x8192 .f32) (main_arg4 : FVec F S4x8192x2048 .f32) : IVec S4096x8192 1 × IVec S8192x4096 1 × IVec S16x16x512 1 :=
  let main_v0 : FVec F S16x2304x512 .f32 := (extf .f32 · bitsLt_bf16_f32) main_arg2
  let main_v1 : FVec F S16x16x144x512 .f32 := shapeCast S16x16x144x512 main_v0 shapeCasts_S16x2304x512_S16x16x144x512
  let main_v2 : FVec F S16x16x1x512 .f32 := (extractStridedSlice S16x16x1x512 ![0, 0, 128, 0] · slices_S16x16x144x512_S16x16x1x512_0_0_128_0) main_v1
  let main_v3 : FVec F S16x16x512 .f32 := shapeCast S16x16x512 main_v2 shapeCasts_S16x16x1x512_S16x16x512
  let main_v4 : FVec F S4096x8192 .f32 := (extf .f32 · bitsLt_bf16_f32) main_arg0
  let main_v5 : FVec F S4096x8192 .f32 := Host.absf main_v4
  let main_cst : FVec F S_ .f32 := constant S_ .f32 0x7F800000#32
  let main_v6 : FVec F S4096x8192 .f32 := broadcastInDim S4096x8192 ![] bcast_S_S4096x8192 main_cst
  let main_v7 : IVec S4096x8192 1 := cmpf .olt main_v5 main_v6
  let main_v8 : FVec F S8192x4096 .f32 := (extf .f32 · bitsLt_bf16_f32) main_arg1
  let main_v9 : FVec F S8192x4096 .f32 := Host.absf main_v8
  let main_cst_0 : FVec F S_ .f32 := constant S_ .f32 0x7F800000#32
  let main_v10 : FVec F S8192x4096 .f32 := broadcastInDim S8192x4096 ![] bcast_S_S8192x4096 main_cst_0
  let main_v11 : IVec S8192x4096 1 := cmpf .olt main_v9 main_v10
  let main_cst_1 : FVec F S_ .f32 := constant S_ .f32 0x3F800000#32
  let main_v12 : FVec F S16x16x512 .f32 := broadcastInDim S16x16x512 ![] bcast_S_S16x16x512 main_cst_1
  let main_v13 : IVec S16x16x512 1 := cmpf .oeq main_v3 main_v12
  (main_v7, main_v11, main_v13)
-- ==== Pre_finite_rope_weights.lean ====
abbrev S8192x2048 : Shape := ⟨2, ![8192, 2048]⟩
abbrev S1x2048 : Shape := ⟨2, ![1, 2048]⟩
abbrev S32x8192 : Shape := ⟨2, ![32, 8192]⟩
abbrev S2x2048x1088 : Shape := ⟨3, ![2, 2048, 1088]⟩
abbrev S1x512 : Shape := ⟨2, ![1, 512]⟩
abbrev S2x512x3072 : Shape := ⟨3, ![2, 512, 3072]⟩
abbrev S2x512x4096 : Shape := ⟨3, ![2, 512, 4096]⟩
abbrev S_ : Shape := ⟨0, ![]⟩
abbrev S1x2048x32 : Shape := ⟨3, ![1, 2048, 32]⟩
abbrev S2048x32 : Shape := ⟨2, ![2048, 32]⟩

class Facts : Prop where
  bcast_S_S1x2048 : S_.BroadcastsInDim S1x2048 (![] : Fin 0 → Fin S1x2048.rank)
  slices_S2x2048x1088_S1x2048x32_1_0_1056 : S2x2048x1088.Slices ![1, 0, 1056] S1x2048x32
  shapeCasts_S1x2048x32_S2048x32 : S1x2048x32.ShapeCasts S2048x32
  bcast_S_S2048x32 : S_.BroadcastsInDim S2048x32 (![] : Fin 0 → Fin S2048x32.rank)

variable [Facts]

def fn {F : FTy → Type} [FloatOps F] (main_arg0 : FVec F S8192x2048 .f32) (main_arg1 : FVec F S1x2048 .f32) (main_arg2 : FVec F S32x8192 .f32) (main_arg3 : FVec F S32x8192 .f32) (main_arg4 : FVec F S2x2048x1088 .f32) (main_arg5 : FVec F S1x512 .f32) (main_arg6 : FVec F S1x512 .f32) (main_arg7 : FVec F S2x512x3072 .f32) (main_arg8 : FVec F S2x512x4096 .f32) : IVec S1x2048 1 × IVec S2048x32 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x2048x32 .f32 := (extractStridedSlice S1x2048x32 ![1, 0, 1056] · slices_S2x2048x1088_S1x2048x32_1_0_1056) main_arg4
  let main_v4 : FVec F S2048x32 .f32 := shapeCast S2048x32 main_v3 shapeCasts_S1x2048x32_S2048x32
  let main_v5 : FVec F S2048x32 .f32 := Host.absf main_v4
  let main_cst_0 : FVec F S_ .f32 := constant S_ .f32 0x7F800000#32
  let main_v6 : FVec F S2048x32 .f32 := broadcastInDim S2048x32 ![] bcast_S_S2048x32 main_cst_0
  let main_v7 : IVec S2048x32 1 := cmpf .olt main_v5 main_v6
  (main_v2, main_v7)
-- ==== Kernel.lean ====
abbrev S4096x8192 : Shape := ⟨2, ![4096, 8192]⟩
abbrev S8192x4096 : Shape := ⟨2, ![8192, 4096]⟩
abbrev S16x2304x512 : Shape := ⟨3, ![16, 2304, 512]⟩
abbrev S4x2048x8192 : Shape := ⟨3, ![4, 2048, 8192]⟩
abbrev S4x8192x2048 : Shape := ⟨3, ![4, 8192, 2048]⟩
abbrev S8192x2048 : Shape := ⟨2, ![8192, 2048]⟩
abbrev S2048x8192 : Shape := ⟨2, ![2048, 8192]⟩
abbrev S1024x512 : Shape := ⟨2, ![1024, 512]⟩
abbrev S4096x1024 : Shape := ⟨2, ![4096, 1024]⟩
abbrev S8x576x512 : Shape := ⟨3, ![8, 576, 512]⟩
abbrev S1x32x8192 : Shape := ⟨3, ![1, 32, 8192]⟩
abbrev S1x128x2048 : Shape := ⟨3, ![1, 128, 2048]⟩
abbrev S512x512 : Shape := ⟨2, ![512, 512]⟩
abbrev S32x8192 : Shape := ⟨2, ![32, 8192]⟩
abbrev S128x2048 : Shape := ⟨2, ![128, 2048]⟩
abbrev S2x4x512x512 : Shape := ⟨4, ![2, 4, 512, 512]⟩
abbrev S4x1x512 : Shape := ⟨3, ![4, 1, 512]⟩
abbrev S4x144x512 : Shape := ⟨3, ![4, 144, 512]⟩
abbrev S512x256 : Shape := ⟨2, ![512, 256]⟩
abbrev S256x512 : Shape := ⟨2, ![256, 512]⟩
abbrev S1x1x512x512 : Shape := ⟨4, ![1, 1, 512, 512]⟩
abbrev S1x1x512 : Shape := ⟨3, ![1, 1, 512]⟩
abbrev S1x512 : Shape := ⟨2, ![1, 512]⟩
abbrev S512 : Shape := ⟨1, ![512]⟩
abbrev S1x144x512 : Shape := ⟨3, ![1, 144, 512]⟩
abbrev S144x512 : Shape := ⟨2, ![144, 512]⟩
abbrev S128x512 : Shape := ⟨2, ![128, 512]⟩
abbrev S512x128 : Shape := ⟨2, ![512, 128]⟩

abbrev nBuf : Space → Nat
  | .hbm => 8
  | .vmem => 21
  | .smem => 0
  | _ => 0

abbrev bufTy : (tb : Table) → Fin (tcTables nBuf tb) → BufTy
  | .hbm, ⟨0, _⟩ => ⟨S4096x8192, .bf16⟩
  | .hbm, ⟨1, _⟩ => ⟨S8192x4096, .bf16⟩
  | .hbm, ⟨2, _⟩ => ⟨S16x2304x512, .bf16⟩
  | .hbm, ⟨3, _⟩ => ⟨S4x2048x8192, .f32⟩
  | .hbm, ⟨4, _⟩ => ⟨S4x8192x2048, .f32⟩
  | .hbm, ⟨5, _⟩ => ⟨S8192x2048, .bf16⟩
  | .hbm, ⟨6, _⟩ => ⟨S2048x8192, .bf16⟩
  | .hbm, ⟨7, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S4096x1024, .bf16⟩
  | .local _ .vmem, ⟨5, _⟩ => ⟨S4096x1024, .bf16⟩
  | .local _ .vmem, ⟨6, _⟩ => ⟨S8x576x512, .bf16⟩
  | .local _ .vmem, ⟨7, _⟩ => ⟨S8x576x512, .bf16⟩
  | .local _ .vmem, ⟨8, _⟩ => ⟨S1x32x8192, .f32⟩
  | .local _ .vmem, ⟨9, _⟩ => ⟨S1x32x8192, .f32⟩
  | .local _ .vmem, ⟨10, _⟩ => ⟨S1x128x2048, .f32⟩
  | .local _ .vmem, ⟨11, _⟩ => ⟨S1x128x2048, .f32⟩
  | .local _ .vmem, ⟨12, _⟩ => ⟨S512x512, .bf16⟩
  | .local _ .vmem, ⟨13, _⟩ => ⟨S512x512, .bf16⟩
  | .local _ .vmem, ⟨14, _⟩ => ⟨S32x8192, .bf16⟩
  | .local _ .vmem, ⟨15, _⟩ => ⟨S32x8192, .bf16⟩
  | .local _ .vmem, ⟨16, _⟩ => ⟨S128x2048, .bf16⟩
  | .local _ .vmem, ⟨17, _⟩ => ⟨S128x2048, .bf16⟩
  | .local _ .vmem, ⟨18, _⟩ => ⟨S2x4x512x512, .f32⟩
  | .local _ .vmem, ⟨19, _⟩ => ⟨S4x1x512, .f32⟩
  | .local _ .vmem, ⟨20, _⟩ => ⟨S4x144x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 8], ![false, false, false]⟩

def k0_cond1 (i : grid0.Coords) : BitVec 1 :=
  let arg2 : BitVec 32 := BitVec.ofNat 32 (i 2).val
  let c0_i32 : BitVec 32 := 0#32
  let v16 : BitVec 1 := Scalar.cmpi .eq arg2 c0_i32
  let v17 : BitVec 32 := Scalar.extui v16
  let c0_i32_16 : BitVec 32 := 0#32
  let v18 : BitVec 1 := Scalar.cmpi .ne v17 c0_i32_16
  v18

def k0_mult1 : BitVec 32 :=
  let c0_i32_64 : BitVec 32 := 0#32
  c0_i32_64
def k0_mult2 : BitVec 32 :=
  let c0_i32_73 : BitVec 32 := 0#32
  c0_i32_73
def k0_mult3 : BitVec 32 :=
  let c0_i32_80 : BitVec 32 := 0#32
  c0_i32_80
def k0_mult4 : BitVec 32 :=
  let c0_i32_87 : BitVec 32 := 0#32
  c0_i32_87
@[reducible] def k0_t1_loop (i : grid0.Coords) : Scf.Loop 32 :=
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_25 : BitVec 32 := 1#32
  ⟨c0_i32_23, v40, c1_i32_25⟩
def k0_mult5 (i : grid0.Coords) (k0_t1 : Fin (k0_t1_loop i).trips) : BitVec 32 :=
  let c2_i32_64 : BitVec 32 := 2#32
  let c0_i32_23 : BitVec 32 := 0#32
  let c1_i32_25 : BitVec 32 := 1#32
  let arg15 : BitVec 32 := Scf.iv c0_i32_23 c1_i32_25 k0_t1
  let v131 : BitVec 32 := Scalar.muli c2_i32_64 arg15
  let c1_i32_65 : BitVec 32 := 1#32
  let v132 : BitVec 32 := Scalar.addi v131 c1_i32_65
  let c512_i32 : BitVec 32 := 512#32
  let v133 : BitVec 32 := Scalar.muli v132 c512_i32
  v133
def k0_off1 (i : grid0.Coords) (k0_t1 : Fin (k0_t1_loop i).trips) : Fin 2 → Nat :=
  let c2_i32_64 : BitVec 32 := 2#32
  let c0_i32_23 : BitVec 32 := 0#32
  let c1_i32_25 : BitVec 32 := 1#32
  let arg15 : BitVec 32 := Scf.iv c0_i32_23 c1_i32_25 k0_t1
  let v131 : BitVec 32 := Scalar.muli c2_i32_64 arg15
  let c1_i32_65 : BitVec 32 := 1#32
  let v132 : BitVec 32 := Scalar.addi v131 c1_i32_65
  let c512_i32 : BitVec 32 := 512#32
  let v133 : BitVec 32 := Scalar.muli v132 c512_i32
  let v134 : BitVec 32 := v133
  let v135 : Index := Scalar.indexCast v134
  let c0_66 : Index := 0#32
  ![v135.toNat, 0]
def k0_off2 (i : grid0.Coords) (k0_t1 : Fin (k0_t1_loop i).trips) : Fin 3 → Nat :=
  let c2_i32_64 : BitVec 32 := 2#32
  let c0_i32_23 : BitVec 32 := 0#32
  let c1_i32_25 : BitVec 32 := 1#32
  let arg15 : BitVec 32 := Scf.iv c0_i32_23 c1_i32_25 k0_t1
  let v131 : BitVec 32 := Scalar.muli c2_i32_64 arg15
  let c1_i32_84 : BitVec 32 := 1#32
  let v158 : BitVec 32 := Scalar.muli v131 c1_i32_84
  let v159 : Index := Scalar.indexCast v158
  let c0_85 : Index := 0#32
  let c0_86 : Index := 0#32
  ![v159.toNat, 0, 0]
def k0_mult6 (i : grid0.Coords) (k0_t1 : Fin (k0_t1_loop i).trips) : BitVec 32 :=
  let c2_i32_64 : BitVec 32 := 2#32
  let c0_i32_23 : BitVec 32 := 0#32
  let c1_i32_25 : BitVec 32 := 1#32
  let arg15 : BitVec 32 := Scf.iv c0_i32_23 c1_i32_25 k0_t1
  let v131 : BitVec 32 := Scalar.muli c2_i32_64 arg15
  let c1_i32_94 : BitVec 32 := 1#32
  let v171 : BitVec 32 := Scalar.addi v131 c1_i32_94
  let c512_i32_95 : BitVec 32 := 512#32
  let v172 : BitVec 32 := Scalar.muli v171 c512_i32_95
  v172
def k0_off3 (i : grid0.Coords) (k0_t1 : Fin (k0_t1_loop i).trips) : Fin 2 → Nat :=
  let c2_i32_64 : BitVec 32 := 2#32
  let c0_i32_23 : BitVec 32 := 0#32
  let c1_i32_25 : BitVec 32 := 1#32
  let arg15 : BitVec 32 := Scf.iv c0_i32_23 c1_i32_25 k0_t1
  let v131 : BitVec 32 := Scalar.muli c2_i32_64 arg15
  let c1_i32_94 : BitVec 32 := 1#32
  let v171 : BitVec 32 := Scalar.addi v131 c1_i32_94
  let c512_i32_95 : BitVec 32 := 512#32
  let v172 : BitVec 32 := Scalar.muli v171 c512_i32_95
  let v173 : BitVec 32 := v172
  let v174 : Index := Scalar.indexCast v173
  let c256 : Index := 256#32
  ![v174.toNat, 256]
def k0_off4 (i : grid0.Coords) (k0_t1 : Fin (k0_t1_loop i).trips) : Fin 3 → Nat :=
  let c2_i32_64 : BitVec 32 := 2#32
  let c0_i32_23 : BitVec 32 := 0#32
  let c1_i32_25 : BitVec 32 := 1#32
  let arg15 : BitVec 32 := Scf.iv c0_i32_23 c1_i32_25 k0_t1
  let v131 : BitVec 32 := Scalar.muli c2_i32_64 arg15
  let c1_i32_114 : BitVec 32 := 1#32
  let v197 : BitVec 32 := Scalar.muli v131 c1_i32_114
  let v198 : Index := Scalar.indexCast v197
  let c144 : Index := 144#32
  let c0_115 : Index := 0#32
  ![v198.toNat, 144, 0]
def k0_mult7 (i : grid0.Coords) (k0_t1 : Fin (k0_t1_loop i).trips) : BitVec 32 :=
  let c2_i32_64 : BitVec 32 := 2#32
  let c0_i32_23 : BitVec 32 := 0#32
  let c1_i32_25 : BitVec 32 := 1#32
  let arg15 : BitVec 32 := Scf.iv c0_i32_23 c1_i32_25 k0_t1
  let v131 : BitVec 32 := Scalar.muli c2_i32_64 arg15
  let c1_i32_123 : BitVec 32 := 1#32
  let v210 : BitVec 32 := Scalar.addi v131 c1_i32_123
  let c512_i32_124 : BitVec 32 := 512#32
  let v211 : BitVec 32 := Scalar.muli v210 c512_i32_124
  v211
def k0_off5 (i : grid0.Coords) (k0_t1 : Fin (k0_t1_loop i).trips) : Fin 2 → Nat :=
  let c2_i32_64 : BitVec 32 := 2#32
  let c0_i32_23 : BitVec 32 := 0#32
  let c1_i32_25 : BitVec 32 := 1#32
  let arg15 : BitVec 32 := Scf.iv c0_i32_23 c1_i32_25 k0_t1
  let v131 : BitVec 32 := Scalar.muli c2_i32_64 arg15
  let c1_i32_123 : BitVec 32 := 1#32
  let v210 : BitVec 32 := Scalar.addi v131 c1_i32_123
  let c512_i32_124 : BitVec 32 := 512#32
  let v211 : BitVec 32 := Scalar.muli v210 c512_i32_124
  let v212 : BitVec 32 := v211
  let v213 : Index := Scalar.indexCast v212
  let c512 : Index := 512#32
  ![v213.toNat, 512]
def k0_off6 (i : grid0.Coords) (k0_t1 : Fin (k0_t1_loop i).trips) : Fin 3 → Nat :=
  let c2_i32_64 : BitVec 32 := 2#32
  let c0_i32_23 : BitVec 32 := 0#32
  let c1_i32_25 : BitVec 32 := 1#32
  let arg15 : BitVec 32 := Scf.iv c0_i32_23 c1_i32_25 k0_t1
  let v131 : BitVec 32 := Scalar.muli c2_i32_64 arg15
  let c1_i32_142 : BitVec 32 := 1#32
  let v236 : BitVec 32 := Scalar.muli v131 c1_i32_142
  let v237 : Index := Scalar.indexCast v236
  let c288 : Index := 288#32
  let c0_143 : Index := 0#32
  ![v237.toNat, 288, 0]
def k0_mult8 (i : grid0.Coords) (k0_t1 : Fin (k0_t1_loop i).trips) : BitVec 32 :=
  let c2_i32_64 : BitVec 32 := 2#32
  let c0_i32_23 : BitVec 32 := 0#32
  let c1_i32_25 : BitVec 32 := 1#32
  let arg15 : BitVec 32 := Scf.iv c0_i32_23 c1_i32_25 k0_t1
  let v131 : BitVec 32 := Scalar.muli c2_i32_64 arg15
  let c1_i32_151 : BitVec 32 := 1#32
  let v249 : BitVec 32 := Scalar.addi v131 c1_i32_151
  let c512_i32_152 : BitVec 32 := 512#32
  let v250 : BitVec 32 := Scalar.muli v249 c512_i32_152
  v250
def k0_off7 (i : grid0.Coords) (k0_t1 : Fin (k0_t1_loop i).trips) : Fin 2 → Nat :=
  let c2_i32_64 : BitVec 32 := 2#32
  let c0_i32_23 : BitVec 32 := 0#32
  let c1_i32_25 : BitVec 32 := 1#32
  let arg15 : BitVec 32 := Scf.iv c0_i32_23 c1_i32_25 k0_t1
  let v131 : BitVec 32 := Scalar.muli c2_i32_64 arg15
  let c1_i32_151 : BitVec 32 := 1#32
  let v249 : BitVec 32 := Scalar.addi v131 c1_i32_151
  let c512_i32_152 : BitVec 32 := 512#32
  let v250 : BitVec 32 := Scalar.muli v249 c512_i32_152
  let v251 : BitVec 32 := v250
  let v252 : Index := Scalar.indexCast v251
  let c768 : Index := 768#32
  ![v252.toNat, 768]
def k0_off8 (i : grid0.Coords) (k0_t1 : Fin (k0_t1_loop i).trips) : Fin 3 → Nat :=
  let c2_i32_64 : BitVec 32 := 2#32
  let c0_i32_23 : BitVec 32 := 0#32
  let c1_i32_25 : BitVec 32 := 1#32
  let arg15 : BitVec 32 := Scf.iv c0_i32_23 c1_i32_25 k0_t1
  let v131 : BitVec 32 := Scalar.muli c2_i32_64 arg15
  let c1_i32_170 : BitVec 32 := 1#32
  let v275 : BitVec 32 := Scalar.muli v131 c1_i32_170
  let v276 : Index := Scalar.indexCast v275
  let c432 : Index := 432#32
  let c0_171 : Index := 0#32
  ![v276.toNat, 432, 0]
def k0_mult9 (i : grid0.Coords) (k0_t1 : Fin (k0_t1_loop i).trips) : BitVec 32 :=
  let c2_i32_179 : BitVec 32 := 2#32
  let c0_i32_23 : BitVec 32 := 0#32
  let c1_i32_25 : BitVec 32 := 1#32
  let arg15 : BitVec 32 := Scf.iv c0_i32_23 c1_i32_25 k0_t1
  let v288 : BitVec 32 := Scalar.muli c2_i32_179 arg15
  let c1_i32_180 : BitVec 32 := 1#32
  let v289 : BitVec 32 := Scalar.addi v288 c1_i32_180
  let c1_i32_181 : BitVec 32 := 1#32
  let v290 : BitVec 32 := Scalar.addi v289 c1_i32_181
  let c512_i32_182 : BitVec 32 := 512#32
  let v291 : BitVec 32 := Scalar.muli v290 c512_i32_182
  v291
def k0_off9 (i : grid0.Coords) (k0_t1 : Fin (k0_t1_loop i).trips) : Fin 2 → Nat :=
  let c2_i32_179 : BitVec 32 := 2#32
  let c0_i32_23 : BitVec 32 := 0#32
  let c1_i32_25 : BitVec 32 := 1#32
  let arg15 : BitVec 32 := Scf.iv c0_i32_23 c1_i32_25 k0_t1
  let v288 : BitVec 32 := Scalar.muli c2_i32_179 arg15
  let c1_i32_180 : BitVec 32 := 1#32
  let v289 : BitVec 32 := Scalar.addi v288 c1_i32_180
  let c1_i32_181 : BitVec 32 := 1#32
  let v290 : BitVec 32 := Scalar.addi v289 c1_i32_181
  let c512_i32_182 : BitVec 32 := 512#32
  let v291 : BitVec 32 := Scalar.muli v290 c512_i32_182
  let v292 : BitVec 32 := v291
  let v293 : Index := Scalar.indexCast v292
  let c0_183 : Index := 0#32
  ![v293.toNat, 0]
def k0_off10 (i : grid0.Coords) (k0_t1 : Fin (k0_t1_loop i).trips) : Fin 3 → Nat :=
  let c2_i32_179 : BitVec 32 := 2#32
  let c0_i32_23 : BitVec 32 := 0#32
  let c1_i32_25 : BitVec 32 := 1#32
  let arg15 : BitVec 32 := Scf.iv c0_i32_23 c1_i32_25 k0_t1
  let v288 : BitVec 32 := Scalar.muli c2_i32_179 arg15
  let c1_i32_180 : BitVec 32 := 1#32
  let v289 : BitVec 32 := Scalar.addi v288 c1_i32_180
  let c1_i32_202 : BitVec 32 := 1#32
  let v316 : BitVec 32 := Scalar.muli v289 c1_i32_202
  let v317 : Index := Scalar.indexCast v316
  let c0_203 : Index := 0#32
  let c0_204 : Index := 0#32
  ![v317.toNat, 0, 0]
def k0_mult10 (i : grid0.Coords) (k0_t1 : Fin (k0_t1_loop i).trips) : BitVec 32 :=
  let c2_i32_179 : BitVec 32 := 2#32
  let c0_i32_23 : BitVec 32 := 0#32
  let c1_i32_25 : BitVec 32 := 1#32
  let arg15 : BitVec 32 := Scf.iv c0_i32_23 c1_i32_25 k0_t1
  let v288 : BitVec 32 := Scalar.muli c2_i32_179 arg15
  let c1_i32_180 : BitVec 32 := 1#32
  let v289 : BitVec 32 := Scalar.addi v288 c1_i32_180
  let c1_i32_212 : BitVec 32 := 1#32
  let v329 : BitVec 32 := Scalar.addi v289 c1_i32_212
  let c512_i32_213 : BitVec 32 := 512#32
  let v330 : BitVec 32 := Scalar.muli v329 c512_i32_213
  v330
def k0_off11 (i : grid0.Coords) (k0_t1 : Fin (k0_t1_loop i).trips) : Fin 2 → Nat :=
  let c2_i32_179 : BitVec 32 := 2#32
  let c0_i32_23 : BitVec 32 := 0#32
  let c1_i32_25 : BitVec 32 := 1#32
  let arg15 : BitVec 32 := Scf.iv c0_i32_23 c1_i32_25 k0_t1
  let v288 : BitVec 32 := Scalar.muli c2_i32_179 arg15
  let c1_i32_180 : BitVec 32 := 1#32
  let v289 : BitVec 32 := Scalar.addi v288 c1_i32_180
  let c1_i32_212 : BitVec 32 := 1#32
  let v329 : BitVec 32 := Scalar.addi v289 c1_i32_212
  let c512_i32_213 : BitVec 32 := 512#32
  let v330 : BitVec 32 := Scalar.muli v329 c512_i32_213
  let v331 : BitVec 32 := v330
  let v332 : Index := Scalar.indexCast v331
  let c256_214 : Index := 256#32
  ![v332.toNat, 256]
def k0_off12 (i : grid0.Coords) (k0_t1 : Fin (k0_t1_loop i).trips) : Fin 3 → Nat :=
  let c2_i32_179 : BitVec 32 := 2#32
  let c0_i32_23 : BitVec 32 := 0#32
  let c1_i32_25 : BitVec 32 := 1#32
  let arg15 : BitVec 32 := Scf.iv c0_i32_23 c1_i32_25 k0_t1
  let v288 : BitVec 32 := Scalar.muli c2_i32_179 arg15
  let c1_i32_180 : BitVec 32 := 1#32
  let v289 : BitVec 32 := Scalar.addi v288 c1_i32_180
  let c1_i32_233 : BitVec 32 := 1#32
  let v355 : BitVec 32 := Scalar.muli v289 c1_i32_233
  let v356 : Index := Scalar.indexCast v355
  let c144_234 : Index := 144#32
  let c0_235 : Index := 0#32
  ![v356.toNat, 144, 0]
def k0_mult11 (i : grid0.Coords) (k0_t1 : Fin (k0_t1_loop i).trips) : BitVec 32 :=
  let c2_i32_179 : BitVec 32 := 2#32
  let c0_i32_23 : BitVec 32 := 0#32
  let c1_i32_25 : BitVec 32 := 1#32
  let arg15 : BitVec 32 := Scf.iv c0_i32_23 c1_i32_25 k0_t1
  let v288 : BitVec 32 := Scalar.muli c2_i32_179 arg15
  let c1_i32_180 : BitVec 32 := 1#32
  let v289 : BitVec 32 := Scalar.addi v288 c1_i32_180
  let c1_i32_243 : BitVec 32 := 1#32
  let v368 : BitVec 32 := Scalar.addi v289 c1_i32_243
  let c512_i32_244 : BitVec 32 := 512#32
  let v369 : BitVec 32 := Scalar.muli v368 c512_i32_244
  v369
def k0_off13 (i : grid0.Coords) (k0_t1 : Fin (k0_t1_loop i).trips) : Fin 2 → Nat :=
  let c2_i32_179 : BitVec 32 := 2#32
  let c0_i32_23 : BitVec 32 := 0#32
  let c1_i32_25 : BitVec 32 := 1#32
  let arg15 : BitVec 32 := Scf.iv c0_i32_23 c1_i32_25 k0_t1
  let v288 : BitVec 32 := Scalar.muli c2_i32_179 arg15
  let c1_i32_180 : BitVec 32 := 1#32
  let v289 : BitVec 32 := Scalar.addi v288 c1_i32_180
  let c1_i32_243 : BitVec 32 := 1#32
  let v368 : BitVec 32 := Scalar.addi v289 c1_i32_243
  let c512_i32_244 : BitVec 32 := 512#32
  let v369 : BitVec 32 := Scalar.muli v368 c512_i32_244
  let v370 : BitVec 32 := v369
  let v371 : Index := Scalar.indexCast v370
  let c512_245 : Index := 512#32
  ![v371.toNat, 512]
def k0_off14 (i : grid0.Coords) (k0_t1 : Fin (k0_t1_loop i).trips) : Fin 3 → Nat :=
  let c2_i32_179 : BitVec 32 := 2#32
  let c0_i32_23 : BitVec 32 := 0#32
  let c1_i32_25 : BitVec 32 := 1#32
  let arg15 : BitVec 32 := Scf.iv c0_i32_23 c1_i32_25 k0_t1
  let v288 : BitVec 32 := Scalar.muli c2_i32_179 arg15
  let c1_i32_180 : BitVec 32 := 1#32
  let v289 : BitVec 32 := Scalar.addi v288 c1_i32_180
  let c1_i32_264 : BitVec 32 := 1#32
  let v394 : BitVec 32 := Scalar.muli v289 c1_i32_264
  let v395 : Index := Scalar.indexCast v394
  let c288_265 : Index := 288#32
  let c0_266 : Index := 0#32
  ![v395.toNat, 288, 0]
def k0_mult12 (i : grid0.Coords) (k0_t1 : Fin (k0_t1_loop i).trips) : BitVec 32 :=
  let c2_i32_179 : BitVec 32 := 2#32
  let c0_i32_23 : BitVec 32 := 0#32
  let c1_i32_25 : BitVec 32 := 1#32
  let arg15 : BitVec 32 := Scf.iv c0_i32_23 c1_i32_25 k0_t1
  let v288 : BitVec 32 := Scalar.muli c2_i32_179 arg15
  let c1_i32_180 : BitVec 32 := 1#32
  let v289 : BitVec 32 := Scalar.addi v288 c1_i32_180
  let c1_i32_274 : BitVec 32 := 1#32
  let v407 : BitVec 32 := Scalar.addi v289 c1_i32_274
  let c512_i32_275 : BitVec 32 := 512#32
  let v408 : BitVec 32 := Scalar.muli v407 c512_i32_275
  v408
def k0_off15 (i : grid0.Coords) (k0_t1 : Fin (k0_t1_loop i).trips) : Fin 2 → Nat :=
  let c2_i32_179 : BitVec 32 := 2#32
  let c0_i32_23 : BitVec 32 := 0#32
  let c1_i32_25 : BitVec 32 := 1#32
  let arg15 : BitVec 32 := Scf.iv c0_i32_23 c1_i32_25 k0_t1
  let v288 : BitVec 32 := Scalar.muli c2_i32_179 arg15
  let c1_i32_180 : BitVec 32 := 1#32
  let v289 : BitVec 32 := Scalar.addi v288 c1_i32_180
  let c1_i32_274 : BitVec 32 := 1#32
  let v407 : BitVec 32 := Scalar.addi v289 c1_i32_274
  let c512_i32_275 : BitVec 32 := 512#32
  let v408 : BitVec 32 := Scalar.muli v407 c512_i32_275
  let v409 : BitVec 32 := v408
  let v410 : Index := Scalar.indexCast v409
  let c768_276 : Index := 768#32
  ![v410.toNat, 768]
def k0_off16 (i : grid0.Coords) (k0_t1 : Fin (k0_t1_loop i).trips) : Fin 3 → Nat :=
  let c2_i32_179 : BitVec 32 := 2#32
  let c0_i32_23 : BitVec 32 := 0#32
  let c1_i32_25 : BitVec 32 := 1#32
  let arg15 : BitVec 32 := Scf.iv c0_i32_23 c1_i32_25 k0_t1
  let v288 : BitVec 32 := Scalar.muli c2_i32_179 arg15
  let c1_i32_180 : BitVec 32 := 1#32
  let v289 : BitVec 32 := Scalar.addi v288 c1_i32_180
  let c1_i32_295 : BitVec 32 := 1#32
  let v433 : BitVec 32 := Scalar.muli v289 c1_i32_295
  let v434 : Index := Scalar.indexCast v433
  let c432_296 : Index := 432#32
  let c0_297 : Index := 0#32
  ![v434.toNat, 432, 0]
@[reducible] def k0_t2_loop (i : grid0.Coords) : Scf.Loop 32 :=
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let v37 : BitVec 32 := Scalar.addi c0_i32_23 v36
  let c1_i32_26 : BitVec 32 := 1#32
  ⟨v40, v37, c1_i32_26⟩
def k0_mult13 (i : grid0.Coords) (k0_t2 : Fin (k0_t2_loop i).trips) : BitVec 32 :=
  let c2_i32_64 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v131 : BitVec 32 := Scalar.muli c2_i32_64 arg15
  let c1_i32_65 : BitVec 32 := 1#32
  let v132 : BitVec 32 := Scalar.addi v131 c1_i32_65
  let c512_i32 : BitVec 32 := 512#32
  let v133 : BitVec 32 := Scalar.muli v132 c512_i32
  v133
def k0_off17 (i : grid0.Coords) (k0_t2 : Fin (k0_t2_loop i).trips) : Fin 2 → Nat :=
  let c2_i32_64 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v131 : BitVec 32 := Scalar.muli c2_i32_64 arg15
  let c1_i32_65 : BitVec 32 := 1#32
  let v132 : BitVec 32 := Scalar.addi v131 c1_i32_65
  let c512_i32 : BitVec 32 := 512#32
  let v133 : BitVec 32 := Scalar.muli v132 c512_i32
  let v134 : BitVec 32 := v133
  let v135 : Index := Scalar.indexCast v134
  let c0_66 : Index := 0#32
  ![v135.toNat, 0]
def k0_off18 (i : grid0.Coords) (k0_t2 : Fin (k0_t2_loop i).trips) : Fin 3 → Nat :=
  let c2_i32_64 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v131 : BitVec 32 := Scalar.muli c2_i32_64 arg15
  let c1_i32_84 : BitVec 32 := 1#32
  let v158 : BitVec 32 := Scalar.muli v131 c1_i32_84
  let v159 : Index := Scalar.indexCast v158
  let c0_85 : Index := 0#32
  let c0_86 : Index := 0#32
  ![v159.toNat, 0, 0]
def k0_mult14 (i : grid0.Coords) (k0_t2 : Fin (k0_t2_loop i).trips) : BitVec 32 :=
  let c2_i32_64 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v131 : BitVec 32 := Scalar.muli c2_i32_64 arg15
  let c1_i32_94 : BitVec 32 := 1#32
  let v171 : BitVec 32 := Scalar.addi v131 c1_i32_94
  let c512_i32_95 : BitVec 32 := 512#32
  let v172 : BitVec 32 := Scalar.muli v171 c512_i32_95
  v172
def k0_off19 (i : grid0.Coords) (k0_t2 : Fin (k0_t2_loop i).trips) : Fin 2 → Nat :=
  let c2_i32_64 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v131 : BitVec 32 := Scalar.muli c2_i32_64 arg15
  let c1_i32_94 : BitVec 32 := 1#32
  let v171 : BitVec 32 := Scalar.addi v131 c1_i32_94
  let c512_i32_95 : BitVec 32 := 512#32
  let v172 : BitVec 32 := Scalar.muli v171 c512_i32_95
  let v173 : BitVec 32 := v172
  let v174 : Index := Scalar.indexCast v173
  let c256 : Index := 256#32
  ![v174.toNat, 256]
def k0_off20 (i : grid0.Coords) (k0_t2 : Fin (k0_t2_loop i).trips) : Fin 3 → Nat :=
  let c2_i32_64 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v131 : BitVec 32 := Scalar.muli c2_i32_64 arg15
  let c1_i32_114 : BitVec 32 := 1#32
  let v197 : BitVec 32 := Scalar.muli v131 c1_i32_114
  let v198 : Index := Scalar.indexCast v197
  let c144 : Index := 144#32
  let c0_115 : Index := 0#32
  ![v198.toNat, 144, 0]
def k0_mult15 (i : grid0.Coords) (k0_t2 : Fin (k0_t2_loop i).trips) : BitVec 32 :=
  let c2_i32_64 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v131 : BitVec 32 := Scalar.muli c2_i32_64 arg15
  let c1_i32_123 : BitVec 32 := 1#32
  let v210 : BitVec 32 := Scalar.addi v131 c1_i32_123
  let c512_i32_124 : BitVec 32 := 512#32
  let v211 : BitVec 32 := Scalar.muli v210 c512_i32_124
  v211
def k0_off21 (i : grid0.Coords) (k0_t2 : Fin (k0_t2_loop i).trips) : Fin 2 → Nat :=
  let c2_i32_64 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v131 : BitVec 32 := Scalar.muli c2_i32_64 arg15
  let c1_i32_123 : BitVec 32 := 1#32
  let v210 : BitVec 32 := Scalar.addi v131 c1_i32_123
  let c512_i32_124 : BitVec 32 := 512#32
  let v211 : BitVec 32 := Scalar.muli v210 c512_i32_124
  let v212 : BitVec 32 := v211
  let v213 : Index := Scalar.indexCast v212
  let c512 : Index := 512#32
  ![v213.toNat, 512]
def k0_off22 (i : grid0.Coords) (k0_t2 : Fin (k0_t2_loop i).trips) : Fin 3 → Nat :=
  let c2_i32_64 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v131 : BitVec 32 := Scalar.muli c2_i32_64 arg15
  let c1_i32_142 : BitVec 32 := 1#32
  let v236 : BitVec 32 := Scalar.muli v131 c1_i32_142
  let v237 : Index := Scalar.indexCast v236
  let c288 : Index := 288#32
  let c0_143 : Index := 0#32
  ![v237.toNat, 288, 0]
def k0_mult16 (i : grid0.Coords) (k0_t2 : Fin (k0_t2_loop i).trips) : BitVec 32 :=
  let c2_i32_64 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v131 : BitVec 32 := Scalar.muli c2_i32_64 arg15
  let c1_i32_151 : BitVec 32 := 1#32
  let v249 : BitVec 32 := Scalar.addi v131 c1_i32_151
  let c512_i32_152 : BitVec 32 := 512#32
  let v250 : BitVec 32 := Scalar.muli v249 c512_i32_152
  v250
def k0_off23 (i : grid0.Coords) (k0_t2 : Fin (k0_t2_loop i).trips) : Fin 2 → Nat :=
  let c2_i32_64 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v131 : BitVec 32 := Scalar.muli c2_i32_64 arg15
  let c1_i32_151 : BitVec 32 := 1#32
  let v249 : BitVec 32 := Scalar.addi v131 c1_i32_151
  let c512_i32_152 : BitVec 32 := 512#32
  let v250 : BitVec 32 := Scalar.muli v249 c512_i32_152
  let v251 : BitVec 32 := v250
  let v252 : Index := Scalar.indexCast v251
  let c768 : Index := 768#32
  ![v252.toNat, 768]
def k0_off24 (i : grid0.Coords) (k0_t2 : Fin (k0_t2_loop i).trips) : Fin 3 → Nat :=
  let c2_i32_64 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v131 : BitVec 32 := Scalar.muli c2_i32_64 arg15
  let c1_i32_170 : BitVec 32 := 1#32
  let v275 : BitVec 32 := Scalar.muli v131 c1_i32_170
  let v276 : Index := Scalar.indexCast v275
  let c432 : Index := 432#32
  let c0_171 : Index := 0#32
  ![v276.toNat, 432, 0]
def k0_mult17 (i : grid0.Coords) (k0_t2 : Fin (k0_t2_loop i).trips) : BitVec 32 :=
  let c2_i32_179 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v288 : BitVec 32 := Scalar.muli c2_i32_179 arg15
  let c1_i32_180 : BitVec 32 := 1#32
  let v289 : BitVec 32 := Scalar.addi v288 c1_i32_180
  let c1_i32_181 : BitVec 32 := 1#32
  let v290 : BitVec 32 := Scalar.addi v289 c1_i32_181
  let c512_i32_182 : BitVec 32 := 512#32
  let v291 : BitVec 32 := Scalar.muli v290 c512_i32_182
  v291
def k0_off25 (i : grid0.Coords) (k0_t2 : Fin (k0_t2_loop i).trips) : Fin 2 → Nat :=
  let c2_i32_179 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v288 : BitVec 32 := Scalar.muli c2_i32_179 arg15
  let c1_i32_180 : BitVec 32 := 1#32
  let v289 : BitVec 32 := Scalar.addi v288 c1_i32_180
  let c1_i32_181 : BitVec 32 := 1#32
  let v290 : BitVec 32 := Scalar.addi v289 c1_i32_181
  let c512_i32_182 : BitVec 32 := 512#32
  let v291 : BitVec 32 := Scalar.muli v290 c512_i32_182
  let v292 : BitVec 32 := v291
  let v293 : Index := Scalar.indexCast v292
  let c0_183 : Index := 0#32
  ![v293.toNat, 0]
def k0_off26 (i : grid0.Coords) (k0_t2 : Fin (k0_t2_loop i).trips) : Fin 3 → Nat :=
  let c2_i32_179 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v288 : BitVec 32 := Scalar.muli c2_i32_179 arg15
  let c1_i32_180 : BitVec 32 := 1#32
  let v289 : BitVec 32 := Scalar.addi v288 c1_i32_180
  let c1_i32_202 : BitVec 32 := 1#32
  let v316 : BitVec 32 := Scalar.muli v289 c1_i32_202
  let v317 : Index := Scalar.indexCast v316
  let c0_203 : Index := 0#32
  let c0_204 : Index := 0#32
  ![v317.toNat, 0, 0]
def k0_mult18 (i : grid0.Coords) (k0_t2 : Fin (k0_t2_loop i).trips) : BitVec 32 :=
  let c2_i32_179 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v288 : BitVec 32 := Scalar.muli c2_i32_179 arg15
  let c1_i32_180 : BitVec 32 := 1#32
  let v289 : BitVec 32 := Scalar.addi v288 c1_i32_180
  let c1_i32_212 : BitVec 32 := 1#32
  let v329 : BitVec 32 := Scalar.addi v289 c1_i32_212
  let c512_i32_213 : BitVec 32 := 512#32
  let v330 : BitVec 32 := Scalar.muli v329 c512_i32_213
  v330
def k0_off27 (i : grid0.Coords) (k0_t2 : Fin (k0_t2_loop i).trips) : Fin 2 → Nat :=
  let c2_i32_179 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v288 : BitVec 32 := Scalar.muli c2_i32_179 arg15
  let c1_i32_180 : BitVec 32 := 1#32
  let v289 : BitVec 32 := Scalar.addi v288 c1_i32_180
  let c1_i32_212 : BitVec 32 := 1#32
  let v329 : BitVec 32 := Scalar.addi v289 c1_i32_212
  let c512_i32_213 : BitVec 32 := 512#32
  let v330 : BitVec 32 := Scalar.muli v329 c512_i32_213
  let v331 : BitVec 32 := v330
  let v332 : Index := Scalar.indexCast v331
  let c256_214 : Index := 256#32
  ![v332.toNat, 256]
def k0_off28 (i : grid0.Coords) (k0_t2 : Fin (k0_t2_loop i).trips) : Fin 3 → Nat :=
  let c2_i32_179 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v288 : BitVec 32 := Scalar.muli c2_i32_179 arg15
  let c1_i32_180 : BitVec 32 := 1#32
  let v289 : BitVec 32 := Scalar.addi v288 c1_i32_180
  let c1_i32_233 : BitVec 32 := 1#32
  let v355 : BitVec 32 := Scalar.muli v289 c1_i32_233
  let v356 : Index := Scalar.indexCast v355
  let c144_234 : Index := 144#32
  let c0_235 : Index := 0#32
  ![v356.toNat, 144, 0]
def k0_mult19 (i : grid0.Coords) (k0_t2 : Fin (k0_t2_loop i).trips) : BitVec 32 :=
  let c2_i32_179 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v288 : BitVec 32 := Scalar.muli c2_i32_179 arg15
  let c1_i32_180 : BitVec 32 := 1#32
  let v289 : BitVec 32 := Scalar.addi v288 c1_i32_180
  let c1_i32_243 : BitVec 32 := 1#32
  let v368 : BitVec 32 := Scalar.addi v289 c1_i32_243
  let c512_i32_244 : BitVec 32 := 512#32
  let v369 : BitVec 32 := Scalar.muli v368 c512_i32_244
  v369
def k0_off29 (i : grid0.Coords) (k0_t2 : Fin (k0_t2_loop i).trips) : Fin 2 → Nat :=
  let c2_i32_179 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v288 : BitVec 32 := Scalar.muli c2_i32_179 arg15
  let c1_i32_180 : BitVec 32 := 1#32
  let v289 : BitVec 32 := Scalar.addi v288 c1_i32_180
  let c1_i32_243 : BitVec 32 := 1#32
  let v368 : BitVec 32 := Scalar.addi v289 c1_i32_243
  let c512_i32_244 : BitVec 32 := 512#32
  let v369 : BitVec 32 := Scalar.muli v368 c512_i32_244
  let v370 : BitVec 32 := v369
  let v371 : Index := Scalar.indexCast v370
  let c512_245 : Index := 512#32
  ![v371.toNat, 512]
def k0_off30 (i : grid0.Coords) (k0_t2 : Fin (k0_t2_loop i).trips) : Fin 3 → Nat :=
  let c2_i32_179 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v288 : BitVec 32 := Scalar.muli c2_i32_179 arg15
  let c1_i32_180 : BitVec 32 := 1#32
  let v289 : BitVec 32 := Scalar.addi v288 c1_i32_180
  let c1_i32_264 : BitVec 32 := 1#32
  let v394 : BitVec 32 := Scalar.muli v289 c1_i32_264
  let v395 : Index := Scalar.indexCast v394
  let c288_265 : Index := 288#32
  let c0_266 : Index := 0#32
  ![v395.toNat, 288, 0]
def k0_mult20 (i : grid0.Coords) (k0_t2 : Fin (k0_t2_loop i).trips) : BitVec 32 :=
  let c2_i32_179 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v288 : BitVec 32 := Scalar.muli c2_i32_179 arg15
  let c1_i32_180 : BitVec 32 := 1#32
  let v289 : BitVec 32 := Scalar.addi v288 c1_i32_180
  let c1_i32_274 : BitVec 32 := 1#32
  let v407 : BitVec 32 := Scalar.addi v289 c1_i32_274
  let c512_i32_275 : BitVec 32 := 512#32
  let v408 : BitVec 32 := Scalar.muli v407 c512_i32_275
  v408
def k0_off31 (i : grid0.Coords) (k0_t2 : Fin (k0_t2_loop i).trips) : Fin 2 → Nat :=
  let c2_i32_179 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v288 : BitVec 32 := Scalar.muli c2_i32_179 arg15
  let c1_i32_180 : BitVec 32 := 1#32
  let v289 : BitVec 32 := Scalar.addi v288 c1_i32_180
  let c1_i32_274 : BitVec 32 := 1#32
  let v407 : BitVec 32 := Scalar.addi v289 c1_i32_274
  let c512_i32_275 : BitVec 32 := 512#32
  let v408 : BitVec 32 := Scalar.muli v407 c512_i32_275
  let v409 : BitVec 32 := v408
  let v410 : Index := Scalar.indexCast v409
  let c768_276 : Index := 768#32
  ![v410.toNat, 768]
def k0_off32 (i : grid0.Coords) (k0_t2 : Fin (k0_t2_loop i).trips) : Fin 3 → Nat :=
  let c2_i32_179 : BitVec 32 := 2#32
  let c0_i32_23 : BitVec 32 := 0#32
  let arg2 : BitVec 32 := BitVec.ofNat 32 (i 2).val
  let c0_i32_17 : BitVec 32 := 0#32
  let v20 : BitVec 1 := Scalar.cmpi .sgt arg2 c0_i32_17
  let v21 : BitVec 32 := Scalar.extui v20
  let c0_i32_18 : BitVec 32 := 0#32
  let v22 : BitVec 1 := Scalar.cmpi .slt arg2 c0_i32_18
  let v23 : BitVec 32 := Scalar.extui v22
  let v24 : BitVec 32 := Scalar.subi v21 v23
  let c2_i32 : BitVec 32 := 2#32
  let c0_i32_19 : BitVec 32 := 0#32
  let v25 : BitVec 1 := Scalar.cmpi .sgt c2_i32 c0_i32_19
  let v26 : BitVec 32 := Scalar.extui v25
  let c0_i32_20 : BitVec 32 := 0#32
  let v27 : BitVec 1 := Scalar.cmpi .slt c2_i32 c0_i32_20
  let v28 : BitVec 32 := Scalar.extui v27
  let v29 : BitVec 32 := Scalar.subi v26 v28
  let v30 : BitVec 1 := Scalar.cmpi .ne v24 v29
  let v31 : BitVec 32 := Scalar.remsi arg2 c2_i32
  let c0_i32_21 : BitVec 32 := 0#32
  let v32 : BitVec 1 := Scalar.cmpi .ne v31 c0_i32_21
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_23
  let c1_i32_24 : BitVec 32 := 1#32
  let v38 : BitVec 32 := Scalar.divsi v36 c1_i32_24
  let v39 : BitVec 32 := Scalar.muli v38 c1_i32_24
  let v40 : BitVec 32 := Scalar.addi c0_i32_23 v39
  let c1_i32_26 : BitVec 32 := 1#32
  let arg15 : BitVec 32 := Scf.iv v40 c1_i32_26 k0_t2
  let v288 : BitVec 32 := Scalar.muli c2_i32_179 arg15
  let c1_i32_180 : BitVec 32 := 1#32
  let v289 : BitVec 32 := Scalar.addi v288 c1_i32_180
  let c1_i32_295 : BitVec 32 := 1#32
  let v433 : BitVec 32 := Scalar.muli v289 c1_i32_295
  let v434 : Index := Scalar.indexCast v433
  let c432_296 : Index := 432#32
  let c0_297 : Index := 0#32
  ![v434.toNat, 432, 0]
def k0_cond2 (i : grid0.Coords) : BitVec 1 :=
  let arg2 : BitVec 32 := BitVec.ofNat 32 (i 2).val
  let c2_i32_27 : BitVec 32 := 2#32
  let c0_i32_28 : BitVec 32 := 0#32
  let v41 : BitVec 1 := Scalar.cmpi .eq c2_i32_27 c0_i32_28
  let c1_i32_29 : BitVec 32 := 1#32
  let v42 : BitVec 32 := Scalar.select v41 c1_i32_29 c2_i32_27
  let v43 : BitVec 32 := Scalar.remsi arg2 v42
  let c0_i32_31 : BitVec 32 := 0#32
  let v45 : BitVec 1 := Scalar.cmpi .slt v43 c0_i32_31
  let c0_i32_32 : BitVec 32 := 0#32
  let v46 : BitVec 1 := Scalar.cmpi .slt v42 c0_i32_32
  let v47 : BitVec 1 := Scalar.xori v45 v46
  let c0_i32_30 : BitVec 32 := 0#32
  let v44 : BitVec 1 := Scalar.cmpi .ne v43 c0_i32_30
  let v48 : BitVec 1 := Scalar.andi v47 v44
  let v49 : BitVec 32 := Scalar.addi v43 v42
  let v50 : BitVec 32 := Scalar.select v48 v49 v43
  let c1_i32_33 : BitVec 32 := 1#32
  let v51 : BitVec 1 := Scalar.cmpi .eq v50 c1_i32_33
  let v52 : BitVec 32 := Scalar.extui v51
  let c0_i32_34 : BitVec 32 := 0#32
  let v53 : BitVec 1 := Scalar.cmpi .ne v52 c0_i32_34
  v53

def k0_mult21 (i : grid0.Coords) : BitVec 32 :=
  let arg2 : BitVec 32 := BitVec.ofNat 32 (i 2).val
  let c1_i32_64 : BitVec 32 := 1#32
  let v131 : BitVec 32 := Scalar.subi arg2 c1_i32_64
  let c1_i32_65 : BitVec 32 := 1#32
  let v132 : BitVec 32 := Scalar.addi v131 c1_i32_65
  let c512_i32 : BitVec 32 := 512#32
  let v133 : BitVec 32 := Scalar.muli v132 c512_i32
  v133
def k0_off33 (i : grid0.Coords) : Fin 2 → Nat :=
  let arg2 : BitVec 32 := BitVec.ofNat 32 (i 2).val
  let c1_i32_64 : BitVec 32 := 1#32
  let v131 : BitVec 32 := Scalar.subi arg2 c1_i32_64
  let c1_i32_65 : BitVec 32 := 1#32
  let v132 : BitVec 32 := Scalar.addi v131 c1_i32_65
  let c512_i32 : BitVec 32 := 512#32
  let v133 : BitVec 32 := Scalar.muli v132 c512_i32
  let v134 : BitVec 32 := v133
  let v135 : Index := Scalar.indexCast v134
  let c0_66 : Index := 0#32
  ![v135.toNat, 0]
def k0_off34 (i : grid0.Coords) : Fin 3 → Nat :=
  let arg2 : BitVec 32 := BitVec.ofNat 32 (i 2).val
  let c1_i32_64 : BitVec 32 := 1#32
  let v131 : BitVec 32 := Scalar.subi arg2 c1_i32_64
  let c1_i32_84 : BitVec 32 := 1#32
  let v158 : BitVec 32 := Scalar.muli v131 c1_i32_84
  let v159 : Index := Scalar.indexCast v158
  let c0_85 : Index := 0#32
  let c0_86 : Index := 0#32
  ![v159.toNat, 0, 0]
def k0_mult22 (i : grid0.Coords) : BitVec 32 :=
  let arg2 : BitVec 32 := BitVec.ofNat 32 (i 2).val
  let c1_i32_64 : BitVec 32 := 1#32
  let v131 : BitVec 32 := Scalar.subi arg2 c1_i32_64
  let c1_i32_94 : BitVec 32 := 1#32
  let v171 : BitVec 32 := Scalar.addi v131 c1_i32_94
  let c512_i32_95 : BitVec 32 := 512#32
  let v172 : BitVec 32 := Scalar.muli v171 c512_i32_95
  v172
def k0_off35 (i : grid0.Coords) : Fin 2 → Nat :=
  let arg2 : BitVec 32 := BitVec.ofNat 32 (i 2).val
  let c1_i32_64 : BitVec 32 := 1#32
  let v131 : BitVec 32 := Scalar.subi arg2 c1_i32_64
  let c1_i32_94 : BitVec 32 := 1#32
  let v171 : BitVec 32 := Scalar.addi v131 c1_i32_94
  let c512_i32_95 : BitVec 32 := 512#32
  let v172 : BitVec 32 := Scalar.muli v171 c512_i32_95
  let v173 : BitVec 32 := v172
  let v174 : Index := Scalar.indexCast v173
  let c256 : Index := 256#32
  ![v174.toNat, 256]
def k0_off36 (i : grid0.Coords) : Fin 3 → Nat :=
  let arg2 : BitVec 32 := BitVec.ofNat 32 (i 2).val
  let c1_i32_64 : BitVec 32 := 1#32
  let v131 : BitVec 32 := Scalar.subi arg2 c1_i32_64
  let c1_i32_114 : BitVec 32 := 1#32
  let v197 : BitVec 32 := Scalar.muli v131 c1_i32_114
  let v198 : Index := Scalar.indexCast v197
  let c144 : Index := 144#32
  let c0_115 : Index := 0#32
  ![v198.toNat, 144, 0]
def k0_mult23 (i : grid0.Coords) : BitVec 32 :=
  let arg2 : BitVec 32 := BitVec.ofNat 32 (i 2).val
  let c1_i32_64 : BitVec 32 := 1#32
  let v131 : BitVec 32 := Scalar.subi arg2 c1_i32_64
  let c1_i32_123 : BitVec 32 := 1#32
  let v210 : BitVec 32 := Scalar.addi v131 c1_i32_123
  let c512_i32_124 : BitVec 32 := 512#32
  let v211 : BitVec 32 := Scalar.muli v210 c512_i32_124
  v211
def k0_off37 (i : grid0.Coords) : Fin 2 → Nat :=
  let arg2 : BitVec 32 := BitVec.ofNat 32 (i 2).val
  let c1_i32_64 : BitVec 32 := 1#32
  let v131 : BitVec 32 := Scalar.subi arg2 c1_i32_64
  let c1_i32_123 : BitVec 32 := 1#32
  let v210 : BitVec 32 := Scalar.addi v131 c1_i32_123
  let c512_i32_124 : BitVec 32 := 512#32
  let v211 : BitVec 32 := Scalar.muli v210 c512_i32_124
  let v212 : BitVec 32 := v211
  let v213 : Index := Scalar.indexCast v212
  let c512 : Index := 512#32
  ![v213.toNat, 512]
def k0_off38 (i : grid0.Coords) : Fin 3 → Nat :=
  let arg2 : BitVec 32 := BitVec.ofNat 32 (i 2).val
  let c1_i32_64 : BitVec 32 := 1#32
  let v131 : BitVec 32 := Scalar.subi arg2 c1_i32_64
  let c1_i32_142 : BitVec 32 := 1#32
  let v236 : BitVec 32 := Scalar.muli v131 c1_i32_142
  let v237 : Index := Scalar.indexCast v236
  let c288 : Index := 288#32
  let c0_143 : Index := 0#32
  ![v237.toNat, 288, 0]
def k0_mult24 (i : grid0.Coords) : BitVec 32 :=
  let arg2 : BitVec 32 := BitVec.ofNat 32 (i 2).val
  let c1_i32_64 : BitVec 32 := 1#32
  let v131 : BitVec 32 := Scalar.subi arg2 c1_i32_64
  let c1_i32_151 : BitVec 32 := 1#32
  let v249 : BitVec 32 := Scalar.addi v131 c1_i32_151
  let c512_i32_152 : BitVec 32 := 512#32
  let v250 : BitVec 32 := Scalar.muli v249 c512_i32_152
  v250
def k0_off39 (i : grid0.Coords) : Fin 2 → Nat :=
  let arg2 : BitVec 32 := BitVec.ofNat 32 (i 2).val
  let c1_i32_64 : BitVec 32 := 1#32
  let v131 : BitVec 32 := Scalar.subi arg2 c1_i32_64
  let c1_i32_151 : BitVec 32 := 1#32
  let v249 : BitVec 32 := Scalar.addi v131 c1_i32_151
  let c512_i32_152 : BitVec 32 := 512#32
  let v250 : BitVec 32 := Scalar.muli v249 c512_i32_152
  let v251 : BitVec 32 := v250
  let v252 : Index := Scalar.indexCast v251
  let c768 : Index := 768#32
  ![v252.toNat, 768]
def k0_off40 (i : grid0.Coords) : Fin 3 → Nat :=
  let arg2 : BitVec 32 := BitVec.ofNat 32 (i 2).val
  let c1_i32_64 : BitVec 32 := 1#32
  let v131 : BitVec 32 := Scalar.subi arg2 c1_i32_64
  let c1_i32_170 : BitVec 32 := 1#32
  let v275 : BitVec 32 := Scalar.muli v131 c1_i32_170
  let v276 : Index := Scalar.indexCast v275
  let c432 : Index := 432#32
  let c0_171 : Index := 0#32
  ![v276.toNat, 432, 0]
def k0_cond3 (i : grid0.Coords) : BitVec 1 :=
  let arg2 : BitVec 32 := BitVec.ofNat 32 (i 2).val
  let c2_i32_48 : BitVec 32 := 2#32
  let c0_i32_49 : BitVec 32 := 0#32
  let v105 : BitVec 1 := Scalar.cmpi .eq c2_i32_48 c0_i32_49
  let c1_i32_50 : BitVec 32 := 1#32
  let v106 : BitVec 32 := Scalar.select v105 c1_i32_50 c2_i32_48
  let v107 : BitVec 32 := Scalar.remsi arg2 v106
  let c0_i32_52 : BitVec 32 := 0#32
  let v109 : BitVec 1 := Scalar.cmpi .slt v107 c0_i32_52
  let c0_i32_53 : BitVec 32 := 0#32
  let v110 : BitVec 1 := Scalar.cmpi .slt v106 c0_i32_53
  let v111 : BitVec 1 := Scalar.xori v109 v110
  let c0_i32_51 : BitVec 32 := 0#32
  let v108 : BitVec 1 := Scalar.cmpi .ne v107 c0_i32_51
  let v112 : BitVec 1 := Scalar.andi v111 v108
  let v113 : BitVec 32 := Scalar.addi v107 v106
  let v114 : BitVec 32 := Scalar.select v112 v113 v107
  let c0_i32_54 : BitVec 32 := 0#32
  let v115 : BitVec 1 := Scalar.cmpi .eq v114 c0_i32_54
  let v116 : BitVec 32 := Scalar.extui v115
  let c0_i32_55 : BitVec 32 := 0#32
  let v117 : BitVec 1 := Scalar.cmpi .ne v116 c0_i32_55
  v117

def k0_off41 (i : grid0.Coords) : Fin 3 → Nat :=
  let arg2 : BitVec 32 := BitVec.ofNat 32 (i 2).val
  let c1_i32_76 : BitVec 32 := 1#32
  let v149 : BitVec 32 := Scalar.muli arg2 c1_i32_76
  let v150 : Index := Scalar.indexCast v149
  let c0_77 : Index := 0#32
  let c0_78 : Index := 0#32
  ![v150.toNat, 0, 0]
def k0_off42 (i : grid0.Coords) : Fin 3 → Nat :=
  let arg2 : BitVec 32 := BitVec.ofNat 32 (i 2).val
  let c1_i32_111 : BitVec 32 := 1#32
  let v195 : BitVec 32 := Scalar.muli arg2 c1_i32_111
  let v196 : Index := Scalar.indexCast v195
  let c144 : Index := 144#32
  let c0_112 : Index := 0#32
  ![v196.toNat, 144, 0]
def k0_off43 (i : grid0.Coords) : Fin 3 → Nat :=
  let arg2 : BitVec 32 := BitVec.ofNat 32 (i 2).val
  let c1_i32_143 : BitVec 32 := 1#32
  let v241 : BitVec 32 := Scalar.muli arg2 c1_i32_143
  let v242 : Index := Scalar.indexCast v241
  let c288 : Index := 288#32
  let c0_144 : Index := 0#32
  ![v242.toNat, 288, 0]
def k0_off44 (i : grid0.Coords) : Fin 3 → Nat :=
  let arg2 : BitVec 32 := BitVec.ofNat 32 (i 2).val
  let c1_i32_176 : BitVec 32 := 1#32
  let v287 : BitVec 32 := Scalar.muli arg2 c1_i32_176
  let v288 : Index := Scalar.indexCast v287
  let c432 : Index := 432#32
  let c0_177 : Index := 0#32
  ![v288.toNat, 432, 0]
def k0_cond4 (i : grid0.Coords) : BitVec 1 :=
  let arg2 : BitVec 32 := BitVec.ofNat 32 (i 2).val
  let c2_i32_56 : BitVec 32 := 2#32
  let c0_i32_57 : BitVec 32 := 0#32
  let v118 : BitVec 1 := Scalar.cmpi .eq c2_i32_56 c0_i32_57
  let c1_i32_58 : BitVec 32 := 1#32
  let v119 : BitVec 32 := Scalar.select v118 c1_i32_58 c2_i32_56
  let v120 : BitVec 32 := Scalar.remsi arg2 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c1_i32_62 : BitVec 32 := 1#32
  let v128 : BitVec 1 := Scalar.cmpi .eq v127 c1_i32_62
  let v129 : BitVec 32 := Scalar.extui v128
  let c0_i32_63 : BitVec 32 := 0#32
  let v130 : BitVec 1 := Scalar.cmpi .ne v129 c0_i32_63
  v130

def k0_off45 (i : grid0.Coords) : Fin 3 → Nat :=
  let arg2 : BitVec 32 := BitVec.ofNat 32 (i 2).val
  let c1_i32_75 : BitVec 32 := 1#32
  let v149 : BitVec 32 := Scalar.muli arg2 c1_i32_75
  let v150 : Index := Scalar.indexCast v149
  let c0_76 : Index := 0#32
  let c0_77 : Index := 0#32
  ![v150.toNat, 0, 0]
def k0_off46 (i : grid0.Coords) : Fin 3 → Nat :=
  let arg2 : BitVec 32 := BitVec.ofNat 32 (i 2).val
  let c1_i32_111 : BitVec 32 := 1#32
  let v195 : BitVec 32 := Scalar.muli arg2 c1_i32_111
  let v196 : Index := Scalar.indexCast v195
  let c144 : Index := 144#32
  let c0_112 : Index := 0#32
  ![v196.toNat, 144, 0]
def k0_off47 (i : grid0.Coords) : Fin 3 → Nat :=
  let arg2 : BitVec 32 := BitVec.ofNat 32 (i 2).val
  let c1_i32_143 : BitVec 32 := 1#32
  let v241 : BitVec 32 := Scalar.muli arg2 c1_i32_143
  let v242 : Index := Scalar.indexCast v241
  let c288 : Index := 288#32
  let c0_144 : Index := 0#32
  ![v242.toNat, 288, 0]
def k0_off48 (i : grid0.Coords) : Fin 3 → Nat :=
  let arg2 : BitVec 32 := BitVec.ofNat 32 (i 2).val
  let c1_i32_176 : BitVec 32 := 1#32
  let v287 : BitVec 32 := Scalar.muli arg2 c1_i32_176
  let v288 : Index := Scalar.indexCast v287
  let c432 : Index := 432#32
  let c0_177 : Index := 0#32
  ![v288.toNat, 432, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.addi arg2 c1_i32
  let c7_i32 : BitVec 32 := 7#32
  let v2 : BitVec 32 := Scalar.minsi v1 c7_i32
  let v3 : BitVec 32 := Scalar.addi v0 v2
  let c0_i32 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c3_i32 : BitVec 32 := 3#32
  let c0_i32 : BitVec 32 := 0#32
  let c0_i32_0 : BitVec 32 := 0#32
  ![c3_i32.toNat, v3.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c3_i32 : BitVec 32 := 3#32
  let c0_i32 : BitVec 32 := 0#32
  let c0_i32_0 : BitVec 32 := 0#32
  ![c3_i32.toNat, v3.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x576x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x32x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S32x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S4096x8192 : Shape := ⟨2, ![4096, 8192]⟩
abbrev S8192x4096 : Shape := ⟨2, ![8192, 4096]⟩
abbrev S16x2304x512 : Shape := ⟨3, ![16, 2304, 512]⟩
abbrev S4x2048x8192 : Shape := ⟨3, ![4, 2048, 8192]⟩
abbrev S4x8192x2048 : Shape := ⟨3, ![4, 8192, 2048]⟩
abbrev S16x256x2x4096 : Shape := ⟨4, ![16, 256, 2, 4096]⟩
abbrev S2x4096x16x256 : Shape := ⟨4, ![2, 4096, 16, 256]⟩
abbrev S2x8x16x144x512 : Shape := ⟨5, ![2, 8, 16, 144, 512]⟩
abbrev S2x8x16x128x512 : Shape := ⟨5, ![2, 8, 16, 128, 512]⟩
abbrev S2x8x512x16x128 : Shape := ⟨5, ![2, 8, 512, 16, 128]⟩
abbrev S2x4096x16x128 : Shape := ⟨4, ![2, 4096, 16, 128]⟩
abbrev S2x16x4096x4096 : Shape := ⟨4, ![2, 16, 4096, 4096]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩
abbrev S8192x2048 : Shape := ⟨2, ![8192, 2048]⟩
abbrev S1x2048x8192 : Shape := ⟨3, ![1, 2048, 8192]⟩
abbrev S2048x8192 : Shape := ⟨2, ![2048, 8192]⟩
abbrev S1x8192x2048 : Shape := ⟨3, ![1, 8192, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x4096, .bf16⟩
  | .hbm, ⟨2, _⟩ => ⟨S16x2304x512, .bf16⟩
  | .hbm, ⟨3, _⟩ => ⟨S4x2048x8192, .f32⟩
  | .hbm, ⟨4, _⟩ => ⟨S4x8192x2048, .f32⟩
  | .hbm, ⟨5, _⟩ => ⟨S4096x8192, .f32⟩
  | .hbm, ⟨6, _⟩ => ⟨S16x256x2x4096, .f32⟩
  | .hbm, ⟨7, _⟩ => ⟨S8192x4096, .f32⟩
  | .hbm, ⟨8, _⟩ => ⟨S2x4096x16x256, .f32⟩
  | .hbm, ⟨9, _⟩ => ⟨S16x2304x512, .f32⟩
  | .hbm, ⟨10, _⟩ => ⟨S2x8x16x144x512, .f32⟩
  | .hbm, ⟨11, _⟩ => ⟨S2x8x16x128x512, .f32⟩
  | .hbm, ⟨12, _⟩ => ⟨S2x8x512x16x128, .f32⟩
  | .hbm, ⟨13, _⟩ => ⟨S2x4096x16x128, .f32⟩
  | .hbm, ⟨14, _⟩ => ⟨S2x16x4096x4096, .f32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S1x1x4096x4096, .i1⟩
  | .hbm, ⟨25, _⟩ => ⟨S_, .f32⟩
  | .hbm, ⟨26, _⟩ => ⟨S_, .f32⟩
  | .hbm, ⟨27, _⟩ => ⟨S2x16x4096x4096, .i1⟩
  | .hbm, ⟨28, _⟩ => ⟨S2x16x4096x4096, .f32⟩
  | .hbm, ⟨29, _⟩ => ⟨S2x16x4096x4096, .f32⟩
  | .hbm, ⟨30, _⟩ => ⟨S_, .f32⟩
  | .hbm, ⟨31, _⟩ => ⟨S2x16x4096, .f32⟩
  | .hbm, ⟨32, _⟩ => ⟨S2x16x4096x1, .f32⟩
  | .hbm, ⟨33, _⟩ => ⟨S2x16x4096x4096, .f32⟩
  | .hbm, ⟨34, _⟩ => ⟨S2x16x4096x4096, .f32⟩
  | .hbm, ⟨35, _⟩ => ⟨S_, .f32⟩
  | .hbm, ⟨36, _⟩ => ⟨S2x16x4096x4096, .f32⟩
  | .hbm, ⟨37, _⟩ => ⟨S2x16x4096x4096, .f32⟩
  | .hbm, ⟨38, _⟩ => ⟨S_, .f32⟩
  | .hbm, ⟨39, _⟩ => ⟨S2x16x4096, .f32⟩
  | .hbm, ⟨40, _⟩ => ⟨S2x16x4096x1, .f32⟩
  | .hbm, ⟨41, _⟩ => ⟨S2x16x4096x4096, .f32⟩
  | .hbm, ⟨42, _⟩ => ⟨S2x16x4096x4096, .f32⟩
  | .hbm, ⟨43, _⟩ => ⟨S2x16x128x4096, .f32⟩
  | .hbm, ⟨44, _⟩ => ⟨S2x4096x16x128, .f32⟩
  | .hbm, ⟨45, _⟩ => ⟨S8192x2048, .f32⟩
  | .hbm, ⟨46, _⟩ => ⟨S8192x2048, .bf16⟩
  | .hbm, ⟨47, _⟩ => ⟨S1x2048x8192, .f32⟩
  | .hbm, ⟨48, _⟩ => ⟨S2048x8192, .f32⟩
  | .hbm, ⟨49, _⟩ => ⟨S2048x8192, .bf16⟩
  | .hbm, ⟨50, _⟩ => ⟨S1x8192x2048, .f32⟩
  | .hbm, ⟨51, _⟩ => ⟨S8192x2048, .f32⟩
  | .hbm, ⟨52, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel2.lean ====
abbrev S8192x2048 : Shape := ⟨2, ![8192, 2048]⟩
abbrev S1x2048 : Shape := ⟨2, ![1, 2048]⟩
abbrev S2048x8192 : Shape := ⟨2, ![2048, 8192]⟩
abbrev S1024x2048 : Shape := ⟨2, ![1024, 2048]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_14 : BitVec 32 := 0#32
  let c4_i32 : BitVec 32 := 4#32
  let v17 : BitVec 32 := Scalar.addi c0_i32_14 c4_i32
  let c1_i32 : BitVec 32 := 1#32
  ⟨c0_i32_14, v17, c1_i32⟩
def k0_mult1 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c256_i32 : BitVec 32 := 256#32
  let v20 : BitVec 32 := Scalar.muli arg8 c256_i32
  v20
def k0_off1 (k0_t1 : Fin k0_t1_loop.trips) : Fin 2 → Nat :=
  let c0_i32_14 : BitVec 32 := 0#32
  let c1_i32 : BitVec 32 := 1#32
  let arg8 : BitVec 32 := Scf.iv c0_i32_14 c1_i32 k0_t1
  let c256_i32 : BitVec 32 := 256#32
  let v20 : BitVec 32 := Scalar.muli arg8 c256_i32
  let v21 : BitVec 32 := v20
  let v22 : Index := Scalar.indexCast v21
  let c0_20 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x2048 : Shape := ⟨2, ![8192, 2048]⟩
abbrev S1x2048 : Shape := ⟨2, ![1, 2048]⟩
abbrev S2048x8192 : Shape := ⟨2, ![2048, 8192]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S2048x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x2048, .f32⟩
  | .hbm, ⟨26, _⟩ => ⟨S8192x2048, .f32⟩
  | .hbm, ⟨27, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel3.lean ====
abbrev S8192x2048 : Shape := ⟨2, ![8192, 2048]⟩
abbrev S1x2048 : Shape := ⟨2, ![1, 2048]⟩
abbrev S2048x8192 : Shape := ⟨2, ![2048, 8192]⟩
abbrev S1024x2048 : Shape := ⟨2, ![1024, 2048]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c4_i32 : BitVec 32 := 4#32
  let v20 : BitVec 32 := Scalar.addi c0_i32_15 c4_i32
  let c1_i32 : BitVec 32 := 1#32
  ⟨c0_i32_15, v20, c1_i32⟩
def k0_mult1 (k0_t1 : Fin k0_t1_loop.trips) : BitVec 32 :=
  let c0_i32_15 : BitVec 32 := 0#32
  let c1_i32 : BitVec 32 := 1#32
  let arg9 : BitVec 32 := Scf.iv c0_i32_15 c1_i32 k0_t1
  let c256_i32 : BitVec 32 := 256#32
  let v23 : BitVec 32 := Scalar.muli arg9 c256_i32
  v23
def k0_off1 (k0_t1 : Fin k0_t1_loop.trips) : Fin 2 → Nat :=
  let c0_i32_15 : BitVec 32 := 0#32
  let c1_i32 : BitVec 32 := 1#32
  let arg9 : BitVec 32 := Scf.iv c0_i32_15 c1_i32 k0_t1
  let c256_i32 : BitVec 32 := 256#32
  let v23 : BitVec 32 := Scalar.muli arg9 c256_i32
  let v24 : BitVec 32 := v23
  let v25 : Index := Scalar.indexCast v24
  let c0_21 : Index := 0#32
  ![v25.toNat, 0]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_12 : BitVec 32 := 0#32
  let v18 : BitVec 1 := Scalar.cmpi .ne v17 c0_i32_12
  v18

@[reducible] def k0_t2_loop : Scf.Loop 32 :=
  let c0_i32_15 : BitVec 32 := 0#32
  let c4_i32 : BitVec 32 := 4#32
  let v20 : BitVec 32 := Scalar.addi c0_i32_15 c4_i32
  let c1_i32 : BitVec 32 := 1#32
  ⟨c0_i32_15, v20, c1_i32⟩
def k0_mult2 (k0_t2 : Fin k0_t2_loop.trips) : BitVec 32 :=
  let c0_i32_15 : BitVec 32 := 0#32
  let c1_i32 : BitVec 32 := 1#32
  let arg9 : BitVec 32 := Scf.iv c0_i32_15 c1_i32 k0_t2
  let c256_i32 : BitVec 32 := 256#32
  let v21 : BitVec 32 := Scalar.muli arg9 c256_i32
  v21
def k0_off2 (k0_t2 : Fin k0_t2_loop.trips) : Fin 2 → Nat :=
  let c0_i32_15 : BitVec 32 := 0#32
  let c1_i32 : BitVec 32 := 1#32
  let arg9 : BitVec 32 := Scf.iv c0_i32_15 c1_i32 k0_t2
  let c256_i32 : BitVec 32 := 256#32
  let v21 : BitVec 32 := Scalar.muli arg9 c256_i32
  let v22 : BitVec 32 := v21
  let v23 : Index := Scalar.indexCast v22
  let c0_17 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S8192x2048 : Shape := ⟨2, ![8192, 2048]⟩
abbrev S1x2048 : Shape := ⟨2, ![1, 2048]⟩
abbrev S2048x8192 : Shape := ⟨2, ![2048, 8192]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S2048x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel4.lean ====
abbrev S8192x2048 : Shape := ⟨2, ![8192, 2048]⟩
abbrev S1x2048 : Shape := ⟨2, ![1, 2048]⟩
abbrev S2048x4096 : Shape := ⟨2, ![2048, 4096]⟩
abbrev S1x4096 : Shape := ⟨2, ![1, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S1024x512 : Shape := ⟨2, ![1024, 512]⟩
abbrev S1x512 : Shape := ⟨2, ![1, 512]⟩

abbrev nBuf : Space → Nat
  | .hbm => 5
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4096, .bf16⟩
  | .hbm, ⟨3, _⟩ => ⟨S1x4096, .f32⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_26 : BitVec 32 := 0#32
  let c4_i32 : BitVec 32 := 4#32
  let v31 : BitVec 32 := Scalar.addi c0_i32_26 c4_i32
  let c1_i32 : BitVec 32 := 1#32
  ⟨c0_i32_26, v31, c1_i32⟩
def k0_mult1 (k0_t1 : Fin k0_t1_loop.trips) : BitVec 32 :=
  let c0_i32_26 : BitVec 32 := 0#32
  let c1_i32 : BitVec 32 := 1#32
  let arg10 : BitVec 32 := Scf.iv c0_i32_26 c1_i32 k0_t1
  let c256_i32 : BitVec 32 := 256#32
  let v32 : BitVec 32 := Scalar.muli arg10 c256_i32
  v32
def k0_off1 (k0_t1 : Fin k0_t1_loop.trips) : Fin 2 → Nat :=
  let c0_i32_26 : BitVec 32 := 0#32
  let c1_i32 : BitVec 32 := 1#32
  let arg10 : BitVec 32 := Scf.iv c0_i32_26 c1_i32 k0_t1
  let c256_i32 : BitVec 32 := 256#32
  let v32 : BitVec 32 := Scalar.muli arg10 c256_i32
  let v33 : BitVec 32 := v32
  let v34 : Index := Scalar.indexCast v33
  let c0_28 : Index := 0#32
  ![v34.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8192x2048 : Shape := ⟨2, ![8192, 2048]⟩
abbrev S1x2048 : Shape := ⟨2, ![1, 2048]⟩
abbrev S2048x4096 : Shape := ⟨2, ![2048, 4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4096, .bf16⟩
  | .hbm, ⟨3, _⟩ => ⟨S1x4096, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S2048x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel5.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S1x2048, .f32⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x2048 : Shape := ⟨2, ![8192, 2048]⟩
abbrev S2048x2048 : Shape := ⟨2, ![2048, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x2048 : Shape := ⟨2, ![8192, 2048]⟩
abbrev S1x2048 : Shape := ⟨2, ![1, 2048]⟩
abbrev S32x8192 : Shape := ⟨2, ![32, 8192]⟩
abbrev S2x2048x1088 : Shape := ⟨3, ![2, 2048, 1088]⟩
abbrev S1x512 : Shape := ⟨2, ![1, 512]⟩
abbrev S2x512x3072 : Shape := ⟨3, ![2, 512, 3072]⟩
abbrev S2x512x4096 : Shape := ⟨3, ![2, 512, 4096]⟩
abbrev S_ : Shape := ⟨0, ![]⟩
abbrev S64x8192 : Shape := ⟨2, ![64, 8192]⟩
abbrev S128x8192 : Shape := ⟨2, ![128, 8192]⟩
abbrev S8192x128 : Shape := ⟨2, ![8192, 128]⟩
abbrev S2x2048x64 : Shape := ⟨3, ![2, 2048, 64]⟩
abbrev S2x2048x32 : Shape := ⟨3, ![2, 2048, 32]⟩
abbrev S2x2048x256 : Shape := ⟨3, ![2, 2048, 256]⟩
abbrev S4096x8192 : Shape := ⟨2, ![4096, 8192]⟩
abbrev S8192x4096 : Shape := ⟨2, ![8192, 4096]⟩
abbrev S16x2304x512 : Shape := ⟨3, ![16, 2304, 512]⟩
abbrev S512x2048 : Shape := ⟨2, ![512, 2048]⟩
abbrev S32x512 : Shape := ⟨2, ![32, 512]⟩
abbrev S512x128 : Shape := ⟨2, ![512, 128]⟩
abbrev S1x2048x1088 : Shape := ⟨3, ![1, 2048, 1088]⟩
abbrev S1x2048x256 : Shape := ⟨3, ![1, 2048, 256]⟩
abbrev S1x512x3072 : Shape := ⟨3, ![1, 512, 3072]⟩
abbrev S1x512x4096 : Shape := ⟨3, ![1, 512, 4096]⟩
abbrev S4096x512 : Shape := ⟨2, ![4096, 512]⟩
abbrev S512x4096 : Shape := ⟨2, ![512, 4096]⟩
abbrev S1x2304x512 : Shape := ⟨3, ![1, 2304, 512]⟩
abbrev S1x512x128 : Shape := ⟨3, ![1, 512, 128]⟩
abbrev S512 : Shape := ⟨1, ![512]⟩
abbrev S512x1 : Shape := ⟨2, ![512, 1]⟩
abbrev S1x2048x1024 : Shape := ⟨3, ![1, 2048, 1024]⟩
abbrev S2048x1024 : Shape := ⟨2, ![2048, 1024]⟩
abbrev S512x1024 : Shape := ⟨2, ![512, 1024]⟩
abbrev S512x512 : Shape := ⟨2, ![512, 512]⟩
abbrev S2048x256 : Shape := ⟨2, ![2048, 256]⟩
abbrev S512x256 : Shape := ⟨2, ![512, 256]⟩
abbrev S512x3072 : Shape := ⟨2, ![512, 3072]⟩
abbrev S3072x512 : Shape := ⟨2, ![3072, 512]⟩
abbrev S64x512 : Shape := ⟨2, ![64, 512]⟩
abbrev S128x512 : Shape := ⟨2, ![128, 512]⟩
abbrev S2048x512 : Shape := ⟨2, ![2048, 512]⟩
abbrev S16x512 : Shape := ⟨2, ![16, 512]⟩
abbrev S1x128x512 : Shape := ⟨3, ![1, 128, 512]⟩
abbrev S1x16x512 : Shape := ⟨3, ![1, 16, 512]⟩

abbrev nBuf : Space → Nat
  | .hbm => 28
  | .vmem => 25
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S32x8192, .f32⟩
  | .hbm, ⟨3, _⟩ => ⟨S32x8192, .f32⟩
  | .hbm, ⟨4, _⟩ => ⟨S2x2048x1088, .f32⟩
  | .hbm, ⟨5, _⟩ => ⟨S1x512, .f32⟩
  | .hbm, ⟨6, _⟩ => ⟨S1x512, .f32⟩
  | .hbm, ⟨7, _⟩ => ⟨S2x512x3072, .f32⟩
  | .hbm, ⟨8, _⟩ => ⟨S2x512x4096, .f32⟩
  | .hbm, ⟨9, _⟩ => ⟨S_, .f32⟩
  | .hbm, ⟨10, _⟩ => ⟨S64x8192, .f32⟩
  | .hbm, ⟨11, _⟩ => ⟨S128x8192, .f32⟩
  | .hbm, ⟨12, _⟩ => ⟨S8192x128, .f32⟩
  | .hbm, ⟨13, _⟩ => ⟨S128x8192, .f32⟩
  | .hbm, ⟨14, _⟩ => ⟨S8192x128, .f32⟩
  | .hbm, ⟨15, _⟩ => ⟨S2x2048x1088, .bf16⟩
  | .hbm, ⟨16, _⟩ => ⟨S2x512x3072, .bf16⟩
  | .hbm, ⟨17, _⟩ => ⟨S2x512x4096, .bf16⟩
  | .hbm, ⟨18, _⟩ => ⟨S_, .bf16⟩
  | .hbm, ⟨19, _⟩ => ⟨S2x2048x64, .bf16⟩
  | .hbm, ⟨20, _⟩ => ⟨S2x2048x64, .bf16⟩
  | .hbm, ⟨21, _⟩ => ⟨S2x2048x32, .bf16⟩
  | .hbm, ⟨22, _⟩ => ⟨S2x2048x32, .bf16⟩
  | .hbm, ⟨23, _⟩ => ⟨S2x2048x32, .bf16⟩
  | .hbm, ⟨24, _⟩ => ⟨S2x2048x256, .bf16⟩
  | .hbm, ⟨25, _⟩ => ⟨S4096x8192, .bf16⟩
  | .hbm, ⟨26, _⟩ => ⟨S8192x4096, .bf16⟩
  | .hbm, ⟨27, _⟩ => ⟨S16x2304x512, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x2048x1088, .bf16⟩
  | .local _ .vmem, ⟨12, _⟩ => ⟨S1x512, .f32⟩
  | .local _ .vmem, ⟨13, _⟩ => ⟨S1x512, .f32⟩
  | .local _ .vmem, ⟨14, _⟩ => ⟨S1x2048x256, .bf16⟩
  | .local _ .vmem, ⟨15, _⟩ => ⟨S1x512x3072, .bf16⟩
  | .local _ .vmem, ⟨16, _⟩ => ⟨S1x512x4096, .bf16⟩
  | .local _ .vmem, ⟨17, _⟩ => ⟨S4096x512, .bf16⟩
  | .local _ .vmem, ⟨18, _⟩ => ⟨S4096x512, .bf16⟩
  | .local _ .vmem, ⟨19, _⟩ => ⟨S512x4096, .bf16⟩
  | .local _ .vmem, ⟨20, _⟩ => ⟨S512x4096, .bf16⟩
  | .local _ .vmem, ⟨21, _⟩ => ⟨S1x2304x512, .bf16⟩
  | .local _ .vmem, ⟨22, _⟩ => ⟨S1x2304x512, .bf16⟩
  | .local _ .vmem, ⟨23, _⟩ => ⟨S512x2048, .bf16⟩
  | .local _ .vmem, ⟨24, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048x1088 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2304x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference7Ideal.lean ====
abbrev S8192x2048 : Shape := ⟨2, ![8192, 2048]⟩
abbrev S1x2048 : Shape := ⟨2, ![1, 2048]⟩
abbrev S32x8192 : Shape := ⟨2, ![32, 8192]⟩
abbrev S2x2048x1088 : Shape := ⟨3, ![2, 2048, 1088]⟩
abbrev S1x512 : Shape := ⟨2, ![1, 512]⟩
abbrev S2x512x3072 : Shape := ⟨3, ![2, 512, 3072]⟩
abbrev S2x512x4096 : Shape := ⟨3, ![2, 512, 4096]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x2048x1088 : Shape := ⟨3, ![1, 2048, 1088]⟩
abbrev S2048x1088 : Shape := ⟨2, ![2048, 1088]⟩
abbrev S8192x1088 : Shape := ⟨2, ![8192, 1088]⟩
abbrev S8192x512 : Shape := ⟨2, ![8192, 512]⟩
abbrev S8192x64 : Shape := ⟨2, ![8192, 64]⟩
abbrev S1x512x3072 : Shape := ⟨3, ![1, 512, 3072]⟩
abbrev S512x3072 : Shape := ⟨2, ![512, 3072]⟩
abbrev S8192x3072 : Shape := ⟨2, ![8192, 3072]⟩
abbrev S8192x16x192 : Shape := ⟨3, ![8192, 16, 192]⟩
abbrev S8192x16x128 : Shape := ⟨3, ![8192, 16, 128]⟩
abbrev S8192x16x64 : Shape := ⟨3, ![8192, 16, 64]⟩
abbrev S8192x1x32 : Shape := ⟨3, ![8192, 1, 32]⟩
abbrev S8192x16x32 : Shape := ⟨3, ![8192, 16, 32]⟩
abbrev S1x512x4096 : Shape := ⟨3, ![1, 512, 4096]⟩
abbrev S512x4096 : Shape := ⟨2, ![512, 4096]⟩
abbrev S8192x4096 : Shape := ⟨2, ![8192, 4096]⟩
abbrev S8192x16x256 : Shape := ⟨3, ![8192, 16, 256]⟩
abbrev S4096x8192 : Shape := ⟨2, ![4096, 8192]⟩
abbrev S8192x1x64 : Shape := ⟨3, ![8192, 1, 64]⟩
abbrev S8192x16x16 : Shape := ⟨3, ![8192, 16, 16]⟩
abbrev S8192x16x144 : Shape := ⟨3, ![8192, 16, 144]⟩
abbrev S16x512x2304 : Shape := ⟨3, ![16, 512, 2304]⟩
abbrev S16x2304x512 : Shape := ⟨3, ![16, 2304, 512]⟩

abbrev nBuf : Space → Nat
  | .hbm => 121
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S32x8192, .f32⟩
  | .hbm, ⟨3, _⟩ => ⟨S32x8192, .f32⟩
  | .hbm, ⟨4, _⟩ => ⟨S2x2048x1088, .f32⟩
  | .hbm, ⟨5, _⟩ => ⟨S1x512, .f32⟩
  | .hbm, ⟨6, _⟩ => ⟨S1x512, .f32⟩
  | .hbm, ⟨7, _⟩ => ⟨S2x512x3072, .f32⟩
  | .hbm, ⟨8, _⟩ => ⟨S2x512x4096, .f32⟩
  | .hbm, ⟨9, _⟩ => ⟨S8192x32, .f32⟩
  | .hbm, ⟨10, _⟩ => ⟨S8192x32, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S1x2048x1088, .f32⟩
  | .hbm, ⟨27, _⟩ => ⟨S2048x1088, .f32⟩
  | .hbm, ⟨28, _⟩ => ⟨S8192x1088, .f32⟩
  | .hbm, ⟨29, _⟩ => ⟨S8192x512, .f32⟩
  | .hbm, ⟨30, _⟩ => ⟨S8192x512, .f32⟩
  | .hbm, ⟨31, _⟩ => ⟨S8192x64, .f32⟩
  | .hbm, ⟨32, _⟩ => ⟨S8192x512, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S1x512x3072, .f32⟩
  | .hbm, ⟨48, _⟩ => ⟨S512x3072, .f32⟩
  | .hbm, ⟨49, _⟩ => ⟨S8192x3072, .f32⟩
  | .hbm, ⟨50, _⟩ => ⟨S8192x16x192, .f32⟩
  | .hbm, ⟨51, _⟩ => ⟨S8192x16x128, .f32⟩
  | .hbm, ⟨52, _⟩ => ⟨S8192x16x64, .f32⟩
  | .hbm, ⟨53, _⟩ => ⟨S8192x1x32, .f32⟩
  | .hbm, ⟨54, _⟩ => ⟨S8192x1x32, .f32⟩
  | .hbm, ⟨55, _⟩ => ⟨S8192x16x32, .f32⟩
  | .hbm, ⟨56, _⟩ => ⟨S8192x16x32, .f32⟩
  | .hbm, ⟨57, _⟩ => ⟨S8192x16x32, .f32⟩
  | .hbm, ⟨58, _⟩ => ⟨S8192x16x32, .f32⟩
  | .hbm, ⟨59, _⟩ => ⟨S8192x16x32, .f32⟩
  | .hbm, ⟨60, _⟩ => ⟨S8192x16x32, .f32⟩
  | .hbm, ⟨61, _⟩ => ⟨S8192x16x32, .f32⟩
  | .hbm, ⟨62, _⟩ => ⟨S8192x16x32, .f32⟩
  | .hbm, ⟨63, _⟩ => ⟨S8192x16x32, .f32⟩
  | .hbm, ⟨64, _⟩ => ⟨S8192x16x32, .f32⟩
  | .hbm, ⟨65, _⟩ => ⟨S8192x16x32, .f32⟩
  | .hbm, ⟨66, _⟩ => ⟨S8192x16x32, .f32⟩
  | .hbm, ⟨67, _⟩ => ⟨S8192x16x64, .f32⟩
  | .hbm, ⟨68, _⟩ => ⟨S8192x32, .f32⟩
  | .hbm, ⟨69, _⟩ => ⟨S8192x32, .f32⟩
  | .hbm, ⟨70, _⟩ => ⟨S8192x32, .f32⟩
  | .hbm, ⟨71, _⟩ => ⟨S8192x32, .f32⟩
  | .hbm, ⟨72, _⟩ => ⟨S8192x32, .f32⟩
  | .hbm, ⟨73, _⟩ => ⟨S8192x32, .f32⟩
  | .hbm, ⟨74, _⟩ => ⟨S8192x32, .f32⟩
  | .hbm, ⟨75, _⟩ => ⟨S8192x32, .f32⟩
  | .hbm, ⟨76, _⟩ => ⟨S8192x64, .f32⟩
  | .hbm, ⟨77, _⟩ => ⟨S8192x512, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S8192x1, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S1x512x4096, .f32⟩
  | .hbm, ⟨93, _⟩ => ⟨S512x4096, .f32⟩
  | .hbm, ⟨94, _⟩ => ⟨S8192x4096, .f32⟩
  | .hbm, ⟨95, _⟩ => ⟨S8192x16x256, .f32⟩
  | .hbm, ⟨96, _⟩ => ⟨S8192x16x128, .f32⟩
  | .hbm, ⟨97, _⟩ => ⟨S8192x16x128, .f32⟩
  | .hbm, ⟨98, _⟩ => ⟨S_, .f32⟩
  | .hbm, ⟨99, _⟩ => ⟨S8192x16x64, .f32⟩
  | .hbm, ⟨100, _⟩ => ⟨S_, .f32⟩
  | .hbm, ⟨101, _⟩ => ⟨S8192x16x128, .f32⟩
  | .hbm, ⟨102, _⟩ => ⟨S8192x16x128, .f32⟩
  | .hbm, ⟨103, _⟩ => ⟨S_, .f32⟩
  | .hbm, ⟨104, _⟩ => ⟨S8192x16x64, .f32⟩
  | .hbm, ⟨105, _⟩ => ⟨S8192x16x64, .f32⟩
  | .hbm, ⟨106, _⟩ => ⟨S8192x16x256, .f32⟩
  | .hbm, ⟨107, _⟩ => ⟨S8192x4096, .f32⟩
  | .hbm, ⟨108, _⟩ => ⟨S4096x8192, .f32⟩
  | .hbm, ⟨109, _⟩ => ⟨S8192x1x64, .f32⟩
  | .hbm, ⟨110, _⟩ => ⟨S8192x16x64, .f32⟩
  | .hbm, ⟨111, _⟩ => ⟨S8192x16x256, .f32⟩
  | .hbm, ⟨112, _⟩ => ⟨S8192x4096, .f32⟩
  | .hbm, ⟨113, _⟩ => ⟨S_, .f32⟩
  | .hbm, ⟨114, _⟩ => ⟨S8192x16x16, .f32⟩
  | .hbm, ⟨115, _⟩ => ⟨S8192x16x144, .f32⟩
  | .hbm, ⟨116, _⟩ => ⟨S16x512x2304, .f32⟩
  | .hbm, ⟨117, _⟩ => ⟨S16x2304x512, .f32⟩
  | .hbm, ⟨118, _⟩ => ⟨S4096x8192, .bf16⟩
  | .hbm, ⟨119, _⟩ => ⟨S8192x4096, .bf16⟩
  | .hbm, ⟨120, _⟩ => ⟨S16x2304x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_5 : Ref sig .tc := ⟨.hbm, 78, rfl⟩
abbrev main_v63 : Ref sig .tc := ⟨.hbm, 79, rfl⟩
abbrev main_v64 : Ref sig .tc := ⟨.hbm, 80, rfl⟩
abbrev main_cst_6 : Ref sig .tc := ⟨.hbm, 81, rfl⟩
abbrev main_v65 : Ref sig .tc := ⟨.hbm, 82, rfl⟩
abbrev main_v66 : Ref sig .tc := ⟨.hbm, 83, rfl⟩
abbrev main_cst_7 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_8 : Ref sig .tc := ⟨.hbm, 98, rfl⟩
abbrev main_v80 : Ref sig .tc := ⟨.hbm, 99, rfl⟩
abbrev main_cst_9 : Ref sig .tc := ⟨.hbm, 100, rfl⟩
abbrev main_v81 : Ref sig .tc := ⟨.hbm, 101, rfl⟩
abbrev main_v82 : Ref sig .tc := ⟨.hbm, 102, rfl⟩
abbrev main_cst_10 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_11 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩

abbrev nD : Nat := 1
abbrev τ : Topo := Topo.v7x

variable {F : FTy → Type} [FloatOps F]
-- ==== Proof.K.RunA.lean ====
/- The body of the attention kernel run once per case of its conditionals; the contents it leaves are not named. -/
module

public import proofs.«01_k».proof.Proof.Gen.Kernel.Loops
public import proofs.«01_k».proof.Proof.Gen.Kernel.Frame

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The body at the first query block of a head: the first key block is scored afresh, no odd key block, the diagonal block finished from slot 0. -/
theorem runA (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S4096x1024 .bf16) (harg5 : arg5.IsWhole) (arg6 : Memref sig .tc .vmem S8x576x512 .bf16) (harg6 : arg6.IsWhole) (arg7 : Memref sig .tc .vmem S1x32x8192 .f32) (harg7 : arg7.IsWhole) (arg8 : Memref sig .tc .vmem S1x128x2048 .f32) (harg8 : arg8.IsWhole) (arg9 : Memref sig .tc .vmem S512x512 .bf16) (harg9 : arg9.IsWhole) (arg10 : Memref sig .tc .vmem S32x8192 .bf16) (harg10 : arg10.IsWhole) (arg11 : Memref sig .tc .vmem S128x2048 .bf16) (harg11 : arg11.IsWhole) (arg12 : Memref sig .tc .vmem S2x4x512x512 .f32) (harg12 : arg12.IsWhole) (arg13 : Memref sig .tc .vmem S4x1x512 .f32) (harg13 : arg13.IsWhole) (arg14 : Memref sig .tc .vmem S4x144x512 .f32) (harg14 : arg14.IsWhole) (hc1 : k0_cond1 i = 1#1) (hc2 : ¬k0_cond2 i = 1#1) (hc3 : k0_cond3 i = 1#1) (hc4 : ¬k0_cond4 i = 1#1)
    (x0 : Vec F S1024x512 .bf16) (x1 : Vec F S1024x512 .bf16) (x2 : Vec F S4096x1024 .bf16) (x3 : Vec F S8x576x512 .bf16) (x4 : Vec F S1x32x8192 .f32) (x5 : Vec F S1x128x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_mla_attention i arg3 harg3 arg4 harg4 arg5 harg5 arg6 harg6 arg7 harg7 arg8 harg8 arg9 harg9 arg10 harg10 arg11 harg11 arg12 harg12 arg13 harg13 arg14 harg14) K := by
  intro E K
  simp only [cc0_mla_attention_eq_skeleton]; unfold cc0_mla_attention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.Kernel.Hand

end
-- ==== Proof.K.RunB.lean ====
/- The body of the attention kernel run once per case of its conditionals; the contents it leaves are not named. -/
module

public import proofs.«01_k».proof.Proof.K.RunA

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The body at a later even query block. -/
theorem runB (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S4096x1024 .bf16) (harg5 : arg5.IsWhole) (arg6 : Memref sig .tc .vmem S8x576x512 .bf16) (harg6 : arg6.IsWhole) (arg7 : Memref sig .tc .vmem S1x32x8192 .f32) (harg7 : arg7.IsWhole) (arg8 : Memref sig .tc .vmem S1x128x2048 .f32) (harg8 : arg8.IsWhole) (arg9 : Memref sig .tc .vmem S512x512 .bf16) (harg9 : arg9.IsWhole) (arg10 : Memref sig .tc .vmem S32x8192 .bf16) (harg10 : arg10.IsWhole) (arg11 : Memref sig .tc .vmem S128x2048 .bf16) (harg11 : arg11.IsWhole) (arg12 : Memref sig .tc .vmem S2x4x512x512 .f32) (harg12 : arg12.IsWhole) (arg13 : Memref sig .tc .vmem S4x1x512 .f32) (harg13 : arg13.IsWhole) (arg14 : Memref sig .tc .vmem S4x144x512 .f32) (harg14 : arg14.IsWhole) (hc1 : ¬k0_cond1 i = 1#1) (hc2 : ¬k0_cond2 i = 1#1) (hc3 : k0_cond3 i = 1#1) (hc4 : ¬k0_cond4 i = 1#1)
    (x0 : Vec F S1024x512 .bf16) (x1 : Vec F S1024x512 .bf16) (x2 : Vec F S4096x1024 .bf16) (x3 : Vec F S8x576x512 .bf16) (x4 : Vec F S1x32x8192 .f32) (x5 : Vec F S1x128x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_mla_attention i arg3 harg3 arg4 harg4 arg5 harg5 arg6 harg6 arg7 harg7 arg8 harg8 arg9 harg9 arg10 harg10 arg11 harg11 arg12 harg12 arg13 harg13 arg14 harg14) K := by
  intro E K
  simp only [cc0_mla_attention_eq_skeleton]; unfold cc0_mla_attention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.Kernel.Hand

end
-- ==== Proof.K.RunC.lean ====
/- The body of the attention kernel run once per case of its conditionals; the contents it leaves are not named. -/
module

public import proofs.«01_k».proof.Proof.K.RunB

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The body at an odd query block. -/
theorem runC (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S4096x1024 .bf16) (harg5 : arg5.IsWhole) (arg6 : Memref sig .tc .vmem S8x576x512 .bf16) (harg6 : arg6.IsWhole) (arg7 : Memref sig .tc .vmem S1x32x8192 .f32) (harg7 : arg7.IsWhole) (arg8 : Memref sig .tc .vmem S1x128x2048 .f32) (harg8 : arg8.IsWhole) (arg9 : Memref sig .tc .vmem S512x512 .bf16) (harg9 : arg9.IsWhole) (arg10 : Memref sig .tc .vmem S32x8192 .bf16) (harg10 : arg10.IsWhole) (arg11 : Memref sig .tc .vmem S128x2048 .bf16) (harg11 : arg11.IsWhole) (arg12 : Memref sig .tc .vmem S2x4x512x512 .f32) (harg12 : arg12.IsWhole) (arg13 : Memref sig .tc .vmem S4x1x512 .f32) (harg13 : arg13.IsWhole) (arg14 : Memref sig .tc .vmem S4x144x512 .f32) (harg14 : arg14.IsWhole) (hc1 : ¬k0_cond1 i = 1#1) (hc2 : k0_cond2 i = 1#1) (hc3 : ¬k0_cond3 i = 1#1) (hc4 : k0_cond4 i = 1#1)
    (x0 : Vec F S1024x512 .bf16) (x1 : Vec F S1024x512 .bf16) (x2 : Vec F S4096x1024 .bf16) (x3 : Vec F S8x576x512 .bf16) (x4 : Vec F S1x32x8192 .f32) (x5 : Vec F S1x128x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_mla_attention i arg3 harg3 arg4 harg4 arg5 harg5 arg6 harg6 arg7 harg7 arg8 harg8 arg9 harg9 arg10 harg10 arg11 harg11 arg12 harg12 arg13 harg13 arg14 harg14) K := by
  intro E K
  simp only [cc0_mla_attention_eq_skeleton]; unfold cc0_mla_attention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.Kernel.Hand

end
-- ==== Proof.K.Frame.lean ====
/- The frame of the attention kernel: the outputs' contents are not named, the scratch is held at some contents
   between grid points, and the body's three runs cover every point. -/
module

public import proofs.«01_k».proof.Proof.K.RunC
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents are not named: the three results. -/
def forgets : Fin 9 → Bool := fun w => decide (6 ≤ w.val)

/-- The proof data: inputs keep their blocks, results unnamed, the scratch at some contents, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q w := Pipeline.shareOf spec0 w
  owed _ := 0

/-- The arrays are as the region finds them. -/
theorem A_eq (c : Dev nD) (w : Fin cfg0.W) : (dats m 0 c).A w = V m c (Pipeline.arrRef spec0 w) := by
  dsimp only [dats]

/-- Input 0 keeps its block. -/
theorem after0 (c : Dev nD) (t : Fin cfg0.N) : (dats m 0 c).after 0 t = iblk m c 0 t := by dsimp only [dats]
/-- Input 1 keeps its block. -/
theorem after1 (c : Dev nD) (t : Fin cfg0.N) : (dats m 0 c).after 1 t = iblk m c 1 t := by dsimp only [dats]
/-- Input 2 keeps its block. -/
theorem after2 (c : Dev nD) (t : Fin cfg0.N) : (dats m 0 c).after 2 t = iblk m c 2 t := by dsimp only [dats]
/-- Input 3 keeps its block. -/
theorem after3 (c : Dev nD) (t : Fin cfg0.N) : (dats m 0 c).after 3 t = iblk m c 3 t := by dsimp only [dats]
/-- Input 4 keeps its block. -/
theorem after4 (c : Dev nD) (t : Fin cfg0.N) : (dats m 0 c).after 4 t = iblk m c 4 t := by dsimp only [dats]
/-- Input 5 keeps its block. -/
theorem after5 (c : Dev nD) (t : Fin cfg0.N) : (dats m 0 c).after 5 t = iblk m c 5 t := by dsimp only [dats]
/-- Input 0 is met at its block. -/
theorem before0 (c : Dev nD) (t : Fin cfg0.N) (d) : (dats m 0 c).before 0 t d = iblk m c 0 t :=
  before0_0_of m (dats m 0 c) (A_eq m c 0) (after0 m c) t d
/-- Input 1 is met at its block. -/
theorem before1 (c : Dev nD) (t : Fin cfg0.N) (d) : (dats m 0 c).before 1 t d = iblk m c 1 t :=
  before0_1_of m (dats m 0 c) (A_eq m c 1) (after1 m c) t d
/-- Input 2 is met at its block. -/
theorem before2 (c : Dev nD) (t : Fin cfg0.N) (d) : (dats m 0 c).before 2 t d = iblk m c 2 t :=
  before0_2_of m (dats m 0 c) (A_eq m c 2) (after2 m c) t d
/-- Input 3 is met at its block. -/
theorem before3 (c : Dev nD) (t : Fin cfg0.N) (d) : (dats m 0 c).before 3 t d = iblk m c 3 t :=
  before0_3_of m (dats m 0 c) (A_eq m c 3) (after3 m c) t d
/-- Input 4 is met at its block. -/
theorem before4 (c : Dev nD) (t : Fin cfg0.N) (d) : (dats m 0 c).before 4 t d = iblk m c 4 t :=
  before0_4_of m (dats m 0 c) (A_eq m c 4) (after4 m c) t d
/-- Input 5 is met at its block. -/
theorem before5 (c : Dev nD) (t : Fin cfg0.N) (d) : (dats m 0 c).before 5 t d = iblk m c 5 t :=
  before0_5_of m (dats m 0 c) (A_eq m c 5) (after5 m c) t d

/-- The first key block is scored afresh at the first query block of each head. -/
theorem cond1_iff : ∀ t : Fin grid0.N, k0_cond1 (grid0.coords t) = 1#1 ↔ t.val % 8 = 0 := by decide +kernel
/-- The odd key block is taken at the odd query blocks. -/
theorem cond2_iff : ∀ t : Fin grid0.N, k0_cond2 (grid0.coords t) = 1#1 ↔ t.val % 2 = 1 := by decide +kernel
/-- The diagonal block is finished from slot 0 at the even query blocks. -/
theorem cond3_iff : ∀ t : Fin grid0.N, k0_cond3 (grid0.coords t) = 1#1 ↔ t.val % 2 = 0 := by decide +kernel
/-- The diagonal block is finished from slot 1 at the odd query blocks. -/
theorem cond4_iff : ∀ t : Fin grid0.N, k0_cond4 (grid0.coords t) = 1#1 ↔ t.val % 2 = 1 := by decide +kernel

/-- The scratch buffers as memrefs held at some contents. -/
theorem PhiA_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d))

set_option maxHeartbeats 1600000 in
/-- The body at any point, by the case its query block is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = Pipeline.ΦA spec0 c from rfl, PhiA_eq]
  have e1 := cond1_iff t
  have e2 := cond2_iff t
  have e3 := cond3_iff t
  have e4 := cond4_iff t
  by_cases h0 : t.val % 8 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) _ _ _ _ _ _ _ _ _ _ _ _ _ _ _ _ _ _ _ _ _ _ _ _ (e1.mpr h0) (fun h => by have := e2.mp h; omega) (e3.mpr (by omega)) (fun h => by have := e4.mp h; omega) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  by_cases h1 : t.val % 2 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid0.coords t) _ _ _ _ _ _ _ _ _ _ _ _ _ _ _ _ _ _ _ _ _ _ _ _ (fun h => h0 (e1.mp h)) (fun h => by have := e2.mp h; omega) (e3.mpr h1) (fun h => by have := e4.mp h; omega) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runC c (grid0.coords t) _ _ _ _ _ _ _ _ _ _ _ _ _ _ _ _ _ _ _ _ _ _ _ _ (fun h => h0 (e1.mp h)) (e2.mpr (by omega)) (fun h => h1 (e3.mp h)) (e4.mpr (by omega)) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at a point's slots is the body at that point. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every execution terminates with the inputs unchanged and every counter at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(Pipeline.RDat.FramePost.arr_in h.1 c 1 rfl).trans ((A_eq m c 1).trans (V_main_arg0 m c)), (Pipeline.RDat.FramePost.arr_in h.1 c 2 rfl).trans ((A_eq m c 2).trans (V_main_arg1 m c)), (Pipeline.RDat.FramePost.arr_in h.1 c 3 rfl).trans ((A_eq m c 3).trans (V_main_arg2 m c)), (Pipeline.RDat.FramePost.arr_in h.1 c 4 rfl).trans ((A_eq m c 4).trans (V_main_arg3 m c)), (Pipeline.RDat.FramePost.arr_in h.1 c 5 rfl).trans ((A_eq m c 5).trans (V_main_arg4 m c))⟩, h.2⟩) (run_main m ρ)

end Cert.Kernel.Hand

end
-- ==== Proof.KI.State.lean ====
/- What the attention kernel's scratch buffers hold between its steps, as a recursion over the blocks of keys, and the reading of a window of a buffer
   through the stores made into it. -/
module

public import proofs.«01_k».proof.Proof.Gen.KernelIdeal.Loops
public import Idealize.ShloMosaic.Lib.VecWindow
public import Mathlib.Tactic.IntervalCases
public import Mathlib.Tactic.NormNum

@[expose] public section

set_option maxRecDepth 16384

noncomputable section

namespace Cert.KernelIdeal.Hand

open Idealize.ShloMosaic Idealize.ShloMosaic.TcCoe
open Cert.KernelIdeal.Gen

section win

variable {s : Shape} {e : EltTy} {Val : EltTy → Type} [∀ e, Nonempty (Val e)]

/-- The window of `x` of the given sizes at the given offsets where it lies inside the shape (otherwise some fixed value). -/
def win (x : s.Idx → Val e) (off size : Fin s.rank → ℕ) : (⟨s.rank, size⟩ : Shape).Idx → Val e :=
  if h : ∀ a, off a + size a ≤ s.size a then VecWindow.window x off size h else fun _ => Classical.arbitrary _

theorem win_of_inb (x : s.Idx → Val e) (off size : Fin s.rank → ℕ) (h : ∀ a, off a + size a ≤ s.size a) :
    win x off size = VecWindow.window x off size h := dif_pos h

variable {sig : RefSig} {κ : Kind} {sp : Space}

/-- A load of a window of a buffer is that window of what the buffer reads as. -/
theorem readAt_win (v : View sig κ sp s e) (f : v.ty.Contents Val) (off size : Fin s.rank → ℕ) (inb : ∀ a, off a + size a ≤ s.size a) :
    v.readAt Val (Rect.unit off size inb).toLoadRect f = win (v.read Val f) off size := by
  rw [win_of_inb _ _ _ inb]; exact View.readAt_unit v f inb rfl inb

/-- The same for a load that the stores made so far cover. -/
theorem readCov_win (v : View sig κ sp s e) (L : List (View.Piece Val s e)) (off size : Fin s.rank → ℕ) (inb : ∀ a, off a + size a ≤ s.size a) :
    v.readCov L (Rect.unit off size inb).toLoadRect = win (v.read Val (v.writes Val v.junk L)) off size :=
  readAt_win v _ off size inb

/-- The window just stored reads as what was stored. -/
theorem win_hit (v : View sig κ sp s e) (f : v.ty.Contents Val) (off size : Fin s.rank → ℕ) (inb : ∀ a, off a + size a ≤ s.size a)
    (w : (Rect.unit off size inb).shape.Idx → Val e) (L : List (View.Piece Val s e)) :
    win (v.read Val (v.writes Val f (⟨Rect.unit off size inb, w⟩ :: L))) off size = w := by
  rw [View.read_writes_cons_put v f inb w L rfl, win_of_inb _ _ _ inb]
  exact VecWindow.window_put_same _ _ _ inb w

/-- A window apart from the last store reads as before it. -/
theorem win_miss (v : View sig κ sp s e) (f : v.ty.Contents Val) (off size off' size' : Fin s.rank → ℕ) (inb : ∀ a, off a + size a ≤ s.size a)
    (w : (Rect.unit off size inb).shape.Idx → Val e) (L : List (View.Piece Val s e))
    (h : ∃ a, off' a + size' a ≤ off a ∨ off a + size a ≤ off' a) :
    win (v.read Val (v.writes Val f (⟨Rect.unit off size inb, w⟩ :: L))) off' size' = win (v.read Val (v.writes Val f L)) off' size' := by
  obtain ⟨a, ha⟩ := h
  by_cases hb : ∀ a, off' a + size' a ≤ s.size a
  · rw [View.read_writes_cons_put v f inb w L rfl, win_of_inb _ _ _ hb, win_of_inb _ _ _ hb]
    exact VecWindow.window_put_of_disjoint _ _ _ _ _ hb w a ha
  · simp only [win, dif_neg hb]

/-- A window after a store of the whole buffer is that window of what was stored. -/
theorem win_fill (v : View sig κ sp s e) (f : v.ty.Contents Val) (off : Fin s.rank → ℕ) (inb : ∀ a, off a + s.size a ≤ s.size a)
    (w : s.Idx → Val e) (L : List (View.Piece Val s e)) (off' size' : Fin s.rank → ℕ) :
    win (v.read Val (v.writes Val f (⟨Rect.unit off (no_index s.size) inb, w⟩ :: L))) off' size' = win w off' size' := by
  rw [View.read_writes_full v f inb w L]

end win

variable {F : FTy → Type} [FloatOps F]

/-- The scores of block `n` of the keys against a block of queries, head `h` of the group. -/
def scoreB (q : Vec F S1024x512 .bf16) (k : Vec F S4096x1024 .bf16) (n h : ℕ) : Vec F S1x1x512x512 .f32 :=
  k0_pay10 (win k ![512 * n, 256 * h] S512x256.size) (win q ![256 * h, 0] S256x512.size)

/-- Block `n` of the padded transposed values, head `h` of the group. -/
def valB (v : Vec F S8x576x512 .bf16) (n h : ℕ) : Vec F S1x144x512 .bf16 := win v ![n, 144 * h, 0] S1x144x512.size

/-- The running maximum of each query's scores after `n` blocks of keys. -/
def maxB (q : Vec F S1024x512 .bf16) (k : Vec F S4096x1024 .bf16) (h : ℕ) : ℕ → Vec F S1x1x512 .f32
  | 0 => win (s := S4x1x512) (e := .f32) (k0_pay217 (F := F)) ![h, 0, 0] S1x1x512.size
  | n + 1 => k0_pay16 (scoreB q k n h) (maxB q k h n)

/-- The running rescaled accumulator (weighted values and, in the ones row, the sum of the weights) after `n` blocks of keys. -/
def accB (q : Vec F S1024x512 .bf16) (k : Vec F S4096x1024 .bf16) (v : Vec F S8x576x512 .bf16) (h : ℕ) : ℕ → Vec F S1x144x512 .f32
  | 0 => win (s := S4x144x512) (e := .f32) (k0_pay218 (F := F)) ![h, 0, 0] S1x144x512.size
  | n + 1 => k0_pay68 (scoreB q k n h) (maxB q k h n) (valB v n h) (accB q k v h n)

/-- The three scratch buffers before block `n` of the keys: slot 0 holds its scores, and the running maximum and accumulator are those after the `n` blocks
    before it. -/
def Upto (q : Vec F S1024x512 .bf16) (k : Vec F S4096x1024 .bf16) (v : Vec F S8x576x512 .bf16) (n : ℕ)
    (s : Vec F S2x4x512x512 .f32) (m : Vec F S4x1x512 .f32) (a : Vec F S4x144x512 .f32) : Prop :=
  ∀ h : ℕ, h < 4 → win s ![0, h, 0, 0] S1x1x512x512.size = scoreB q k n h ∧ win m ![h, 0, 0] S1x1x512.size = maxB q k h n
    ∧ win a ![h, 0, 0] S1x144x512.size = accB q k v h n

end Cert.KernelIdeal.Hand

end
-- ==== Proof.KI.Offs.lean ====
/- Where the loads of one pass of the loop stand. -/
module

public import proofs.«01_k».proof.Proof.KI.State

@[expose] public section

set_option maxRecDepth 16384

noncomputable section

namespace Cert.KernelIdeal.Hand

open Idealize.ShloMosaic Idealize.ShloMosaic.TcCoe Idealize.ShloMosaic.Tactic
open Cert.KernelIdeal.Gen

/-- The loop makes at most three passes. -/
theorem trips_lt : ∀ i : grid0.Coords, (k0_t1_loop i).trips < 4 := by decide +kernel

theorem trips_le (i : grid0.Coords) (k : Fin (k0_t1_loop i).trips) : k.val < 4 := lt_trans k.isLt (trips_lt i)

theorem off1_eq (i : grid0.Coords) (k : Fin (k0_t1_loop i).trips) : k0_off1 i k = ![512 * (2 * k.val + 1), 0] := by
  have h := trips_le i k
  unfold k0_off1
  generalize k.val = n at h ⊢
  revert n; decide +kernel

theorem off2_eq (i : grid0.Coords) (k : Fin (k0_t1_loop i).trips) : k0_off2 i k = ![2 * k.val, 0, 0] := by
  have h := trips_le i k
  unfold k0_off2
  generalize k.val = n at h ⊢
  revert n; decide +kernel

theorem off3_eq (i : grid0.Coords) (k : Fin (k0_t1_loop i).trips) : k0_off3 i k = ![512 * (2 * k.val + 1), 256] := by
  have h := trips_le i k
  unfold k0_off3
  generalize k.val = n at h ⊢
  revert n; decide +kernel

theorem off4_eq (i : grid0.Coords) (k : Fin (k0_t1_loop i).trips) : k0_off4 i k = ![2 * k.val, 144, 0] := by
  have h := trips_le i k
  unfold k0_off4
  generalize k.val = n at h ⊢
  revert n; decide +kernel

theorem off5_eq (i : grid0.Coords) (k : Fin (k0_t1_loop i).trips) : k0_off5 i k = ![512 * (2 * k.val + 1), 512] := by
  have h := trips_le i k
  unfold k0_off5
  generalize k.val = n at h ⊢
  revert n; decide +kernel

theorem off6_eq (i : grid0.Coords) (k : Fin (k0_t1_loop i).trips) : k0_off6 i k = ![2 * k.val, 288, 0] := by
  have h := trips_le i k
  unfold k0_off6
  generalize k.val = n at h ⊢
  revert n; decide +kernel

theorem off7_eq (i : grid0.Coords) (k : Fin (k0_t1_loop i).trips) : k0_off7 i k = ![512 * (2 * k.val + 1), 768] := by
  have h := trips_le i k
  unfold k0_off7
  generalize k.val = n at h ⊢
  revert n; decide +kernel

theorem off8_eq (i : grid0.Coords) (k : Fin (k0_t1_loop i).trips) : k0_off8 i k = ![2 * k.val, 432, 0] := by
  have h := trips_le i k
  unfold k0_off8
  generalize k.val = n at h ⊢
  revert n; decide +kernel

theorem off9_eq (i : grid0.Coords) (k : Fin (k0_t1_loop i).trips) : k0_off9 i k = ![512 * (2 * k.val + 2), 0] := by
  have h := trips_le i k
  unfold k0_off9
  generalize k.val = n at h ⊢
  revert n; decide +kernel

theorem off10_eq (i : grid0.Coords) (k : Fin (k0_t1_loop i).trips) : k0_off10 i k = ![2 * k.val + 1, 0, 0] := by
  have h := trips_le i k
  unfold k0_off10
  generalize k.val = n at h ⊢
  revert n; decide +kernel

theorem off11_eq (i : grid0.Coords) (k : Fin (k0_t1_loop i).trips) : k0_off11 i k = ![512 * (2 * k.val + 2), 256] := by
  have h := trips_le i k
  unfold k0_off11
  generalize k.val = n at h ⊢
  revert n; decide +kernel

theorem off12_eq (i : grid0.Coords) (k : Fin (k0_t1_loop i).trips) : k0_off12 i k = ![2 * k.val + 1, 144, 0] := by
  have h := trips_le i k
  unfold k0_off12
  generalize k.val = n at h ⊢
  revert n; decide +kernel

theorem off13_eq (i : grid0.Coords) (k : Fin (k0_t1_loop i).trips) : k0_off13 i k = ![512 * (2 * k.val + 2), 512] := by
  have h := trips_le i k
  unfold k0_off13
  generalize k.val = n at h ⊢
  revert n; decide +kernel

theorem off14_eq (i : grid0.Coords) (k : Fin (k0_t1_loop i).trips) : k0_off14 i k = ![2 * k.val + 1, 288, 0] := by
  have h := trips_le i k
  unfold k0_off14
  generalize k.val = n at h ⊢
  revert n; decide +kernel

theorem off15_eq (i : grid0.Coords) (k : Fin (k0_t1_loop i).trips) : k0_off15 i k = ![512 * (2 * k.val + 2), 768] := by
  have h := trips_le i k
  unfold k0_off15
  generalize k.val = n at h ⊢
  revert n; decide +kernel

theorem off16_eq (i : grid0.Coords) (k : Fin (k0_t1_loop i).trips) : k0_off16 i k = ![2 * k.val + 1, 432, 0] := by
  have h := trips_le i k
  unfold k0_off16
  generalize k.val = n at h ⊢
  revert n; decide +kernel

end Cert.KernelIdeal.Hand

end
-- ==== Proof.KI.Trip.lean ====
/- One pass of the kernel's loop over pairs of key blocks takes the scratch buffers from before block 2k to before block 2k + 2. -/
module

public import proofs.«01_k».proof.Proof.KI.Offs

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

set_option maxHeartbeats 4000000 in
/-- One pass of the loop. -/
theorem trip_upto (𝒱 : Variants) (c : Dev nD) (bd : Option 𝒱.V) (i : grid0.Coords) (arg3 : Memref sig .tc .vmem S1024x512 .bf16) (harg3 : arg3.IsWhole) (arg4 : Memref sig .tc .vmem S1024x512 .bf16) (harg4 : arg4.IsWhole) (arg5 : Memref sig .tc .vmem S4096x1024 .bf16) (harg5 : arg5.IsWhole) (arg6 : Memref sig .tc .vmem S8x576x512 .bf16) (harg6 : arg6.IsWhole) (arg7 : Memref sig .tc .vmem S1x32x8192 .f32) (harg7 : arg7.IsWhole) (arg8 : Memref sig .tc .vmem S1x128x2048 .f32) (harg8 : arg8.IsWhole) (arg9 : Memref sig .tc .vmem S512x512 .bf16) (harg9 : arg9.IsWhole) (arg10 : Memref sig .tc .vmem S32x8192 .bf16) (harg10 : arg10.IsWhole) (arg11 : Memref sig .tc .vmem S128x2048 .bf16) (harg11 : arg11.IsWhole) (arg12 : Memref sig .tc .vmem S2x4x512x512 .f32) (harg12 : arg12.IsWhole) (arg13 : Memref sig .tc .vmem S4x1x512 .f32) (harg13 : arg13.IsWhole) (arg14 : Memref sig .tc .vmem S4x144x512 .f32) (harg14 : arg14.IsWhole) (arg2 : BitVec 32) (c2_i32 : BitVec 32) (v19 : BitVec 32) (v24 : BitVec 32) (v26 : BitVec 32) (c0_i32_20 : BitVec 32) (X_arg3 : BufTy.Contents (Elt F) arg3.view.ty) (X_arg5 : BufTy.Contents (Elt F) arg5.view.ty) (X_arg6 : BufTy.Contents (Elt F) arg6.view.ty) (k : Fin (k0_t1_loop i).trips)
    (f12 : BufTy.Contents (Elt F) arg12.view.ty) (f13 : BufTy.Contents (Elt F) arg13.view.ty) (f14 : BufTy.Contents (Elt F) arg14.view.ty)
    (H : Upto (arg3.view.read (Elt F) X_arg3) (arg5.view.read (Elt F) X_arg5) (arg6.view.read (Elt F) X_arg6) (2 * k.val)
      (arg12.view.read (Elt F) f12) (arg13.view.read (Elt F) f13) (arg14.view.read (Elt F) f14)) :
    Upto (arg3.view.read (Elt F) X_arg3) (arg5.view.read (Elt F) X_arg5) (arg6.view.read (Elt F) X_arg6) (2 * k.val + 2)
      (arg12.view.read (Elt F) (arg12.view.writes (Elt F) f12 (tripL_k0_t1 𝒱 c bd i arg3 harg3 arg4 harg4 arg5 harg5 arg6 harg6 arg7 harg7 arg8 harg8 arg9 harg9 arg10 harg10 arg11 harg11 arg12 harg12 arg13 harg13 arg14 harg14 arg2 c2_i32 v19 v24 v26 c0_i32_20 X_arg3 X_arg5 X_arg6 k f12 f13 f14).1))
      (arg13.view.read (Elt F) (arg13.view.writes (Elt F) f13 (tripL_k0_t1 𝒱 c bd i arg3 harg3 arg4 harg4 arg5 harg5 arg6 harg6 arg7 harg7 arg8 harg8 arg9 harg9 arg10 harg10 arg11 harg11 arg12 harg12 arg13 harg13 arg14 harg14 arg2 c2_i32 v19 v24 v26 c0_i32_20 X_arg3 X_arg5 X_arg6 k f12 f13 f14).2.1))
      (arg14.view.read (Elt F) (arg14.view.writes (Elt F) f14 (tripL_k0_t1 𝒱 c bd i arg3 harg3 arg4 harg4 arg5 harg5 arg6 harg6 arg7 harg7 arg8 harg8 arg9 harg9 arg10 harg10 arg11 harg11 arg12 harg12 arg13 harg13 arg14 harg14 arg2 c2_i32 v19 v24 v26 c0_i32_20 X_arg3 X_arg5 X_arg6 k f12 f13 f14).2.2)) := by
  unfold tripL_k0_t1 trip_k0_t1
  dsimp only
  simp only [trip_k0_t1.sl.HW_arg12_5, trip_k0_t1.sl.HW_arg12_6, trip_k0_t1.sl.HW_arg12_7, trip_k0_t1.sl.HW_arg12_8, trip_k0_t1.sl.HW_arg13_4, trip_k0_t1.sl.HW_arg13_5, trip_k0_t1.sl.HW_arg13_6, trip_k0_t1.sl.HW_arg13_7, trip_k0_t1.sl.HW_arg14_4, trip_k0_t1.sl.HW_arg14_5, trip_k0_t1.sl.HW_arg14_6, trip_k0_t1.sl.HW_arg14_7, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.cst_87, trip_k0_t1.sl.v438, trip_k0_t1.sl.v181, trip_k0_t1.sl.v302, trip_k0_t1.sl.v360, trip_k0_t1.sl.v380, trip_k0_t1.sl.v399, trip_k0_t1.sl.v289, trip_k0_t1.sl.v300, trip_k0_t1.sl.v341, trip_k0_t1.sl.v183, trip_k0_t1.sl.v261, trip_k0_t1.sl.v202, trip_k0_t1.sl.v280, trip_k0_t1.sl.v142, trip_k0_t1.sl.v417, trip_k0_t1.sl.v378, trip_k0_t1.sl.v259, trip_k0_t1.sl.v339, trip_k0_t1.sl.v419, trip_k0_t1.sl.v256, trip_k0_t1.sl.v241, trip_k0_t1.sl.v220, trip_k0_t1.sl.v321, trip_k0_t1.sl.v222, readAt_win, readCov_win, off1_eq, off2_eq, off3_eq, off4_eq, off5_eq, off6_eq, off7_eq, off8_eq, off9_eq, off10_eq, off11_eq, off12_eq, off13_eq, off14_eq, off15_eq, off16_eq]
  have H0 := H 0 (by decide)
  have H1 := H 1 (by decide)
  have H2 := H 2 (by decide)
  have H3 := H 3 (by decide)
  intro h hh
  interval_cases h <;>
    simp (disch := decide) only [↓ win_hit, ↓ win_miss, H0.1, H0.2.1, H0.2.2, H1.1, H1.2.1, H1.2.2, H2.1, H2.2.1, H2.2.2, H3.1, H3.2.1, H3.2.2]
  all_goals exact ⟨rfl, rfl, rfl⟩

end Cert.KernelIdeal.Hand

end
-- ==== Proof.KI.Loop.lean ====
/- The whole loop, where the loads after it stand, and what the body writes. -/
module

public import proofs.«01_k».proof.Proof.KI.Trip

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

/-- The loop after its first `n` passes: the scratch buffers stand before key block `2 * n`. -/
theorem loop_upto  (𝒱 : Variants) (c : Dev nD) (bd : Option 𝒱.V) (i : grid0.Coords) (arg3 : Memref sig .tc .vmem S1024x512 .bf16) (harg3 : arg3.IsWhole) (arg4 : Memref sig .tc .vmem S1024x512 .bf16) (harg4 : arg4.IsWhole) (arg5 : Memref sig .tc .vmem S4096x1024 .bf16) (harg5 : arg5.IsWhole) (arg6 : Memref sig .tc .vmem S8x576x512 .bf16) (harg6 : arg6.IsWhole) (arg7 : Memref sig .tc .vmem S1x32x8192 .f32) (harg7 : arg7.IsWhole) (arg8 : Memref sig .tc .vmem S1x128x2048 .f32) (harg8 : arg8.IsWhole) (arg9 : Memref sig .tc .vmem S512x512 .bf16) (harg9 : arg9.IsWhole) (arg10 : Memref sig .tc .vmem S32x8192 .bf16) (harg10 : arg10.IsWhole) (arg11 : Memref sig .tc .vmem S128x2048 .bf16) (harg11 : arg11.IsWhole) (arg12 : Memref sig .tc .vmem S2x4x512x512 .f32) (harg12 : arg12.IsWhole) (arg13 : Memref sig .tc .vmem S4x1x512 .f32) (harg13 : arg13.IsWhole) (arg14 : Memref sig .tc .vmem S4x144x512 .f32) (harg14 : arg14.IsWhole) (arg2 : BitVec 32) (c2_i32 : BitVec 32) (v19 : BitVec 32) (v24 : BitVec 32) (v26 : BitVec 32) (c0_i32_20 : BitVec 32) (X_arg3 : BufTy.Contents (Elt F) arg3.view.ty) (X_arg5 : BufTy.Contents (Elt F) arg5.view.ty) (X_arg6 : BufTy.Contents (Elt F) arg6.view.ty)
    (G12 : BufTy.Contents (Elt F) arg12.view.ty) (G13 : BufTy.Contents (Elt F) arg13.view.ty) (G14 : BufTy.Contents (Elt F) arg14.view.ty)
    (H : Upto (arg3.view.read (Elt F) X_arg3) (arg5.view.read (Elt F) X_arg5) (arg6.view.read (Elt F) X_arg6) 0
      (arg12.view.read (Elt F) G12) (arg13.view.read (Elt F) G13) (arg14.view.read (Elt F) G14)) :
    ∀ n, n ≤ (k0_t1_loop i).trips → Upto (arg3.view.read (Elt F) X_arg3) (arg5.view.read (Elt F) X_arg5) (arg6.view.read (Elt F) X_arg6) (2 * n)
      (arg12.view.read (Elt F) (arg12.view.writes (Elt F) G12 (pb_k0_t1 𝒱 c bd i arg3 harg3 arg4 harg4 arg5 harg5 arg6 harg6 arg7 harg7 arg8 harg8 arg9 harg9 arg10 harg10 arg11 harg11 arg12 harg12 arg13 harg13 arg14 harg14 arg2 c2_i32 v19 v24 v26 c0_i32_20 X_arg3 X_arg5 X_arg6 G12 G13 G14 n).1))
      (arg13.view.read (Elt F) (arg13.view.writes (Elt F) G13 (pb_k0_t1 𝒱 c bd i arg3 harg3 arg4 harg4 arg5 harg5 arg6 harg6 arg7 harg7 arg8 harg8 arg9 harg9 arg10 harg10 arg11 harg11 arg12 harg12 arg13 harg13 arg14 harg14 arg2 c2_i32 v19 v24 v26 c0_i32_20 X_arg3 X_arg5 X_arg6 G12 G13 G14 n).2.1))
      (arg14.view.read (Elt F) (arg14.view.writes (Elt F) G14 (pb_k0_t1 𝒱 c bd i arg3 harg3 arg4 harg4 arg5 harg5 arg6 harg6 arg7 harg7 arg8 harg8 arg9 harg9 arg10 harg10 arg11 harg11 arg12 harg12 arg13 harg13 arg14 harg14 arg2 c2_i32 v19 v24 v26 c0_i32_20 X_arg3 X_arg5 X_arg6 G12 G13 G14 n).2.2))
  | 0, _ => H
  | n + 1, hn => by
    have ih := loop_upto 𝒱 c bd i arg3 harg3 arg4 harg4 arg5 harg5 arg6 harg6 arg7 harg7 arg8 harg8 arg9 harg9 arg10 harg10 arg11 harg11 arg12 harg12 arg13 harg13 arg14 harg14 arg2 c2_i32 v19 v24 v26 c0_i32_20 X_arg3 X_arg5 X_arg6 G12 G13 G14 H n (by omega)
    have h := pb_k0_t1_succ 𝒱 c bd i arg3 harg3 arg4 harg4 arg5 harg5 arg6 harg6 arg7 harg7 arg8 harg8 arg9 harg9 arg10 harg10 arg11 harg11 arg12 harg12 arg13 harg13 arg14 harg14 arg2 c2_i32 v19 v24 v26 c0_i32_20 X_arg3 X_arg5 X_arg6 G12 G13 G14 ⟨n, hn⟩
    dsimp only at h
    rw [h]
    dsimp only
    simp only [View.writes_append]
    exact trip_upto 𝒱 c bd i arg3 harg3 arg4 harg4 arg5 harg5 arg6 harg6 arg7 harg7 arg8 harg8 arg9 harg9 arg10 harg10 arg11 harg11 arg12 harg12 arg13 harg13 arg14 harg14 arg2 c2_i32 v19 v24 v26 c0_i32_20 X_arg3 X_arg5 X_arg6 ⟨n, hn⟩ _ _ _ ih

theorem loop_s  {𝒱 : Variants} {c : Dev nD} {bd : Option 𝒱.V} {i : grid0.Coords} {arg3 : Memref sig .tc .vmem S1024x512 .bf16} {harg3 : arg3.IsWhole} {arg4 : Memref sig .tc .vmem S1024x512 .bf16} {harg4 : arg4.IsWhole} {arg5 : Memref sig .tc .vmem S4096x1024 .bf16} {harg5 : arg5.IsWhole} {arg6 : Memref sig .tc .vmem S8x576x512 .bf16} {harg6 : arg6.IsWhole} {arg7 : Memref sig .tc .vmem S1x32x8192 .f32} {harg7 : arg7.IsWhole} {arg8 : Memref sig .tc .vmem S1x128x2048 .f32} {harg8 : arg8.IsWhole} {arg9 : Memref sig .tc .vmem S512x512 .bf16} {harg9 : arg9.IsWhole} {arg10 : Memref sig .tc .vmem S32x8192 .bf16} {harg10 : arg10.IsWhole} {arg11 : Memref sig .tc .vmem S128x2048 .bf16} {harg11 : arg11.IsWhole} {arg12 : Memref sig .tc .vmem S2x4x512x512 .f32} {harg12 : arg12.IsWhole} {arg13 : Memref sig .tc .vmem S4x1x512 .f32} {harg13 : arg13.IsWhole} {arg14 : Memref sig .tc .vmem S4x144x512 .f32} {harg14 : arg14.IsWhole} {arg2 : BitVec 32} {c2_i32 : BitVec 32} {v19 : BitVec 32} {v24 : BitVec 32} {v26 : BitVec 32} {c0_i32_20 : BitVec 32} {X_arg3 : BufTy.Contents (Elt F) arg3.view.ty} {X_arg5 : BufTy.Contents (Elt F) arg5.view.ty} {X_arg6 : BufTy.Contents (Elt F) arg6.view.ty}
    {G12 : BufTy.Contents (Elt F) arg12.view.ty} {G13 : BufTy.Contents (Elt F) arg13.view.ty} {G14 : BufTy.Contents (Elt F) arg14.view.ty}
    (H : Upto (arg3.view.read (Elt F) X_arg3) (arg5.view.read (Elt F) X_arg5) (arg6.view.read (Elt F) X_arg6) 0
      (arg12.view.read (Elt F) G12) (arg13.view.read (Elt F) G13) (arg14.view.read (Elt F) G14))
    {n : ℕ} (hn : n = (k0_t1_loop i).trips) {h : ℕ} (hh : h < 4) :
    win (arg12.view.read (Elt F) (arg12.view.writes (Elt F) G12 (pb_k0_t1 𝒱 c bd i arg3 harg3 arg4 harg4 arg5 harg5 arg6 harg6 arg7 harg7 arg8 harg8 arg9 harg9 arg10 harg10 arg11 harg11 arg12 harg12 arg13 harg13 arg14 harg14 arg2 c2_i32 v19 v24 v26 c0_i32_20 X_arg3 X_arg5 X_arg6 G12 G13 G14 n).1)) ![0, h, 0, 0] S1x1x512x512.size = scoreB (arg3.view.read (Elt F) X_arg3) (arg5.view.read (Elt F) X_arg5) (2 * (k0_t1_loop i).trips) h := by
  subst hn
  exact (loop_upto 𝒱 c bd i arg3 harg3 arg4 harg4 arg5 harg5 arg6 harg6 arg7 harg7 arg8 harg8 arg9 harg9 arg10 harg10 arg11 harg11 arg12 harg12 arg13 harg13 arg14 harg14 arg2 c2_i32 v19 v24 v26 c0_i32_20 X_arg3 X_arg5 X_arg6 G12 G13 G14 H _ le_rfl h hh).1

theorem loop_m  {𝒱 : Variants} {c : Dev nD} {bd : Option 𝒱.V} {i : grid0.Coords} {arg3 : Memref sig .tc .vmem S1024x512 .bf16} {harg3 : arg3.IsWhole} {arg4 : Memref sig .tc .vmem S1024x512 .bf16} {harg4 : arg4.IsWhole} {arg5 : Memref sig .tc .vmem S4096x1024 .bf16} {harg5 : arg5.IsWhole} {arg6 : Memref sig .tc .vmem S8x576x512 .bf16} {harg6 : arg6.IsWhole} {arg7 : Memref sig .tc .vmem S1x32x8192 .f32} {harg7 : arg7.IsWhole} {arg8 : Memref sig .tc .vmem S1x128x2048 .f32} {harg8 : arg8.IsWhole} {arg9 : Memref sig .tc .vmem S512x512 .bf16} {harg9 : arg9.IsWhole} {arg10 : Memref sig .tc .vmem S32x8192 .bf16} {harg10 : arg10.IsWhole} {arg11 : Memref sig .tc .vmem S128x2048 .bf16} {harg11 : arg11.IsWhole} {arg12 : Memref sig .tc .vmem S2x4x512x512 .f32} {harg12 : arg12.IsWhole} {arg13 : Memref sig .tc .vmem S4x1x512 .f32} {harg13 : arg13.IsWhole} {arg14 : Memref sig .tc .vmem S4x144x512 .f32} {harg14 : arg14.IsWhole} {arg2 : BitVec 32} {c2_i32 : BitVec 32} {v19 : BitVec 32} {v24 : BitVec 32} {v26 : BitVec 32} {c0_i32_20 : BitVec 32} {X_arg3 : BufTy.Contents (Elt F) arg3.view.ty} {X_arg5 : BufTy.Contents (Elt F) arg5.view.ty} {X_arg6 : BufTy.Contents (Elt F) arg6.view.ty}
    {G12 : BufTy.Contents (Elt F) arg12.view.ty} {G13 : BufTy.Contents (Elt F) arg13.view.ty} {G14 : BufTy.Contents (Elt F) arg14.view.ty}
    (H : Upto (arg3.view.read (Elt F) X_arg3) (arg5.view.read (Elt F) X_arg5) (arg6.view.read (Elt F) X_arg6) 0
      (arg12.view.read (Elt F) G12) (arg13.view.read (Elt F) G13) (arg14.view.read (Elt F) G14))
    {n : ℕ} (hn : n = (k0_t1_loop i).trips) {h : ℕ} (hh : h < 4) :
    win (arg13.view.read (Elt F) (arg13.view.writes (Elt F) G13 (pb_k0_t1 𝒱 c bd i arg3 harg3 arg4 harg4 arg5 harg5 arg6 harg6 arg7 harg7 arg8 harg8 arg9 harg9 arg10 harg10 arg11 harg11 arg12 harg12 arg13 harg13 arg14 harg14 arg2 c2_i32 v19 v24 v26 c0_i32_20 X_arg3 X_arg5 X_arg6 G12 G13 G14 n).2.1)) ![h, 0, 0] S1x1x512.size = maxB (arg3.view.read (Elt F) X_arg3) (arg5.view.read (Elt F) X_arg5) h (2 * (k0_t1_loop i).trips) := by
  subst hn
  exact (loop_upto 𝒱 c bd i arg3 harg3 arg4 harg4 arg5 harg5 arg6 harg6 arg7 harg7 arg8 harg8 arg9 harg9 arg10 harg10 arg11 harg11 arg12 harg12 arg13 harg13 arg14 harg14 arg2 c2_i32 v19 v24 v26 c0_i32_20 X_arg3 X_arg5 X_arg6 G12 G13 G14 H _ le_rfl h hh).2.1

theorem loop_a  {𝒱 : Variants} {c : Dev nD} {bd : Option 𝒱.V} {i : grid0.Coords} {arg3 : Memref sig .tc .vmem S1024x512 .bf16} {harg3 : arg3.IsWhole} {arg4 : Memref sig .tc .vmem S1024x512 .bf16} {harg4 : arg4.IsWhole} {arg5 : Memref sig .tc .vmem S4096x1024 .bf16} {harg5 : arg5.IsWhole} {arg6 : Memref sig .tc .vmem S8x576x512 .bf16} {harg6 : arg6.IsWhole} {arg7 : Memref sig .tc .vmem S1x32x8192 .f32} {harg7 : arg7.IsWhole} {arg8 : Memref sig .tc .vmem S1x128x2048 .f32} {harg8 : arg8.IsWhole} {arg9 : Memref sig .tc .vmem S512x512 .bf16} {harg9 : arg9.IsWhole} {arg10 : Memref sig .tc .vmem S32x8192 .bf16} {harg10 : arg10.IsWhole} {arg11 : Memref sig .tc .vmem S128x2048 .bf16} {harg11 : arg11.IsWhole} {arg12 : Memref sig .tc .vmem S2x4x512x512 .f32} {harg12 : arg12.IsWhole} {arg13 : Memref sig .tc .vmem S4x1x512 .f32} {harg13 : arg13.IsWhole} {arg14 : Memref sig .tc .vmem S4x144x512 .f32} {harg14 : arg14.IsWhole} {arg2 : BitVec 32} {c2_i32 : BitVec 32} {v19 : BitVec 32} {v24 : BitVec 32} {v26 : BitVec 32} {c0_i32_20 : BitVec 32} {X_arg3 : BufTy.Contents (Elt F) arg3.view.ty} {X_arg5 : BufTy.Contents (Elt F) arg5.view.ty} {X_arg6 : BufTy.Contents (Elt F) arg6.view.ty}
    {G12 : BufTy.Contents (Elt F) arg12.view.ty} {G13 : BufTy.Contents (Elt F) arg13.view.ty} {G14 : BufTy.Contents (Elt F) arg14.view.ty}
    (H : Upto (arg3.view.read (Elt F) X_arg3) (arg5.view.read (Elt F) X_arg5) (arg6.view.read (Elt F) X_arg6) 0
      (arg12.view.read (Elt F) G12) (arg13.view.read (Elt F) G13) (arg14.view.read (Elt F) G14))
    {n : ℕ} (hn : n = (k0_t1_loop i).trips) {h : ℕ} (hh : h < 4) :
    win (arg14.view.read (Elt F) (arg14.view.writes (Elt F) G14 (pb_k0_t1 𝒱 c bd i arg3 harg3 arg4 harg4 arg5 harg5 arg6 harg6 arg7 harg7 arg8 harg8 arg9 harg9 arg10 harg10 arg11 harg11 arg12 harg12 arg13 harg13 arg14 harg14 arg2 c2_i32 v19 v24 v26 c0_i32_20 X_arg3 X_arg5 X_arg6 G12 G13 G14 n).2.2)) ![h, 0, 0] S1x144x512.size = accB (arg3.view.read (Elt F) X_arg3) (arg5.view.read (Elt F) X_arg5) (arg6.view.read (Elt F) X_arg6) h (2 * (k0_t1_loop i).trips) := by
  subst hn
  exact (loop_upto 𝒱 c bd i arg3 harg3 arg4 harg4 arg5 harg5 arg6 harg6 arg7 harg7 arg8 harg8 arg9 harg9 arg10 harg10 arg11 harg11 arg12 harg12 arg13 harg13 arg14 harg14 arg2 c2_i32 v19 v24 v26 c0_i32_20 X_arg3 X_arg5 X_arg6 G12 G13 G14 H _ le_rfl h hh).2.2

/-- The loop of remaining single blocks makes no pass. -/
theorem trips2 : ∀ i : grid0.Coords, (k0_t2_loop i).trips = 0 := by decide +kernel

theorem pb2_nil  {𝒱 : Variants} {c : Dev nD} {bd : Option 𝒱.V} {i : grid0.Coords} {arg3 : Memref sig .tc .vmem S1024x512 .bf16} {harg3 : arg3.IsWhole} {arg4 : Memref sig .tc .vmem S1024x512 .bf16} {harg4 : arg4.IsWhole} {arg5 : Memref sig .tc .vmem S4096x1024 .bf16} {harg5 : arg5.IsWhole} {arg6 : Memref sig .tc .vmem S8x576x512 .bf16} {harg6 : arg6.IsWhole} {arg7 : Memref sig .tc .vmem S1x32x8192 .f32} {harg7 : arg7.IsWhole} {arg8 : Memref sig .tc .vmem S1x128x2048 .f32} {harg8 : arg8.IsWhole} {arg9 : Memref sig .tc .vmem S512x512 .bf16} {harg9 : arg9.IsWhole} {arg10 : Memref sig .tc .vmem S32x8192 .bf16} {harg10 : arg10.IsWhole} {arg11 : Memref sig .tc .vmem S128x2048 .bf16} {harg11 : arg11.IsWhole} {arg12 : Memref sig .tc .vmem S2x4x512x512 .f32} {harg12 : arg12.IsWhole} {arg13 : Memref sig .tc .vmem S4x1x512 .f32} {harg13 : arg13.IsWhole} {arg14 : Memref sig .tc .vmem S4x144x512 .f32} {harg14 : arg14.IsWhole} {arg2 : BitVec 32} {c2_i32 : BitVec 32} {v19 : BitVec 32} {v24 : BitVec 32} {v26 : BitVec 32} {c0_i32_20 : BitVec 32} {v40 : BitVec 32} {X_arg3 : BufTy.Contents (Elt F) arg3.view.ty} {X_arg5 : BufTy.Contents (Elt F) arg5.view.ty} {X_arg6 : BufTy.Contents (Elt F) arg6.view.ty} {G_arg12 : BufTy.Contents (Elt F) arg12.view.ty} {G_arg13 : BufTy.Contents (Elt F) arg13.view.ty} {G_arg14 : BufTy.Contents (Elt F) arg14.view.ty}
    {n : ℕ} (hn : n = (k0_t2_loop i).trips) : pb_k0_t2 𝒱 c bd i arg3 harg3 arg4 harg4 arg5 harg5 arg6 harg6 arg7 harg7 arg8 harg8 arg9 harg9 arg10 harg10 arg11 harg11 arg12 harg12 arg13 harg13 arg14 harg14 arg2 c2_i32 v19 v24 v26 c0_i32_20 v40 X_arg3 X_arg5 X_arg6 G_arg12 G_arg13 G_arg14 n = ([], [], []) := by
  subst hn
  rw [trips2 i]
  exact pb_k0_t2.eq_1 _ _ _ _ _ _ _ _ _ _ _ _ _ _ _ _ _ _ _ _ _ _ _ _ _ _ _ _ _ _ _ _ _ _ _ _ _ _ _ _ _

/-- The first query block of a head is query block 0, and its loop makes no pass. -/
theorem first_zero : ∀ i : grid0.Coords, k0_cond1 i = 1#1 → (i 2).val = 0 := by decide +kernel

theorem first_trips : ∀ i : grid0.Coords, k0_cond1 i = 1#1 → (k0_t1_loop i).trips = 0 := by decide +kernel

theorem pb1_nil  {𝒱 : Variants} {c : Dev nD} {bd : Option 𝒱.V} {i : grid0.Coords} {arg3 : Memref sig .tc .vmem S1024x512 .bf16} {harg3 : arg3.IsWhole} {arg4 : Memref sig .tc .vmem S1024x512 .bf16} {harg4 : arg4.IsWhole} {arg5 : Memref sig .tc .vmem S4096x1024 .bf16} {harg5 : arg5.IsWhole} {arg6 : Memref sig .tc .vmem S8x576x512 .bf16} {harg6 : arg6.IsWhole} {arg7 : Memref sig .tc .vmem S1x32x8192 .f32} {harg7 : arg7.IsWhole} {arg8 : Memref sig .tc .vmem S1x128x2048 .f32} {harg8 : arg8.IsWhole} {arg9 : Memref sig .tc .vmem S512x512 .bf16} {harg9 : arg9.IsWhole} {arg10 : Memref sig .tc .vmem S32x8192 .bf16} {harg10 : arg10.IsWhole} {arg11 : Memref sig .tc .vmem S128x2048 .bf16} {harg11 : arg11.IsWhole} {arg12 : Memref sig .tc .vmem S2x4x512x512 .f32} {harg12 : arg12.IsWhole} {arg13 : Memref sig .tc .vmem S4x1x512 .f32} {harg13 : arg13.IsWhole} {arg14 : Memref sig .tc .vmem S4x144x512 .f32} {harg14 : arg14.IsWhole} {arg2 : BitVec 32} {c2_i32 : BitVec 32} {v19 : BitVec 32} {v24 : BitVec 32} {v26 : BitVec 32} {c0_i32_20 : BitVec 32} {X_arg3 : BufTy.Contents (Elt F) arg3.view.ty} {X_arg5 : BufTy.Contents (Elt F) arg5.view.ty} {X_arg6 : BufTy.Contents (Elt F) arg6.view.ty}
    {G12 : BufTy.Contents (Elt F) arg12.view.ty} {G13 : BufTy.Contents (Elt F) arg13.view.ty} {G14 : BufTy.Contents (Elt F) arg14.view.ty}
    : pb_k0_t1 𝒱 c bd i arg3 harg3 arg4 harg4 arg5 harg5 arg6 harg6 arg7 harg7 arg8 harg8 arg9 harg9 arg10 harg10 arg11 harg11 arg12 harg12 arg13 harg13 arg14 harg14 arg2 c2_i32 v19 v24 v26 c0_i32_20 X_arg3 X_arg5 X_arg6 G12 G13 G14 0 = ([], [], []) :=
  pb_k0_t1.eq_1 _ _ _ _ _ _ _ _ _ _ _ _ _ _ _ _ _ _ _ _ _ _ _ _ _ _ _ _ _ _ _ _ _ _ _ _ _ _ _ _

theorem trips_even : ∀ i : grid0.Coords, ¬ k0_cond2 i = 1#1 → (i 2).val = 2 * (k0_t1_loop i).trips := by decide +kernel

theorem trips_odd : ∀ i : grid0.Coords, k0_cond2 i = 1#1 → (i 2).val = 2 * (k0_t1_loop i).trips + 1 := by decide +kernel

theorem off33_eq : ∀ i : grid0.Coords, k0_cond2 i = 1#1 → k0_off33 i = ![512 * (2 * (k0_t1_loop i).trips + 1), 0] := by decide +kernel

theorem off34_eq : ∀ i : grid0.Coords, k0_cond2 i = 1#1 → k0_off34 i = ![2 * (k0_t1_loop i).trips, 0, 0] := by decide +kernel

theorem off35_eq : ∀ i : grid0.Coords, k0_cond2 i = 1#1 → k0_off35 i = ![512 * (2 * (k0_t1_loop i).trips + 1), 256] := by decide +kernel

theorem off36_eq : ∀ i : grid0.Coords, k0_cond2 i = 1#1 → k0_off36 i = ![2 * (k0_t1_loop i).trips, 144, 0] := by decide +kernel

theorem off37_eq : ∀ i : grid0.Coords, k0_cond2 i = 1#1 → k0_off37 i = ![512 * (2 * (k0_t1_loop i).trips + 1), 512] := by decide +kernel

theorem off38_eq : ∀ i : grid0.Coords, k0_cond2 i = 1#1 → k0_off38 i = ![2 * (k0_t1_loop i).trips, 288, 0] := by decide +kernel

theorem off39_eq : ∀ i : grid0.Coords, k0_cond2 i = 1#1 → k0_off39 i = ![512 * (2 * (k0_t1_loop i).trips + 1), 768] := by decide +kernel

theorem off40_eq : ∀ i : grid0.Coords, k0_cond2 i = 1#1 → k0_off40 i = ![2 * (k0_t1_loop i).trips, 432, 0] := by decide +kernel

theorem off41_eq : ∀ i : grid0.Coords, k0_cond3 i = 1#1 → k0_off41 i = ![2 * (k0_t1_loop i).trips, 0, 0] := by decide +kernel

theorem off42_eq : ∀ i : grid0.Coords, k0_cond3 i = 1#1 → k0_off42 i = ![2 * (k0_t1_loop i).trips, 144, 0] := by decide +kernel

theorem off43_eq : ∀ i : grid0.Coords, k0_cond3 i = 1#1 → k0_off43 i = ![2 * (k0_t1_loop i).trips, 288, 0] := by decide +kernel

theorem off44_eq : ∀ i : grid0.Coords, k0_cond3 i = 1#1 → k0_off44 i = ![2 * (k0_t1_loop i).trips, 432, 0] := by decide +kernel

theorem off45_eq : ∀ i : grid0.Coords, k0_cond4 i = 1#1 → k0_off45 i = ![2 * (k0_t1_loop i).trips + 1, 0, 0] := by decide +kernel

theorem off46_eq : ∀ i : grid0.Coords, k0_cond4 i = 1#1 → k0_off46 i = ![2 * (k0_t1_loop i).trips + 1, 144, 0] := by decide +kernel

theorem off47_eq : ∀ i : grid0.Coords, k0_cond4 i = 1#1 → k0_off47 i = ![2 * (k0_t1_loop i).trips + 1, 288, 0] := by decide +kernel

theorem off48_eq : ∀ i : grid0.Coords, k0_cond4 i = 1#1 → k0_off48 i = ![2 * (k0_t1_loop i).trips + 1, 432, 0] := by decide +kernel

/-- The chunk mask of the diagonal block. -/
def maskB : IVec S512x512 1 :=
  k0_pay228 (iota .tc S512x512 32 [0] iota_S512x512_d0_w32) 64#32 k0_pay226 k0_pay227 (Scalar.cmpi .sgt 64#32 0#32)

/-- Head `h`'s accumulator after the masked diagonal block `n`. -/
def finB (q : Vec F S1024x512 .bf16) (k : Vec F S4096x1024 .bf16) (v : Vec F S8x576x512 .bf16) (n h : ℕ) : Vec F S1x144x512 .f32 :=
  k0_pay155 maskB (scoreB q k n h) (maxB q k h n) (valB v n h) (accB q k v h n)

/-- The block of head `h` in the output. -/
def outB (q : Vec F S1024x512 .bf16) (k : Vec F S4096x1024 .bf16) (v : Vec F S8x576x512 .bf16) (n h : ℕ) : Vec F S512x128 .bf16 :=
  k0_pay3 (finB q k v n h)

end Cert.KernelIdeal.Hand

end
-- ==== Proof.KI.Out.lean ====
/- The output block from its four heads' blocks. -/
module

public import proofs.«01_k».proof.Proof.KI.Loop
public import proofs.«01_k».proof.Proof.Gen.KernelIdeal.Frame

@[expose] public section

noncomputable section

namespace Cert.KernelIdeal.Hand

open Idealize.ShloMosaic Idealize.ShloMosaic.TcCoe Idealize.ShloMosaic.Tactic
open Cert.KernelIdeal.Gen

variable {F : FTy → Type} [FloatOps F]

theorem pos512x128 : ∀ a, 0 < S512x128.size a := by decide

/-- The output block of the body: four heads side by side. -/
def outO (q : Vec F S1024x512 .bf16) (k : Vec F S4096x1024 .bf16) (v : Vec F S8x576x512 .bf16) (n : ℕ) : Vec F S512x512 .bf16 :=
  fun y => outB q k v n ((y 1).val / 128) (fun a => ⟨(y a).val % S512x128.size a, Nat.mod_lt _ (pos512x128 a)⟩)

/-- A block whose four column windows are the heads' blocks is the output block. -/
theorem eq_outO (q : Vec F S1024x512 .bf16) (k : Vec F S4096x1024 .bf16) (v : Vec F S8x576x512 .bf16) (n : ℕ) (x : Vec F S512x512 .bf16)
    (H : ∀ h : ℕ, h < 4 → win (s := S512x512) (e := .bf16) x ![0, 128 * h] S512x128.size = outB q k v n h) : x = outO q k v n := by
  funext y
  have h0 : (y 0).val < 512 := (y 0).isLt
  have h1 : (y 1).val < 512 := (y 1).isLt
  have hh : (y 1).val / 128 < 4 := by omega
  have hinb : ∀ a, (![0, 128 * ((y 1).val / 128)] : Fin 2 → ℕ) a + S512x128.size a ≤ S512x512.size a := by
    intro a; fin_cases a <;> simp [Fin.forall_fin_two] <;> omega
  have h := congrFun (H _ hh) (fun a => ⟨(y a).val % S512x128.size a, Nat.mod_lt _ (pos512x128 a)⟩)
  rw [win_of_inb _ _ _ hinb] at h
  refine Eq.trans ?_ h
  unfold VecWindow.window
  refine congrArg x ?_
  funext a
  apply Fin.ext
  fin_cases a
  · show (y 0).val = 0 + 1 * ((y 0).val % 512)
    omega
  · show (y 1).val = 128 * ((y 1).val / 128) + 1 * ((y 1).val % 128)
    omega

/-- The window of the whole shape is the array itself. -/
theorem win_whole {s : Shape} {e : EltTy} {Val : EltTy → Type} [∀ e, Nonempty (Val e)] (x : s.Idx → Val e) (off : Fin s.rank → ℕ) (h0 : ∀ a, off a = 0) :
    win x off s.size = x := by
  rw [win_of_inb _ _ _ (fun a => by rw [h0 a, Nat.zero_add])]
  funext y
  refine congrArg x (funext fun a => Fin.ext ?_)
  show off a + 1 * (y a).val = (y a).val
  rw [h0 a]; omega

/-- Before the first block of keys: slot 0 holds its scores, the maxima are minus infinity and the accumulators zero. -/
theorem upto0 {q : Vec F S1024x512 .bf16} {k : Vec F S4096x1024 .bf16} {v : Vec F S8x576x512 .bf16} {s : Vec F S2x4x512x512 .f32}
    (hs : ∀ h : ℕ, h < 4 → win (s := S2x4x512x512) (e := .f32) s ![0, h, 0, 0] S1x1x512x512.size = scoreB q k 0 h)
    (arg13 : Memref sig .tc .vmem S4x1x512 .f32) (arg14 : Memref sig .tc .vmem S4x144x512 .f32)
    (f13 : BufTy.Contents (Elt F) arg13.view.ty) (f14 : BufTy.Contents (Elt F) arg14.view.ty) :
    Upto q k v 0 s
      (arg13.view.read (Elt F) (arg13.view.writes (Elt F) f13 [⟨Rect.unit ![0, 0, 0] S4x1x512.size inb_S4x1x512_S4x1x512_0_0_0, k0_pay217⟩]))
      (arg14.view.read (Elt F) (arg14.view.writes (Elt F) f14 [⟨Rect.unit ![0, 0, 0] S4x144x512.size inb_S4x144x512_S4x144x512_0_0_0, k0_pay218⟩])) :=
  fun h hh => ⟨hs h hh, win_fill (s := S4x1x512) (Val := Elt F) (e := .f32) arg13.view f13 _ _ _ _ _ _, win_fill (s := S4x144x512) (Val := Elt F) (e := .f32) arg14.view f14 _ _ _ _ _ _⟩

end Cert.KernelIdeal.Hand

end
-- ==== Proof.KI.RunA.lean ====
/- The body of the attention kernel run in one case of its conditionals, with the contents it leaves. -/
module

public import proofs.«01_k».proof.Proof.KI.Out

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body at the first query block of a head: the first key block is scored afresh, no odd key block, the diagonal block finished from slot 0. -/
theorem runA (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S4096x1024 .bf16) (harg5 : arg5.IsWhole) (arg6 : Memref sig .tc .vmem S8x576x512 .bf16) (harg6 : arg6.IsWhole) (arg7 : Memref sig .tc .vmem S1x32x8192 .f32) (harg7 : arg7.IsWhole) (arg8 : Memref sig .tc .vmem S1x128x2048 .f32) (harg8 : arg8.IsWhole) (arg9 : Memref sig .tc .vmem S512x512 .bf16) (harg9 : arg9.IsWhole) (arg10 : Memref sig .tc .vmem S32x8192 .bf16) (harg10 : arg10.IsWhole) (arg11 : Memref sig .tc .vmem S128x2048 .bf16) (harg11 : arg11.IsWhole) (arg12 : Memref sig .tc .vmem S2x4x512x512 .f32) (harg12 : arg12.IsWhole) (arg13 : Memref sig .tc .vmem S4x1x512 .f32) (harg13 : arg13.IsWhole) (arg14 : Memref sig .tc .vmem S4x144x512 .f32) (harg14 : arg14.IsWhole) (hc1 : k0_cond1 i = 1#1) (hc2 : ¬k0_cond2 i = 1#1) (hc3 : k0_cond3 i = 1#1) (hc4 : ¬k0_cond4 i = 1#1)
    (x0 : Vec F S1024x512 .bf16) (x1 : Vec F S1024x512 .bf16) (x2 : Vec F S4096x1024 .bf16) (x3 : Vec F S8x576x512 .bf16) (x4 : Vec F S1x32x8192 .f32) (x5 : Vec F S1x128x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outO x0 x2 x3 (i 2).val) ∗ owns (c : Thread nD τ) arg10 fullShare (k0_pay215 x4) ∗ owns (c : Thread nD τ) arg11 fullShare (k0_pay216 x5) ∗ (∃ d : Vec F S2x4x512x512 .f32, ⌜∀ h : ℕ, h < 4 → win (s := S2x4x512x512) (e := .f32) d ![0, h, 0, 0] S1x1x512x512.size = scoreB x1 x2 0 h⌝ ∗ owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_mla_attention i arg3 harg3 arg4 harg4 arg5 harg5 arg6 harg6 arg7 harg7 arg8 harg8 arg9 harg9 arg10 harg10 arg11 harg11 arg12 harg12 arg13 harg13 arg14 harg14) K := by
  intro E K
  simp only [cc0_mla_attention_eq_skeleton]; unfold cc0_mla_attention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [first_zero i hc1]
    refine eq_outO _ _ _ _ _ ?_
    delta runA.sl.v306 runA.sl.v269 runA.sl.H11_3 runA.sl.v103 runA.sl.v79 runA.sl.v200 runA.sl.r_4 runA.sl.H11_2 runA.sl.v84 runA.sl.r_2 runA.sl.v227 runA.sl.H11_1_1 runA.sl.r_7 runA.sl.H10_3 runA.sl.v181 runA.sl.v168 runA.sl.H9_2 runA.sl.v78 runA.sl.H11_4 runA.sl.v73 runA.sl.v69 runA.sl.r_3 runA.sl.v223 runA.sl.v54 runA.sl.v109 runA.sl.H9_1 runA.sl.v75 runA.sl.H11_1 runA.sl.H8_1 runA.sl.v71 runA.sl.v107 runA.sl.H10_1 runA.sl.v273 runA.sl.H9_3 runA.sl.H10_1_1 runA.sl.v214 runA.sl.r runA.sl.v135 runA.sl.r_5 runA.sl.v74 runA.sl.v154 runA.sl.v260 runA.sl.r_6 runA.sl.v95 runA.sl.H10_2 runA.sl.v108 runA.sl.v87 runA.sl.v292 runA.sl.v131 runA.sl.v102 runA.sl.v177 runA.sl.v99 runA.sl.H7_1 runA.sl.r_1 runA.sl.v246
    have h0 := first_trips i hc1
    simp only [pb2_nil (i := i) rfl, pb1_nil, List.nil_append, View.writes_append, readAt_win, readCov_win, hf0, hf1, hf2, hf3, hf4, hf5, off41_eq i hc3, off42_eq i hc3, off43_eq i hc3, off44_eq i hc3, h0]
    intro h hh
    interval_cases h <;> simp (disch := decide) only [↓ win_hit, ↓ win_miss, ↓ View.writes_append, ↓ win_fill]
    all_goals rfl
  isplitl [H7]
  · iexists _; isplitr; swap; · iexact H7
    ipureintro
    delta runA.sl.v306 runA.sl.v269 runA.sl.H11_3 runA.sl.v103 runA.sl.v79 runA.sl.v200 runA.sl.r_4 runA.sl.H11_2 runA.sl.v84 runA.sl.r_2 runA.sl.v227 runA.sl.H11_1_1 runA.sl.r_7 runA.sl.H10_3 runA.sl.v181 runA.sl.v168 runA.sl.H9_2 runA.sl.v78 runA.sl.H11_4 runA.sl.v73 runA.sl.v69 runA.sl.r_3 runA.sl.v223 runA.sl.v54 runA.sl.v109 runA.sl.H9_1 runA.sl.v75 runA.sl.H11_1 runA.sl.H8_1 runA.sl.v71 runA.sl.v107 runA.sl.H10_1 runA.sl.v273 runA.sl.H9_3 runA.sl.H10_1_1 runA.sl.v214 runA.sl.r runA.sl.v135 runA.sl.r_5 runA.sl.v74 runA.sl.v154 runA.sl.v260 runA.sl.r_6 runA.sl.v95 runA.sl.H10_2 runA.sl.v108 runA.sl.v87 runA.sl.v292 runA.sl.v131 runA.sl.v102 runA.sl.v177 runA.sl.v99 runA.sl.H7_1 runA.sl.r_1 runA.sl.v246
    simp only [readAt_win, hf4, hf5]
    exact (View.read_writes_full _ _ _ _ _).trans (congrArg k0_pay215 (win_whole (s := S1x32x8192) (e := .f32) x4 _ (by decide)))
  isplitl [H8]
  · iexists _; isplitr; swap; · iexact H8
    ipureintro
    delta runA.sl.v306 runA.sl.v269 runA.sl.H11_3 runA.sl.v103 runA.sl.v79 runA.sl.v200 runA.sl.r_4 runA.sl.H11_2 runA.sl.v84 runA.sl.r_2 runA.sl.v227 runA.sl.H11_1_1 runA.sl.r_7 runA.sl.H10_3 runA.sl.v181 runA.sl.v168 runA.sl.H9_2 runA.sl.v78 runA.sl.H11_4 runA.sl.v73 runA.sl.v69 runA.sl.r_3 runA.sl.v223 runA.sl.v54 runA.sl.v109 runA.sl.H9_1 runA.sl.v75 runA.sl.H11_1 runA.sl.H8_1 runA.sl.v71 runA.sl.v107 runA.sl.H10_1 runA.sl.v273 runA.sl.H9_3 runA.sl.H10_1_1 runA.sl.v214 runA.sl.r runA.sl.v135 runA.sl.r_5 runA.sl.v74 runA.sl.v154 runA.sl.v260 runA.sl.r_6 runA.sl.v95 runA.sl.H10_2 runA.sl.v108 runA.sl.v87 runA.sl.v292 runA.sl.v131 runA.sl.v102 runA.sl.v177 runA.sl.v99 runA.sl.H7_1 runA.sl.r_1 runA.sl.v246
    simp only [readAt_win, hf4, hf5]
    exact (View.read_writes_full _ _ _ _ _).trans (congrArg k0_pay216 (win_whole (s := S1x128x2048) (e := .f32) x5 _ (by decide)))
  isplitl [H9]
  · iexists _; isplitr; swap
    · iexists _; isplitr; swap
      · iexact H9
      · ipureintro; rfl
    ipureintro
    delta runA.sl.v306 runA.sl.v269 runA.sl.H11_3 runA.sl.v103 runA.sl.v79 runA.sl.v200 runA.sl.r_4 runA.sl.H11_2 runA.sl.v84 runA.sl.r_2 runA.sl.v227 runA.sl.H11_1_1 runA.sl.r_7 runA.sl.H10_3 runA.sl.v181 runA.sl.v168 runA.sl.H9_2 runA.sl.v78 runA.sl.H11_4 runA.sl.v73 runA.sl.v69 runA.sl.r_3 runA.sl.v223 runA.sl.v54 runA.sl.v109 runA.sl.H9_1 runA.sl.v75 runA.sl.H11_1 runA.sl.H8_1 runA.sl.v71 runA.sl.v107 runA.sl.H10_1 runA.sl.v273 runA.sl.H9_3 runA.sl.H10_1_1 runA.sl.v214 runA.sl.r runA.sl.v135 runA.sl.r_5 runA.sl.v74 runA.sl.v154 runA.sl.v260 runA.sl.r_6 runA.sl.v95 runA.sl.H10_2 runA.sl.v108 runA.sl.v87 runA.sl.v292 runA.sl.v131 runA.sl.v102 runA.sl.v177 runA.sl.v99 runA.sl.H7_1 runA.sl.r_1 runA.sl.v246
    have h0 := first_trips i hc1
    simp only [pb2_nil (i := i) rfl, pb1_nil, List.nil_append, View.writes_append, readAt_win, readCov_win, hf0, hf1, hf2, hf3, hf4, hf5, off41_eq i hc3, off42_eq i hc3, off43_eq i hc3, off44_eq i hc3, h0]
    intro h hh
    interval_cases h <;> simp (disch := decide) only [↓ win_hit, ↓ win_miss]
    all_goals rfl
  isplitl [H10]
  · iexists _, _; isplitr; swap; · iexact H10
    ipureintro; rfl
  iexists _, _; isplitr; swap; · iexact H11
  ipureintro; rfl

end Cert.KernelIdeal.Hand

end
-- ==== Proof.KI.RunB.lean ====
/- The body of the attention kernel run in one case of its conditionals, with the contents it leaves. -/
module

public import proofs.«01_k».proof.Proof.KI.Out

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The body at a later even query block. -/
theorem runB (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S4096x1024 .bf16) (harg5 : arg5.IsWhole) (arg6 : Memref sig .tc .vmem S8x576x512 .bf16) (harg6 : arg6.IsWhole) (arg7 : Memref sig .tc .vmem S1x32x8192 .f32) (harg7 : arg7.IsWhole) (arg8 : Memref sig .tc .vmem S1x128x2048 .f32) (harg8 : arg8.IsWhole) (arg9 : Memref sig .tc .vmem S512x512 .bf16) (harg9 : arg9.IsWhole) (arg10 : Memref sig .tc .vmem S32x8192 .bf16) (harg10 : arg10.IsWhole) (arg11 : Memref sig .tc .vmem S128x2048 .bf16) (harg11 : arg11.IsWhole) (arg12 : Memref sig .tc .vmem S2x4x512x512 .f32) (harg12 : arg12.IsWhole) (arg13 : Memref sig .tc .vmem S4x1x512 .f32) (harg13 : arg13.IsWhole) (arg14 : Memref sig .tc .vmem S4x144x512 .f32) (harg14 : arg14.IsWhole) (hc1 : ¬k0_cond1 i = 1#1) (hc2 : ¬k0_cond2 i = 1#1) (hc3 : k0_cond3 i = 1#1) (hc4 : ¬k0_cond4 i = 1#1)
    (x0 : Vec F S1024x512 .bf16) (x1 : Vec F S1024x512 .bf16) (x2 : Vec F S4096x1024 .bf16) (x3 : Vec F S8x576x512 .bf16) (x4 : Vec F S1x32x8192 .f32) (x5 : Vec F S1x128x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d : Vec F S2x4x512x512 .f32, ⌜∀ h : ℕ, h < 4 → win (s := S2x4x512x512) (e := .f32) d ![0, h, 0, 0] S1x1x512x512.size = scoreB x0 x2 0 h⌝ ∗ owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outO x0 x2 x3 (i 2).val) ∗ owns (c : Thread nD τ) arg10 fullShare (k0_pay215 x4) ∗ owns (c : Thread nD τ) arg11 fullShare (k0_pay216 x5) ∗ (∃ d : Vec F S2x4x512x512 .f32, ⌜∀ h : ℕ, h < 4 → win (s := S2x4x512x512) (e := .f32) d ![0, h, 0, 0] S1x1x512x512.size = scoreB x1 x2 0 h⌝ ∗ owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_mla_attention i arg3 harg3 arg4 harg4 arg5 harg5 arg6 harg6 arg7 harg7 arg8 harg8 arg9 harg9 arg10 harg10 arg11 harg11 arg12 harg12 arg13 harg13 arg14 harg14) K := by
  intro E K
  simp only [cc0_mla_attention_eq_skeleton]; unfold cc0_mla_attention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %hs, %f9, %hf9, H9⟩, ⟨%d10, %f10, -, H10⟩, ⟨%d11, %f11, -, H11⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg12.eq_unread hf9
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [trips_even i hc2]
    refine eq_outO _ _ _ _ _ ?_
    delta runB.sl.v75 runB.sl.v131 runB.sl.v84 runB.sl.v223 runB.sl.v306 runB.sl.H11_3 runB.sl.v108 runB.sl.v74 runB.sl.v78 runB.sl.v99 runB.sl.v73 runB.sl.H9_1 runB.sl.v181 runB.sl.v54 runB.sl.H7_1 runB.sl.H8_1 runB.sl.v154 runB.sl.H10_1 runB.sl.r_3 runB.sl.v69 runB.sl.H10_1_1 runB.sl.v95 runB.sl.v214 runB.sl.v227 runB.sl.H11_2 runB.sl.v71 runB.sl.v107 runB.sl.v260 runB.sl.v168 runB.sl.v79 runB.sl.v246 runB.sl.r_5 runB.sl.r_4 runB.sl.H10_3 runB.sl.r runB.sl.v269 runB.sl.H11_4 runB.sl.H9_2 runB.sl.H11_1_1 runB.sl.H9_3 runB.sl.v135 runB.sl.H11_1 runB.sl.r_2 runB.sl.v292 runB.sl.v177 runB.sl.v103 runB.sl.H10_2 runB.sl.v109 runB.sl.r_6 runB.sl.v102 runB.sl.v200 runB.sl.r_1 runB.sl.v87 runB.sl.v273
    simp only [pb2_nil (i := i) rfl, List.nil_append, View.writes_append, readAt_win, readCov_win, hf0, hf1, hf2, hf3, hf4, hf5, hf9, off41_eq i hc3, off42_eq i hc3, off43_eq i hc3, off44_eq i hc3]
    have U0 : Upto (arg3.view.read (Elt F) (harg3.unread x0)) (arg5.view.read (Elt F) (harg5.unread x2)) (arg6.view.read (Elt F) (harg6.unread x3)) 0 (arg12.view.read (Elt F) (harg12.unread d9)) _ _ :=
      upto0 (fun h hh => by rw [hf9, hf0, hf2]; exact hs h hh) arg13 arg14 arg13.view.junk arg14.view.junk
    intro h hh
    interval_cases h <;> simp (disch := first | rfl | decide) only [↓ win_hit, ↓ win_miss, ↓ View.writes_append, ↓ loop_s U0, ↓ loop_m U0, ↓ loop_a U0, hf0, hf2, hf3]
    all_goals rfl
  isplitl [H7]
  · iexists _; isplitr; swap; · iexact H7
    ipureintro
    delta runB.sl.v75 runB.sl.v131 runB.sl.v84 runB.sl.v223 runB.sl.v306 runB.sl.H11_3 runB.sl.v108 runB.sl.v74 runB.sl.v78 runB.sl.v99 runB.sl.v73 runB.sl.H9_1 runB.sl.v181 runB.sl.v54 runB.sl.H7_1 runB.sl.H8_1 runB.sl.v154 runB.sl.H10_1 runB.sl.r_3 runB.sl.v69 runB.sl.H10_1_1 runB.sl.v95 runB.sl.v214 runB.sl.v227 runB.sl.H11_2 runB.sl.v71 runB.sl.v107 runB.sl.v260 runB.sl.v168 runB.sl.v79 runB.sl.v246 runB.sl.r_5 runB.sl.r_4 runB.sl.H10_3 runB.sl.r runB.sl.v269 runB.sl.H11_4 runB.sl.H9_2 runB.sl.H11_1_1 runB.sl.H9_3 runB.sl.v135 runB.sl.H11_1 runB.sl.r_2 runB.sl.v292 runB.sl.v177 runB.sl.v103 runB.sl.H10_2 runB.sl.v109 runB.sl.r_6 runB.sl.v102 runB.sl.v200 runB.sl.r_1 runB.sl.v87 runB.sl.v273
    simp only [readAt_win, hf4, hf5]
    exact (View.read_writes_full _ _ _ _ _).trans (congrArg k0_pay215 (win_whole (s := S1x32x8192) (e := .f32) x4 _ (by decide)))
  isplitl [H8]
  · iexists _; isplitr; swap; · iexact H8
    ipureintro
    delta runB.sl.v75 runB.sl.v131 runB.sl.v84 runB.sl.v223 runB.sl.v306 runB.sl.H11_3 runB.sl.v108 runB.sl.v74 runB.sl.v78 runB.sl.v99 runB.sl.v73 runB.sl.H9_1 runB.sl.v181 runB.sl.v54 runB.sl.H7_1 runB.sl.H8_1 runB.sl.v154 runB.sl.H10_1 runB.sl.r_3 runB.sl.v69 runB.sl.H10_1_1 runB.sl.v95 runB.sl.v214 runB.sl.v227 runB.sl.H11_2 runB.sl.v71 runB.sl.v107 runB.sl.v260 runB.sl.v168 runB.sl.v79 runB.sl.v246 runB.sl.r_5 runB.sl.r_4 runB.sl.H10_3 runB.sl.r runB.sl.v269 runB.sl.H11_4 runB.sl.H9_2 runB.sl.H11_1_1 runB.sl.H9_3 runB.sl.v135 runB.sl.H11_1 runB.sl.r_2 runB.sl.v292 runB.sl.v177 runB.sl.v103 runB.sl.H10_2 runB.sl.v109 runB.sl.r_6 runB.sl.v102 runB.sl.v200 runB.sl.r_1 runB.sl.v87 runB.sl.v273
    simp only [readAt_win, hf4, hf5]
    exact (View.read_writes_full _ _ _ _ _).trans (congrArg k0_pay216 (win_whole (s := S1x128x2048) (e := .f32) x5 _ (by decide)))
  isplitl [H9]
  · iexists _; isplitr; swap
    · iexists _; isplitr; swap
      · iexact H9
      · ipureintro; rfl
    ipureintro
    delta runB.sl.v75 runB.sl.v131 runB.sl.v84 runB.sl.v223 runB.sl.v306 runB.sl.H11_3 runB.sl.v108 runB.sl.v74 runB.sl.v78 runB.sl.v99 runB.sl.v73 runB.sl.H9_1 runB.sl.v181 runB.sl.v54 runB.sl.H7_1 runB.sl.H8_1 runB.sl.v154 runB.sl.H10_1 runB.sl.r_3 runB.sl.v69 runB.sl.H10_1_1 runB.sl.v95 runB.sl.v214 runB.sl.v227 runB.sl.H11_2 runB.sl.v71 runB.sl.v107 runB.sl.v260 runB.sl.v168 runB.sl.v79 runB.sl.v246 runB.sl.r_5 runB.sl.r_4 runB.sl.H10_3 runB.sl.r runB.sl.v269 runB.sl.H11_4 runB.sl.H9_2 runB.sl.H11_1_1 runB.sl.H9_3 runB.sl.v135 runB.sl.H11_1 runB.sl.r_2 runB.sl.v292 runB.sl.v177 runB.sl.v103 runB.sl.H10_2 runB.sl.v109 runB.sl.r_6 runB.sl.v102 runB.sl.v200 runB.sl.r_1 runB.sl.v87 runB.sl.v273
    simp only [pb2_nil (i := i) rfl, List.nil_append, View.writes_append, readAt_win, readCov_win, hf0, hf1, hf2, hf3, hf4, hf5, hf9, off41_eq i hc3, off42_eq i hc3, off43_eq i hc3, off44_eq i hc3]
    intro h hh
    interval_cases h <;> simp (disch := decide) only [↓ win_hit, ↓ win_miss]
    all_goals rfl
  isplitl [H10]
  · iexists _, _; isplitr; swap; · iexact H10
    ipureintro; rfl
  iexists _, _; isplitr; swap; · iexact H11
  ipureintro; rfl

end Cert.KernelIdeal.Hand

end
-- ==== Proof.KI.RunC.lean ====
/- The body of the attention kernel run in one case of its conditionals, with the contents it leaves. -/
module

public import proofs.«01_k».proof.Proof.KI.Out

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The body at an odd query block. -/
theorem runC (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S4096x1024 .bf16) (harg5 : arg5.IsWhole) (arg6 : Memref sig .tc .vmem S8x576x512 .bf16) (harg6 : arg6.IsWhole) (arg7 : Memref sig .tc .vmem S1x32x8192 .f32) (harg7 : arg7.IsWhole) (arg8 : Memref sig .tc .vmem S1x128x2048 .f32) (harg8 : arg8.IsWhole) (arg9 : Memref sig .tc .vmem S512x512 .bf16) (harg9 : arg9.IsWhole) (arg10 : Memref sig .tc .vmem S32x8192 .bf16) (harg10 : arg10.IsWhole) (arg11 : Memref sig .tc .vmem S128x2048 .bf16) (harg11 : arg11.IsWhole) (arg12 : Memref sig .tc .vmem S2x4x512x512 .f32) (harg12 : arg12.IsWhole) (arg13 : Memref sig .tc .vmem S4x1x512 .f32) (harg13 : arg13.IsWhole) (arg14 : Memref sig .tc .vmem S4x144x512 .f32) (harg14 : arg14.IsWhole) (hc1 : ¬k0_cond1 i = 1#1) (hc2 : k0_cond2 i = 1#1) (hc3 : ¬k0_cond3 i = 1#1) (hc4 : k0_cond4 i = 1#1)
    (x0 : Vec F S1024x512 .bf16) (x1 : Vec F S1024x512 .bf16) (x2 : Vec F S4096x1024 .bf16) (x3 : Vec F S8x576x512 .bf16) (x4 : Vec F S1x32x8192 .f32) (x5 : Vec F S1x128x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d : Vec F S2x4x512x512 .f32, ⌜∀ h : ℕ, h < 4 → win (s := S2x4x512x512) (e := .f32) d ![0, h, 0, 0] S1x1x512x512.size = scoreB x0 x2 0 h⌝ ∗ owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outO x0 x2 x3 (i 2).val) ∗ owns (c : Thread nD τ) arg10 fullShare (k0_pay215 x4) ∗ owns (c : Thread nD τ) arg11 fullShare (k0_pay216 x5) ∗ (∃ d : Vec F S2x4x512x512 .f32, ⌜∀ h : ℕ, h < 4 → win (s := S2x4x512x512) (e := .f32) d ![0, h, 0, 0] S1x1x512x512.size = scoreB x1 x2 0 h⌝ ∗ owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_mla_attention i arg3 harg3 arg4 harg4 arg5 harg5 arg6 harg6 arg7 harg7 arg8 harg8 arg9 harg9 arg10 harg10 arg11 harg11 arg12 harg12 arg13 harg13 arg14 harg14) K := by
  intro E K
  simp only [cc0_mla_attention_eq_skeleton]; unfold cc0_mla_attention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %hs, %f9, %hf9, H9⟩, ⟨%d10, %f10, -, H10⟩, ⟨%d11, %f11, -, H11⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg12.eq_unread hf9
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [trips_odd i hc2]
    refine eq_outO _ _ _ _ _ ?_
    delta runC.sl.H11_2 runC.sl.v280 runC.sl.H10_6 runC.sl.H10_4 runC.sl.H11_5 runC.sl.H7_1 runC.sl.H10_2 runC.sl.H8_1 runC.sl.v200 runC.sl.r_6 runC.sl.H11_6 runC.sl.v273 runC.sl.H11_1_1 runC.sl.H11_1 runC.sl.v75 runC.sl.v259 runC.sl.r_8 runC.sl.v292 runC.sl.v168 runC.sl.H9_5 runC.sl.H11_8 runC.sl.v260 runC.sl.H10_1_1 runC.sl.v103 runC.sl.r_1 runC.sl.r_12 runC.sl.v214 runC.sl.v74 runC.sl.H10_5 runC.sl.v135 runC.sl.v131_1 runC.sl.H9_2 runC.sl.v73 runC.sl.v84 runC.sl.H9_1 runC.sl.r_14 runC.sl.v79 runC.sl.v257 runC.sl.v71 runC.sl.H10_7 runC.sl.v241 runC.sl.r_10 runC.sl.r_7 runC.sl.v69 runC.sl.H11_7 runC.sl.v54 runC.sl.v181 runC.sl.v220 runC.sl.H11_3 runC.sl.v223 runC.sl.v246 runC.sl.H10_1 runC.sl.v222 runC.sl.v227 runC.sl.v131 runC.sl.r_9 runC.sl.v163 runC.sl.r_11 runC.sl.H9_7 runC.sl.v181_1 runC.sl.r_2 runC.sl.v154 runC.sl.v78 runC.sl.r runC.sl.H10_3 runC.sl.r_4 runC.sl.r_5 runC.sl.H11_4 runC.sl.v144 runC.sl.H9_6 runC.sl.H9_3 runC.sl.v99 runC.sl.v269 runC.sl.v202 runC.sl.H9_4 runC.sl.v109 runC.sl.r_3 runC.sl.v142 runC.sl.v306 runC.sl.v107 runC.sl.v177 runC.sl.v261 runC.sl.v102 runC.sl.v95 runC.sl.v108 runC.sl.r_13 runC.sl.v87 runC.sl.v183
    simp only [pb2_nil (i := i) rfl, List.nil_append, View.writes_append, readAt_win, readCov_win, hf0, hf1, hf2, hf3, hf4, hf5, hf9, off33_eq i hc2, off34_eq i hc2, off35_eq i hc2, off36_eq i hc2, off37_eq i hc2, off38_eq i hc2, off39_eq i hc2, off40_eq i hc2, off45_eq i hc4, off46_eq i hc4, off47_eq i hc4, off48_eq i hc4]
    have U0 : Upto (arg3.view.read (Elt F) (harg3.unread x0)) (arg5.view.read (Elt F) (harg5.unread x2)) (arg6.view.read (Elt F) (harg6.unread x3)) 0 (arg12.view.read (Elt F) (harg12.unread d9)) _ _ :=
      upto0 (fun h hh => by rw [hf9, hf0, hf2]; exact hs h hh) arg13 arg14 arg13.view.junk arg14.view.junk
    intro h hh
    interval_cases h <;> simp (disch := first | rfl | decide) only [↓ win_hit, ↓ win_miss, ↓ View.writes_append, ↓ loop_s U0, ↓ loop_m U0, ↓ loop_a U0, hf0, hf2, hf3]
    all_goals rfl
  isplitl [H7]
  · iexists _; isplitr; swap; · iexact H7
    ipureintro
    delta runC.sl.H11_2 runC.sl.v280 runC.sl.H10_6 runC.sl.H10_4 runC.sl.H11_5 runC.sl.H7_1 runC.sl.H10_2 runC.sl.H8_1 runC.sl.v200 runC.sl.r_6 runC.sl.H11_6 runC.sl.v273 runC.sl.H11_1_1 runC.sl.H11_1 runC.sl.v75 runC.sl.v259 runC.sl.r_8 runC.sl.v292 runC.sl.v168 runC.sl.H9_5 runC.sl.H11_8 runC.sl.v260 runC.sl.H10_1_1 runC.sl.v103 runC.sl.r_1 runC.sl.r_12 runC.sl.v214 runC.sl.v74 runC.sl.H10_5 runC.sl.v135 runC.sl.v131_1 runC.sl.H9_2 runC.sl.v73 runC.sl.v84 runC.sl.H9_1 runC.sl.r_14 runC.sl.v79 runC.sl.v257 runC.sl.v71 runC.sl.H10_7 runC.sl.v241 runC.sl.r_10 runC.sl.r_7 runC.sl.v69 runC.sl.H11_7 runC.sl.v54 runC.sl.v181 runC.sl.v220 runC.sl.H11_3 runC.sl.v223 runC.sl.v246 runC.sl.H10_1 runC.sl.v222 runC.sl.v227 runC.sl.v131 runC.sl.r_9 runC.sl.v163 runC.sl.r_11 runC.sl.H9_7 runC.sl.v181_1 runC.sl.r_2 runC.sl.v154 runC.sl.v78 runC.sl.r runC.sl.H10_3 runC.sl.r_4 runC.sl.r_5 runC.sl.H11_4 runC.sl.v144 runC.sl.H9_6 runC.sl.H9_3 runC.sl.v99 runC.sl.v269 runC.sl.v202 runC.sl.H9_4 runC.sl.v109 runC.sl.r_3 runC.sl.v142 runC.sl.v306 runC.sl.v107 runC.sl.v177 runC.sl.v261 runC.sl.v102 runC.sl.v95 runC.sl.v108 runC.sl.r_13 runC.sl.v87 runC.sl.v183
    simp only [readAt_win, hf4, hf5]
    exact (View.read_writes_full _ _ _ _ _).trans (congrArg k0_pay215 (win_whole (s := S1x32x8192) (e := .f32) x4 _ (by decide)))
  isplitl [H8]
  · iexists _; isplitr; swap; · iexact H8
    ipureintro
    delta runC.sl.H11_2 runC.sl.v280 runC.sl.H10_6 runC.sl.H10_4 runC.sl.H11_5 runC.sl.H7_1 runC.sl.H10_2 runC.sl.H8_1 runC.sl.v200 runC.sl.r_6 runC.sl.H11_6 runC.sl.v273 runC.sl.H11_1_1 runC.sl.H11_1 runC.sl.v75 runC.sl.v259 runC.sl.r_8 runC.sl.v292 runC.sl.v168 runC.sl.H9_5 runC.sl.H11_8 runC.sl.v260 runC.sl.H10_1_1 runC.sl.v103 runC.sl.r_1 runC.sl.r_12 runC.sl.v214 runC.sl.v74 runC.sl.H10_5 runC.sl.v135 runC.sl.v131_1 runC.sl.H9_2 runC.sl.v73 runC.sl.v84 runC.sl.H9_1 runC.sl.r_14 runC.sl.v79 runC.sl.v257 runC.sl.v71 runC.sl.H10_7 runC.sl.v241 runC.sl.r_10 runC.sl.r_7 runC.sl.v69 runC.sl.H11_7 runC.sl.v54 runC.sl.v181 runC.sl.v220 runC.sl.H11_3 runC.sl.v223 runC.sl.v246 runC.sl.H10_1 runC.sl.v222 runC.sl.v227 runC.sl.v131 runC.sl.r_9 runC.sl.v163 runC.sl.r_11 runC.sl.H9_7 runC.sl.v181_1 runC.sl.r_2 runC.sl.v154 runC.sl.v78 runC.sl.r runC.sl.H10_3 runC.sl.r_4 runC.sl.r_5 runC.sl.H11_4 runC.sl.v144 runC.sl.H9_6 runC.sl.H9_3 runC.sl.v99 runC.sl.v269 runC.sl.v202 runC.sl.H9_4 runC.sl.v109 runC.sl.r_3 runC.sl.v142 runC.sl.v306 runC.sl.v107 runC.sl.v177 runC.sl.v261 runC.sl.v102 runC.sl.v95 runC.sl.v108 runC.sl.r_13 runC.sl.v87 runC.sl.v183
    simp only [readAt_win, hf4, hf5]
    exact (View.read_writes_full _ _ _ _ _).trans (congrArg k0_pay216 (win_whole (s := S1x128x2048) (e := .f32) x5 _ (by decide)))
  isplitl [H9]
  · iexists _; isplitr; swap
    · iexists _; isplitr; swap
      · iexact H9
      · ipureintro; rfl
    ipureintro
    delta runC.sl.H11_2 runC.sl.v280 runC.sl.H10_6 runC.sl.H10_4 runC.sl.H11_5 runC.sl.H7_1 runC.sl.H10_2 runC.sl.H8_1 runC.sl.v200 runC.sl.r_6 runC.sl.H11_6 runC.sl.v273 runC.sl.H11_1_1 runC.sl.H11_1 runC.sl.v75 runC.sl.v259 runC.sl.r_8 runC.sl.v292 runC.sl.v168 runC.sl.H9_5 runC.sl.H11_8 runC.sl.v260 runC.sl.H10_1_1 runC.sl.v103 runC.sl.r_1 runC.sl.r_12 runC.sl.v214 runC.sl.v74 runC.sl.H10_5 runC.sl.v135 runC.sl.v131_1 runC.sl.H9_2 runC.sl.v73 runC.sl.v84 runC.sl.H9_1 runC.sl.r_14 runC.sl.v79 runC.sl.v257 runC.sl.v71 runC.sl.H10_7 runC.sl.v241 runC.sl.r_10 runC.sl.r_7 runC.sl.v69 runC.sl.H11_7 runC.sl.v54 runC.sl.v181 runC.sl.v220 runC.sl.H11_3 runC.sl.v223 runC.sl.v246 runC.sl.H10_1 runC.sl.v222 runC.sl.v227 runC.sl.v131 runC.sl.r_9 runC.sl.v163 runC.sl.r_11 runC.sl.H9_7 runC.sl.v181_1 runC.sl.r_2 runC.sl.v154 runC.sl.v78 runC.sl.r runC.sl.H10_3 runC.sl.r_4 runC.sl.r_5 runC.sl.H11_4 runC.sl.v144 runC.sl.H9_6 runC.sl.H9_3 runC.sl.v99 runC.sl.v269 runC.sl.v202 runC.sl.H9_4 runC.sl.v109 runC.sl.r_3 runC.sl.v142 runC.sl.v306 runC.sl.v107 runC.sl.v177 runC.sl.v261 runC.sl.v102 runC.sl.v95 runC.sl.v108 runC.sl.r_13 runC.sl.v87 runC.sl.v183
    simp only [pb2_nil (i := i) rfl, List.nil_append, View.writes_append, readAt_win, readCov_win, hf0, hf1, hf2, hf3, hf4, hf5, hf9, off33_eq i hc2, off34_eq i hc2, off35_eq i hc2, off36_eq i hc2, off37_eq i hc2, off38_eq i hc2, off39_eq i hc2, off40_eq i hc2, off45_eq i hc4, off46_eq i hc4, off47_eq i hc4, off48_eq i hc4]
    intro h hh
    interval_cases h <;> simp (disch := decide) only [↓ win_hit, ↓ win_miss]
    all_goals rfl
  isplitl [H10]
  · iexists _, _; isplitr; swap; · iexact H10
    ipureintro; rfl
  iexists _, _; isplitr; swap; · iexact H11
  ipureintro; rfl

end Cert.KernelIdeal.Hand

end
-- ==== Proof.KI.Blocks.lean ====
/- The blocks that the windows of the attention kernel hold at each grid point, at coordinates. -/
module

public import proofs.«01_k».proof.Proof.Gen.KernelIdeal.Frame
public import Idealize.ShloMosaic.Lib.Pipeline.ValueKit

@[expose] public section

set_option maxRecDepth 16384

noncomputable section

namespace Cert.KernelIdeal.Hand

open Idealize.ShloMosaic Idealize.ShloMosaic.TcCoe
open Idealize.ShloMosaic.Pipeline (Dat Cfg Window)
open Cert.KernelIdeal.Gen

variable {F : FTy → Type} [FloatOps F] (m : (ℓ : Loc nD τ sig) → Buf (Elt F) ℓ)

theorem e0 : ∀ t : Fin cfg0.N, win0_0.index t = ![t.val / 8 % 4, t.val / 32 * 8 + t.val % 8] := (by decide +kernel : ∀ t : Fin grid0.N, _)
theorem e1 : ∀ t : Fin cfg0.N, win0_1.index t = ![t.val / 8 % 4, t.val / 32 * 8 + min (t.val % 8 + 1) 7] := (by decide +kernel : ∀ t : Fin grid0.N, _)
theorem e2 : ∀ t : Fin cfg0.N, win0_2.index t = ![t.val / 32, t.val / 8 % 4] := (by decide +kernel : ∀ t : Fin grid0.N, _)
theorem e3 : ∀ t : Fin cfg0.N, win0_3.index t = ![t.val / 32, t.val / 8 % 4, 0] := (by decide +kernel : ∀ t : Fin grid0.N, _)
theorem e4 : ∀ t : Fin cfg0.N, win0_4.index t = ![3, t.val, 0] := (by decide +kernel : ∀ t : Fin grid0.N, _)
theorem e5 : ∀ t : Fin cfg0.N, win0_5.index t = ![3, t.val, 0] := (by decide +kernel : ∀ t : Fin grid0.N, _)
theorem e6 : ∀ t : Fin cfg0.N, win0_6.index t = ![t.val / 32 * 8 + t.val % 8, t.val / 8 % 4] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)

theorem N64 (t : Fin cfg0.N) : t.val < 64 := t.isLt

/-- The query coordinate of a point. -/
theorem coord2 : ∀ t : Fin grid0.N, (grid0.coords t 2).val = t.val % 8 := by decide +kernel

/-- The next query block, held at one point, is the query block of the point after it. -/
theorem next_block (c : Dev nD) (t u : Fin cfg0.N) (h : u.val + 1 = t.val) (h8 : t.val % 8 ≠ 0) : (iblk m c 1 u : Vec F S1024x512 .bf16) = iblk m c 0 t := by
  funext y
  blk_simp [iblk]
  have ht := N64 t
  refine congrArg (V m c main_arg0) ?_
  blk_ext [e0, e1]

/-- The key block does not change between them. -/
theorem key_block (c : Dev nD) (t u : Fin cfg0.N) (h : u.val + 1 = t.val) (h8 : t.val % 8 ≠ 0) : (iblk m c 2 u : Vec F S4096x1024 .bf16) = iblk m c 2 t := by
  funext y
  blk_simp [iblk]
  have ht := N64 t
  refine congrArg (V m c main_arg1) ?_
  blk_ext [e2]

end Cert.KernelIdeal.Hand

end
-- ==== Proof.KI.Frame.lean ====
/- The run of the attention kernel: what every point leaves in each output block, and that the first slot of the score scratch carries the
   next query block's scores from one point to the next. -/
module

public import proofs.«01_k».proof.Proof.KI.RunA
public import proofs.«01_k».proof.Proof.KI.RunB
public import proofs.«01_k».proof.Proof.KI.RunC
public import proofs.«01_k».proof.Proof.KI.Blocks
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After `n` points: slot 0 of the score scratch holds the scores of the next query block of the last point. -/
def Held (c : Dev nD) (n : ℕ) (d : Vec F S2x4x512x512 .f32) : Prop :=
  ∀ t : Fin cfg0.N, t.val + 1 = n → ∀ h : ℕ, h < 4 →
    win (s := S2x4x512x512) (e := .f32) d ![0, h, 0, 0] S1x1x512x512.size = scoreB (iblk m c 1 t) (iblk m c 2 t) 0 h

/-- The proof data: inputs keep their blocks, the results of the point's blocks, the carried scores, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outO (iblk m c 0 t) (iblk m c 2 t) (iblk m c 3 t) (grid0.coords t 2).val
    | ⟨7, _⟩ => k0_pay215 (iblk m c 4 t)
    | ⟨8, _⟩ => k0_pay216 (iblk m c 5 t)
  Φ k := iprop(iprop((∃ d : Vec F S2x4x512x512 .f32, ⌜Held m c k.val d⌝ ∗ owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)) ∗ (∃ r, prngReg c r))
  q w := Pipeline.shareOf spec0 w
  owed _ := 0

/-- The arrays are as the region finds them. -/
theorem A_eq (c : Dev nD) (w : Fin cfg0.W) : (dats m 0 c).A w = V m c (Pipeline.arrRef spec0 w) := by
  dsimp only [dats]

/-- Input 0 keeps its block. -/
theorem after0 (c : Dev nD) (t : Fin cfg0.N) : (dats m 0 c).after 0 t = iblk m c 0 t := by dsimp only [dats]
/-- Input 1 keeps its block. -/
theorem after1 (c : Dev nD) (t : Fin cfg0.N) : (dats m 0 c).after 1 t = iblk m c 1 t := by dsimp only [dats]
/-- Input 2 keeps its block. -/
theorem after2 (c : Dev nD) (t : Fin cfg0.N) : (dats m 0 c).after 2 t = iblk m c 2 t := by dsimp only [dats]
/-- Input 3 keeps its block. -/
theorem after3 (c : Dev nD) (t : Fin cfg0.N) : (dats m 0 c).after 3 t = iblk m c 3 t := by dsimp only [dats]
/-- Input 4 keeps its block. -/
theorem after4 (c : Dev nD) (t : Fin cfg0.N) : (dats m 0 c).after 4 t = iblk m c 4 t := by dsimp only [dats]
/-- Input 5 keeps its block. -/
theorem after5 (c : Dev nD) (t : Fin cfg0.N) : (dats m 0 c).after 5 t = iblk m c 5 t := by dsimp only [dats]
/-- What each point leaves in the attention's output block. -/
theorem after6 (c : Dev nD) (t : Fin cfg0.N) :
    (dats m 0 c).after 6 t = outO (iblk m c 0 t) (iblk m c 2 t) (iblk m c 3 t) (grid0.coords t 2).val := by dsimp only [dats]
/-- What each point leaves in the first cast's block. -/
theorem after7 (c : Dev nD) (t : Fin cfg0.N) : (dats m 0 c).after 7 t = k0_pay215 (iblk m c 4 t) := by dsimp only [dats]
/-- What each point leaves in the second cast's block. -/
theorem after8 (c : Dev nD) (t : Fin cfg0.N) : (dats m 0 c).after 8 t = k0_pay216 (iblk m c 5 t) := by dsimp only [dats]
/-- Input 0 is met at its block. -/
theorem before0 (c : Dev nD) (t : Fin cfg0.N) (d) : (dats m 0 c).before 0 t d = iblk m c 0 t :=
  before0_0_of m (dats m 0 c) (A_eq m c 0) (after0 m c) t d
/-- Input 1 is met at its block. -/
theorem before1 (c : Dev nD) (t : Fin cfg0.N) (d) : (dats m 0 c).before 1 t d = iblk m c 1 t :=
  before0_1_of m (dats m 0 c) (A_eq m c 1) (after1 m c) t d
/-- Input 2 is met at its block. -/
theorem before2 (c : Dev nD) (t : Fin cfg0.N) (d) : (dats m 0 c).before 2 t d = iblk m c 2 t :=
  before0_2_of m (dats m 0 c) (A_eq m c 2) (after2 m c) t d
/-- Input 3 is met at its block. -/
theorem before3 (c : Dev nD) (t : Fin cfg0.N) (d) : (dats m 0 c).before 3 t d = iblk m c 3 t :=
  before0_3_of m (dats m 0 c) (A_eq m c 3) (after3 m c) t d
/-- Input 4 is met at its block. -/
theorem before4 (c : Dev nD) (t : Fin cfg0.N) (d) : (dats m 0 c).before 4 t d = iblk m c 4 t :=
  before0_4_of m (dats m 0 c) (A_eq m c 4) (after4 m c) t d
/-- Input 5 is met at its block. -/
theorem before5 (c : Dev nD) (t : Fin cfg0.N) (d) : (dats m 0 c).before 5 t d = iblk m c 5 t :=
  before0_5_of m (dats m 0 c) (A_eq m c 5) (after5 m c) t d

/-- The first key block is scored afresh at the first query block of each head. -/
theorem cond1_iff : ∀ t : Fin grid0.N, k0_cond1 (grid0.coords t) = 1#1 ↔ t.val % 8 = 0 := by decide +kernel
/-- The odd key block is taken at the odd query blocks. -/
theorem cond2_iff : ∀ t : Fin grid0.N, k0_cond2 (grid0.coords t) = 1#1 ↔ t.val % 2 = 1 := by decide +kernel
/-- The diagonal block is finished from slot 0 at the even query blocks. -/
theorem cond3_iff : ∀ t : Fin grid0.N, k0_cond3 (grid0.coords t) = 1#1 ↔ t.val % 2 = 0 := by decide +kernel
/-- The diagonal block is finished from slot 1 at the odd query blocks. -/
theorem cond4_iff : ∀ t : Fin grid0.N, k0_cond4 (grid0.coords t) = 1#1 ↔ t.val % 2 = 1 := by decide +kernel

/-- The scratch buffers as memrefs held at some contents. -/
theorem PhiA_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- Nothing is asked of the scratch before the first point, -/
theorem Phi_in (c : Dev nD) : (Pipeline.ΦA spec0 c : sProp 𝕄) ⊢ (dats m 0 c).Φ 0 := by
  rw [PhiA_eq]
  rw [show (dats m 0 c).Φ 0 = iprop(iprop((∃ d : Vec F S2x4x512x512 .f32, ⌜Held m c 0 d⌝ ∗ owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)) ∗ (∃ r, prngReg c r)) from rfl]
  iintro ⟨⟨⟨%d, HS0⟩, HS1, HS2⟩, Hg⟩
  isplitr [Hg]
  · isplitl [HS0]
    · iexists d; isplitr
      · ipureintro; intro t ht; omega
      iexact HS0
    isplitl [HS1]; · iexact HS1
    iexact HS2
  iexact Hg

/-- and nothing after the last. -/
theorem Phi_out (c : Dev nD) : (dats m 0 c).Φ (Fin.last cfg0.N) ⊢ (Pipeline.ΦA spec0 c : sProp 𝕄) := by
  rw [PhiA_eq]
  rw [show (dats m 0 c).Φ (Fin.last cfg0.N) = iprop(iprop((∃ d : Vec F S2x4x512x512 .f32, ⌜Held m c cfg0.N d⌝ ∗ owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)) ∗ (∃ r, prngReg c r)) from rfl]
  iintro ⟨⟨⟨%d, %hd, HS0⟩, HS1, HS2⟩, Hg⟩
  isplitr [Hg]
  · isplitl [HS0]; · iexists d; iexact HS0
    isplitl [HS1]; · iexact HS1
    iexact HS2
  iexact Hg

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- At a point that is not a head's first, the carried scores are its own query block's. -/
theorem carry (c : Dev nD) (t : Fin cfg0.N) (d : Vec F S2x4x512x512 .f32) (hd : Held m c t.val d) (h8 : ¬ t.val % 8 = 0) :
    ∀ h : ℕ, h < 4 → win (s := S2x4x512x512) (e := .f32) d ![0, h, 0, 0] S1x1x512x512.size = scoreB (iblk m c 0 t) (iblk m c 2 t) 0 h := by
  intro h hh
  have hp : t.val - 1 < cfg0.N := lt_of_le_of_lt (Nat.sub_le _ _) t.isLt
  have hu : (⟨t.val - 1, hp⟩ : Fin cfg0.N).val + 1 = t.val := by show t.val - 1 + 1 = t.val; omega
  have := hd ⟨t.val - 1, hp⟩ hu h hh
  rw [next_block m c t _ hu h8, key_block m c t _ hu h8] at this
  exact this

set_option maxHeartbeats 1600000 in
/-- The body at any point, by the case its query block is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6, after7, after8]
  rw [show (dats m 0 c).Φ t.castSucc = iprop(iprop((∃ d : Vec F S2x4x512x512 .f32, ⌜Held m c t.val d⌝ ∗ owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)) ∗ (∃ r, prngReg c r)) from rfl,
    show (dats m 0 c).Φ t.succ = iprop(iprop((∃ d : Vec F S2x4x512x512 .f32, ⌜Held m c (t.val + 1) d⌝ ∗ owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)) ∗ (∃ r, prngReg c r)) from rfl]
  have e1 := cond1_iff t
  have e2 := cond2_iff t
  have e3 := cond3_iff t
  have e4 := cond4_iff t
  by_cases h0 : t.val % 8 = 0
  · iintro ⟨⟨⟨⟨%ds, %hd, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) _ _ _ _ _ _ _ _ _ _ _ _ _ _ _ _ _ _ _ _ _ _ _ _ (e1.mpr h0) (fun h => by have := e2.mp h; omega) (e3.mpr (by omega)) (fun h => by have := e4.mp h; omega) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexists ds; iexact HS0
    isplitl [HS1]; · iexact HS1
    isplitl [HS2]; · iexact HS2
    iintro ⟨H0, H1, H2, H3, H4, H5, H6, H7, H8, ⟨%dn, %hn, HS0⟩, HS1, HS2⟩
    isplitl [HS0 HS1 HS2 Hg]
    · isplitl [HS0 HS1 HS2]
      · isplitl [HS0]
        · iexists dn; isplitr
          · ipureintro; intro u hu; obtain rfl : u = t := Fin.ext (by omega); exact hn
          iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  by_cases h1 : t.val % 2 = 0
  · iintro ⟨⟨⟨⟨%ds, %hd, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid0.coords t) _ _ _ _ _ _ _ _ _ _ _ _ _ _ _ _ _ _ _ _ _ _ _ _ (fun h => h0 (e1.mp h)) (fun h => by have := e2.mp h; omega) (e3.mpr h1) (fun h => by have := e4.mp h; omega) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]
    · iexists ds; isplitr
      · ipureintro; exact carry m c t ds hd h0
      iexact HS0
    isplitl [HS1]; · iexact HS1
    isplitl [HS2]; · iexact HS2
    iintro ⟨H0, H1, H2, H3, H4, H5, H6, H7, H8, ⟨%dn, %hn, HS0⟩, HS1, HS2⟩
    isplitl [HS0 HS1 HS2 Hg]
    · isplitl [HS0 HS1 HS2]
      · isplitl [HS0]
        · iexists dn; isplitr
          · ipureintro; intro u hu; obtain rfl : u = t := Fin.ext (by omega); exact hn
          iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨⟨⟨⟨%ds, %hd, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runC c (grid0.coords t) _ _ _ _ _ _ _ _ _ _ _ _ _ _ _ _ _ _ _ _ _ _ _ _ (fun h => h0 (e1.mp h)) (e2.mpr (by omega)) (fun h => h1 (e3.mp h)) (e4.mpr (by omega)) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]
    · iexists ds; isplitr
      · ipureintro; exact carry m c t ds hd h0
      iexact HS0
    isplitl [HS1]; · iexact HS1
    isplitl [HS2]; · iexact HS2
    iintro ⟨H0, H1, H2, H3, H4, H5, H6, H7, H8, ⟨%dn, %hn, HS0⟩, HS1, HS2⟩
    isplitl [HS0 HS1 HS2 Hg]
    · isplitl [HS0 HS1 HS2]
      · isplitl [HS0]
        · iexists dn; isplitr
          · ipureintro; intro u hu; obtain rfl : u = t := Fin.ext (by omega); exact hn
          iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at a point's slots is the body at that point. -/
theorem defs₀_row (t : Fin cfg0.N) :
    defs₀ (F := F) .tc cfg0.body (cfg0.bodyArgs t (cfg0.slots t)) = bodyAt0 t := by
  unfold defs₀; rw [Defs.onTc_tc]

/-- Every point stores the attention's output block, from one slot or the other. -/
theorem idle6 : ∀ t : Fin cfg0.N, cfg0.idle 6 (cfg0.grid.coords t) = false := (by decide +kernel : ∀ t : Fin grid0.N, idle0 6 (grid0.coords t) = false)

/-- The body obligation at every point. -/
theorem body_obligation (c : Dev nD) : BodyObligation (dats (F := F) m 0 c) (defs₀ (F := F)) Variants.none () Set.univ := fun t => by
  rw [bigSep_W0, bigSep_W0, defs₀_row, idle6 t]
  exact triple_restated (sound_body m c t) rfl .rfl fun _ => .rfl

set_option backward.isDefEq.respectTransparency.types false in
/-- The launch: every execution terminates, each array at what the points' write-backs make of it, every counter at zero. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := Phi_in m) (hout := Phi_out m)

/-- The frame: the argument arrays end unchanged, every counter at zero, and the result arrays are those of the points' write-backs. -/
theorem run_all : θ_run defs (onTc (τ := τ) (main (F := F))) ⟨m, fun _ => 0, ρ⟩ (fun r => (∀ c : Dev nD,
      (r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_v0_2) = (dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨⟨(h.1 c).1 6, (h.1 c).1 7, (h.1 c).1 8⟩,
      ((h.1 c).1 1).trans (((dats m 0 c).arrAt_in 1 rfl _).trans ((A_eq m c 1).trans (V_main_arg0 m c))),
      ((h.1 c).1 2).trans (((dats m 0 c).arrAt_in 2 rfl _).trans ((A_eq m c 2).trans (V_main_arg1 m c))),
      ((h.1 c).1 3).trans (((dats m 0 c).arrAt_in 3 rfl _).trans ((A_eq m c 3).trans (V_main_arg2 m c))),
      ((h.1 c).1 4).trans (((dats m 0 c).arrAt_in 4 rfl _).trans ((A_eq m c 4).trans (V_main_arg3 m c))),
      ((h.1 c).1 5).trans (((dats m 0 c).arrAt_in 5 rfl _).trans ((A_eq m c 5).trans (V_main_arg4 m c)))⟩, h.2⟩) (run_main m ρ)

end Cert.KernelIdeal.Hand

end
-- ==== Proof.KI.Softmax.lean ====
/- The running softmax over the extended reals: the recursion over blocks of 512 keys that keeps a maximum and rescales an accumulator computes, once
   divided by the same recursion over ones, the sum of the values weighted by the softmax of the scores. -/
module

public import Idealize.ShloMosaic.PureOps.Ideal.Laws
public import Mathlib.Data.EReal.Inv
public import Mathlib.Algebra.BigOperators.Intervals

@[expose] public section

noncomputable section

namespace Cert.Softmax

open Idealize.ShloMosaic Finset

/-- The running maximum of the scores of the first `n` blocks. -/
def rmax (σ : ℕ → EReal) : ℕ → EReal
  | 0 => ⊥
  | n + 1 => max (rmax σ n) (Finset.univ.fold max ⊥ fun r : Fin 512 => σ (512 * n + r))

/-- The running accumulator: rescaled to the new maximum, then the next block's weighted values added. -/
def racc (σ ω : ℕ → EReal) : ℕ → EReal
  | 0 => 0
  | n + 1 => Ideal.exp2 (rmax σ n - rmax σ (n + 1)) * racc σ ω n
      + ∑ r : Fin 512, ω (512 * n + r) * Ideal.exp2 (σ (512 * n + r) - rmax σ (n + 1))

/-- A score: a real, or minus infinity where the mask removes the key. -/
def IsScore (x : EReal) : Prop := x = ⊥ ∨ ∃ r : ℝ, x = r

theorem IsScore.lt_top {x : EReal} (h : IsScore x) : x < ⊤ := by
  rcases h with rfl | ⟨r, rfl⟩
  · exact bot_lt_top
  · exact EReal.coe_lt_top r

theorem rmax_le_iff (σ : ℕ → EReal) (n : ℕ) (b : EReal) : rmax σ n ≤ b ↔ ∀ j < 512 * n, σ j ≤ b := by
  induction n with
  | zero => simp [rmax]
  | succ n ih =>
    rw [rmax, max_le_iff, ih, Finset.fold_max_le]
    constructor
    · rintro ⟨h1, -, h2⟩ j hj
      by_cases h : j < 512 * n
      · exact h1 j h
      · have := h2 (⟨j - 512 * n, by omega⟩ : Fin 512) (Finset.mem_univ _)
        rwa [show 512 * n + ((⟨j - 512 * n, by omega⟩ : Fin 512) : ℕ) = j by simp; omega] at this
    · exact fun h => ⟨fun j hj => h j (by omega), bot_le, fun r _ => h _ (by have := r.isLt; omega)⟩

theorem rmax_lt_top {σ : ℕ → EReal} (h : ∀ j, IsScore (σ j)) (n : ℕ) : rmax σ n < ⊤ := by
  induction n with
  | zero => exact bot_lt_top
  | succ n ih =>
    rw [rmax, max_lt_iff, Finset.fold_max_lt]
    exact ⟨ih, bot_lt_top, fun r _ => (h _).lt_top⟩

/-- The running maximum is a real number once one real score has been seen. -/
theorem rmax_real {σ : ℕ → EReal} (h : ∀ j, IsScore (σ j)) (h0 : σ 0 ≠ ⊥) (n : ℕ) (hn : 0 < n) : ∃ r : ℝ, rmax σ n = r := by
  have h1 : σ 0 ≤ rmax σ n := (rmax_le_iff σ n _).1 le_rfl 0 (by omega)
  have h2 : rmax σ n ≠ ⊥ := fun e => h0 (le_bot_iff.1 (e ▸ h1))
  exact ⟨(rmax σ n).toReal, (EReal.coe_toReal (rmax_lt_top h n).ne h2).symm⟩

theorem exp2_coe (r : ℝ) : Ideal.exp2 (r : EReal) = ((2 ^ r : ℝ) : EReal) := rfl

theorem exp2_bot : Ideal.exp2 ⊥ = 0 := rfl

/-- A score's weight is a nonnegative real. -/
theorem exp2_real {x : EReal} (h : IsScore x) (a : ℝ) : ∃ r : ℝ, 0 ≤ r ∧ Ideal.exp2 (x - a) = r := by
  rcases h with rfl | ⟨r, rfl⟩
  · exact ⟨0, le_rfl, by rw [EReal.bot_sub, exp2_bot]; rfl⟩
  · exact ⟨2 ^ (r - a), Real.rpow_nonneg (by norm_num) _, by rw [← EReal.coe_sub, exp2_coe]⟩

/-- Rescaling a weight from one maximum to the next. -/
theorem exp2_rescale {x : EReal} (h : IsScore x) (a b : ℝ) :
    Ideal.exp2 ((a : EReal) - b) * Ideal.exp2 (x - a) = Ideal.exp2 (x - b) := by
  rcases h with rfl | ⟨r, rfl⟩
  · rw [EReal.bot_sub, EReal.bot_sub, exp2_bot, mul_zero]
  · rw [← EReal.coe_sub, ← EReal.coe_sub, ← EReal.coe_sub, exp2_coe, exp2_coe, exp2_coe, ← EReal.coe_mul, ← Real.rpow_add (by norm_num)]
    congr 2; ring

/-- A nonnegative real distributes over a finite sum of extended reals. -/
theorem mul_sum_of_real {ι : Type*} (s : Finset ι) (f : ι → EReal) (a : ℝ) (ha : 0 ≤ a) : (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

/-- The accumulator is the sum of the values, each weighted at the current maximum. -/
theorem racc_eq {σ : ℕ → EReal} (ω : ℕ → EReal) (h : ∀ j, IsScore (σ j)) (h0 : σ 0 ≠ ⊥) (n : ℕ) :
    racc σ ω n = ∑ j ∈ range (512 * n), ω j * Ideal.exp2 (σ j - rmax σ n) := by
  induction n with
  | zero => simp [racc]
  | succ n ih =>
    rw [racc, ih, show 512 * (n + 1) = 512 * n + 512 by ring, Finset.sum_range_add,
      Finset.sum_range (fun x => ω (512 * n + x) * Ideal.exp2 (σ (512 * n + x) - rmax σ (n + 1)))]
    congr 1
    rcases Nat.eq_zero_or_pos n with rfl | hn
    · simp
    obtain ⟨a, ha⟩ := rmax_real h h0 n hn
    obtain ⟨b, hb⟩ := rmax_real h h0 (n + 1) (by omega)
    rw [ha, hb]
    obtain ⟨c, hc, ec⟩ := exp2_real (Or.inr ⟨a, rfl⟩) b
    rw [ec, mul_sum_of_real _ _ c hc]
    refine Finset.sum_congr rfl fun j _ => ?_
    rw [← ec, mul_left_comm, exp2_rescale (h j)]

/-- The running softmax: what the kernel divides is the sum of the values weighted by the softmax of the scores over all `N` keys, those past the
    last block being masked. -/
theorem softmax {σ : ℕ → EReal} (ω : ℕ → EReal) (h : ∀ j, IsScore (σ j)) (h0 : σ 0 ≠ ⊥) (n N : ℕ) (hn : 0 < n) (hN : 512 * n ≤ N)
    (hm : ∀ j, 512 * n ≤ j → σ j = ⊥) (M : EReal) (hM : M = Finset.univ.fold max ⊥ fun j : Fin N => σ j) :
    Ideal.div (racc σ ω n) (racc σ (fun _ => 1) n)
      = ∑ j : Fin N, ω j * Ideal.div (Ideal.exp2 (σ j - M)) (∑ i : Fin N, Ideal.exp2 (σ i - M)) := by
  have eM : M = rmax σ n := by
    rw [hM]
    apply eq_of_forall_ge_iff
    intro b
    rw [rmax_le_iff, Finset.fold_max_le]
    constructor
    · exact fun hb j hj => hb.2 ⟨j, by omega⟩ (Finset.mem_univ _)
    · refine fun hb => ⟨bot_le, fun j _ => ?_⟩
      by_cases hj : (j : ℕ) < 512 * n
      · exact hb j hj
      · rw [hm j (by omega)]; exact bot_le
  clear hM; subst eM
  obtain ⟨a, ha⟩ := rmax_real h h0 n hn
  have hfull : ∀ f : ℕ → EReal, ∑ j ∈ range (512 * n), f j * Ideal.exp2 (σ j - rmax σ n) = ∑ j : Fin N, f j * Ideal.exp2 (σ j - rmax σ n) := by
    intro f
    rw [← Finset.sum_range (fun j => f j * Ideal.exp2 (σ j - rmax σ n))]
    refine Finset.sum_subset (fun x hx => by simp only [Finset.mem_range] at *; omega) fun j _ hj => ?_
    rw [hm j (by simpa using hj), ha, EReal.bot_sub, exp2_bot, mul_zero]
  rw [racc_eq ω h h0, racc_eq (fun _ => 1) h h0, hfull, hfull]
  simp only [one_mul]
  rw [ha]
  choose p hp ep using fun j => exp2_real (h j) a
  simp only [ep]
  obtain ⟨r0, e0⟩ : ∃ r : ℝ, σ 0 = r := (h 0).resolve_left h0
  have p0 : 0 < p 0 := by
    have := ep 0
    rw [e0, ← EReal.coe_sub, exp2_coe] at this
    have := EReal.coe_injective this
    rw [← this]; exact Real.rpow_pos_of_pos (by norm_num) _
  have hL : 0 < ∑ j : Fin N, p j := Finset.sum_pos' (fun j _ => hp j) ⟨⟨0, by omega⟩, Finset.mem_univ _, p0⟩
  have eL : ∑ j : Fin N, (p j : EReal) = ((∑ j : Fin N, p j : ℝ) : EReal) := by
    induction (Finset.univ : Finset (Fin N)) using Finset.induction_on with
    | empty => simp
    | insert i s hi ih => rw [Finset.sum_insert hi, Finset.sum_insert hi, ih, EReal.coe_add]
  rw [eL]
  generalize (∑ j : Fin N, p j) = L at hL
  have hd : ∀ x : EReal, Ideal.div x (L : EReal) = ((L⁻¹ : ℝ) : EReal) * x := by
    intro x
    rw [Ideal.div, if_neg (by exact_mod_cast hL.ne'), mul_comm, EReal.coe_inv]
  simp only [hd]
  rw [mul_sum_of_real _ _ _ (inv_nonneg.2 hL.le)]
  exact Finset.sum_congr rfl fun j _ => mul_left_comm _ _ _

end Cert.Softmax

end
-- ==== Proof.KI.Point.lean ====
/- The steps of the attention kernel over the extended reals, read at an index: the recursion over the blocks of keys is the running softmax. -/
module

public import proofs.«01_k».proof.Proof.KI.Out
public import proofs.«01_k».proof.Proof.KI.Softmax
public import Idealize.ShloMosaic.Lib.Pointwise

@[expose] public section

set_option maxRecDepth 16384

noncomputable section

namespace Cert.KernelIdeal.Hand

open Idealize.ShloMosaic Idealize.ShloMosaic.TcCoe
open Cert.KernelIdeal.Gen Cert.Softmax

theorem ofBits_ninf : Ideal.ofBits .f32 0xFF800000#32 = ⊥ := by simp [Ideal.ofBits, Ideal.ieee]

theorem ofBits_ninf' : Ideal.ofBits .f32 4286578688#32 = ⊥ := ofBits_ninf

/-- A block of scores: each key's inner product with each query. -/
theorem step_score (k : Vec Ideal S512x256 .bf16) (q : Vec Ideal S256x512 .bf16) (r x : Fin 512) :
    k0_pay10 k q (ix4 0 0 r x) = ∑ c : Fin 256, k (ix2 r c) * q (ix2 c x) := by
  unfold_payloads
  pointwise

/-- The step of the maximum. -/
theorem step_max (s : Vec Ideal S1x1x512x512 .f32) (m : Vec Ideal S1x1x512 .f32) (x : Fin 512) :
    k0_pay16 s m (ix3 0 0 x) = max (m (ix3 0 0 x)) (Finset.univ.fold max ⊥ fun r : Fin 512 => s (ix4 0 0 r x)) := by
  unfold_payloads
  pointwise [ofBits_ninf']

/-- The step of the accumulator. -/
theorem step_acc (s : Vec Ideal S1x1x512x512 .f32) (m : Vec Ideal S1x1x512 .f32) (v : Vec Ideal S1x144x512 .bf16) (a : Vec Ideal S1x144x512 .f32)
    (d : Fin 144) (x : Fin 512) :
    k0_pay68 s m v a (ix3 0 d x) =
      Ideal.exp2 (m (ix3 0 0 x) - max (m (ix3 0 0 x)) (Finset.univ.fold max ⊥ fun r : Fin 512 => s (ix4 0 0 r x))) * a (ix3 0 d x)
      + ∑ r : Fin 512, v (ix3 0 d r)
          * Ideal.exp2 (s (ix4 0 0 r x) - max (m (ix3 0 0 x)) (Finset.univ.fold max ⊥ fun r : Fin 512 => s (ix4 0 0 r x))) := by
  unfold_payloads
  pointwise [ofBits_ninf']
  rfl

/-- The step of the accumulator under a mask. -/
theorem step_fin (b : IVec S512x512 1) (s : Vec Ideal S1x1x512x512 .f32) (m : Vec Ideal S1x1x512 .f32) (v : Vec Ideal S1x144x512 .bf16)
    (a : Vec Ideal S1x144x512 .f32) (d : Fin 144) (x : Fin 512) :
    k0_pay155 b s m v a (ix3 0 d x) =
      Ideal.exp2 (m (ix3 0 0 x)
          - max (m (ix3 0 0 x)) (Finset.univ.fold max ⊥ fun r : Fin 512 => Scalar.select (b (ix2 r x)) (s (ix4 0 0 r x)) ⊥)) * a (ix3 0 d x)
      + ∑ r : Fin 512, v (ix3 0 d r) * Ideal.exp2 (Scalar.select (b (ix2 r x)) (s (ix4 0 0 r x)) ⊥
          - max (m (ix3 0 0 x)) (Finset.univ.fold max ⊥ fun r : Fin 512 => Scalar.select (b (ix2 r x)) (s (ix4 0 0 r x)) ⊥)) := by
  unfold_payloads
  pointwise [ofBits_ninf']
  rfl

/-- The quotient by the ones row, transposed. -/
theorem step_out (a : Vec Ideal S1x144x512 .f32) (y : Fin 512) (d : Fin 128) :
    k0_pay3 a (ix2 y d) = Ideal.div (a (ix3 0 ⟨d.val, by omega⟩ y)) (a (ix3 0 128 y)) := by
  unfold_payloads
  pointwise

/-- A position's chunk, as the kernel's words compute it. -/
theorem chunk_word : ∀ r : Fin 512, Scalar.select
        (IntOp.andi
          (IntOp.cmpi CmpIPredicate.ne
            (IntOp.subi (BitVec.setWidth 32 (IntOp.cmpi CmpIPredicate.sgt (BitVec.ofNat 32 ↑r) 0#32))
              (BitVec.setWidth 32 (IntOp.cmpi CmpIPredicate.slt (BitVec.ofNat 32 ↑r) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 ↑r) 64#32) 0#32))
        (IntOp.subi (IntOp.divsi ArithUnit.vector (BitVec.ofNat 32 ↑r) 64#32) 1#32)
        (IntOp.divsi ArithUnit.vector (BitVec.ofNat 32 ↑r) 64#32) = BitVec.ofNat 32 (r.val / 64) := by decide +kernel

/-- The order of chunks, as words. -/
theorem chunk_le : ∀ a b : Fin 8, IntOp.cmpi CmpIPredicate.sle (BitVec.ofNat 32 a.val) (BitVec.ofNat 32 b.val) = BitVec.ofBool (decide (a.val ≤ b.val)) := by
  decide +kernel

/-- The mask of the diagonal block: a key is kept when its chunk is not after the query's. -/
theorem mask_apply (r x : Fin 512) : maskB (ix2 r x) = BitVec.ofBool (decide (r.val / 64 ≤ x.val / 64)) := by
  unfold maskB
  unfold_payloads
  pointwise
  rw [chunk_word r, chunk_word x]
  exact chunk_le ⟨r.val / 64, by omega⟩ ⟨x.val / 64, by omega⟩

section blocks

variable (q : Vec Ideal S1024x512 .bf16) (k : Vec Ideal S4096x1024 .bf16) (v : Vec Ideal S8x576x512 .bf16)

theorem score_apply (n h : ℕ) (hn : n < 8) (hh : h < 4) (r x : Fin 512) :
    scoreB q k n h (ix4 0 0 r x) = ∑ c : Fin 256, k (ix2 ⟨512 * n + r.val, by omega⟩ ⟨256 * h + c.val, by omega⟩) * q (ix2 ⟨256 * h + c.val, by omega⟩ x) := by
  unfold scoreB
  rw [step_score]
  refine Finset.sum_congr rfl fun c _ => ?_
  rw [win_of_inb (s := S4096x1024) (e := .bf16) _ _ _ (by intro a; fin_cases a <;> simp [Fin.forall_fin_two] <;> omega),
    win_of_inb (s := S1024x512) (e := .bf16) _ _ _ (by intro a; fin_cases a <;> simp [Fin.forall_fin_two] <;> omega)]
  unfold VecWindow.window
  congr 1
  · refine congrArg k (funext fun a => Fin.ext ?_)
    fin_cases a
    · show 512 * n + 1 * r.val = 512 * n + r.val; omega
    · show 256 * h + 1 * c.val = 256 * h + c.val; omega
  · refine congrArg q (funext fun a => Fin.ext ?_)
    fin_cases a
    · show 256 * h + 1 * c.val = 256 * h + c.val; omega
    · show 0 + 1 * x.val = x.val; omega

theorem val_apply (n h : ℕ) (hn : n < 8) (hh : h < 4) (d : Fin 144) (r : Fin 512) :
    valB v n h (ix3 0 d r) = v (ix3 ⟨n, hn⟩ ⟨144 * h + d.val, by omega⟩ r) := by
  unfold valB
  rw [win_of_inb (s := S8x576x512) (e := .bf16) _ _ _ (by intro a; fin_cases a <;> simp <;> omega)]
  unfold VecWindow.window
  refine congrArg v (funext fun a => Fin.ext ?_)
  fin_cases a
  · show n + 1 * 0 = n; omega
  · show 144 * h + 1 * d.val = 144 * h + d.val; omega
  · show 0 + 1 * r.val = r.val; omega

theorem max0_apply (h : ℕ) (hh : h < 4) (x : Fin 512) : maxB q k h 0 (ix3 0 0 x) = ⊥ := by
  unfold maxB
  rw [win_of_inb (s := S4x1x512) (e := .f32) _ _ _ (by intro a; fin_cases a <;> simp <;> omega)]
  unfold VecWindow.window
  unfold_payloads
  pointwise [ofBits_ninf']

theorem acc0_apply (h : ℕ) (hh : h < 4) (d : Fin 144) (x : Fin 512) : accB q k v h 0 (ix3 0 d x) = 0 := by
  unfold accB
  rw [win_of_inb (s := S4x144x512) (e := .f32) _ _ _ (by intro a; fin_cases a <;> simp <;> omega)]
  unfold VecWindow.window
  unfold_payloads
  pointwise

/-- The maxima of the blocks are the running maximum of the scores. -/
theorem max_apply (h : ℕ) (hh : h < 4) (x : Fin 512) (σ : ℕ → EReal) (n : ℕ)
    (hσ : ∀ i < n, ∀ r : Fin 512, scoreB q k i h (ix4 0 0 r x) = σ (512 * i + r)) : maxB q k h n (ix3 0 0 x) = rmax σ n := by
  induction n with
  | zero => exact max0_apply q k h hh x
  | succ n ih =>
    rw [maxB, step_max, ih (fun i hi => hσ i (by omega)), rmax]
    simp only [hσ n (by omega)]

/-- The accumulators of the blocks are the running accumulator of the scores and values. -/
theorem acc_apply (h : ℕ) (hh : h < 4) (d : Fin 144) (x : Fin 512) (σ ω : ℕ → EReal) (n : ℕ)
    (hσ : ∀ i < n, ∀ r : Fin 512, scoreB q k i h (ix4 0 0 r x) = σ (512 * i + r))
    (hω : ∀ i < n, ∀ r : Fin 512, valB v i h (ix3 0 d r) = ω (512 * i + r)) : accB q k v h n (ix3 0 d x) = racc σ ω n := by
  induction n with
  | zero => exact acc0_apply q k v h hh d x
  | succ n ih =>
    rw [accB, step_acc, ih (fun i hi => hσ i (by omega)) (fun i hi => hω i (by omega)),
      max_apply q k h hh x σ n (fun i hi => hσ i (by omega)), racc, rmax]
    simp only [hσ n (by omega), hω n (by omega)]

/-- The accumulator after the masked diagonal block. -/
theorem fin_apply (h : ℕ) (hh : h < 4) (d : Fin 144) (x : Fin 512) (σ ω : ℕ → EReal) (n : ℕ)
    (hσ : ∀ i < n, ∀ r : Fin 512, scoreB q k i h (ix4 0 0 r x) = σ (512 * i + r))
    (hd : ∀ r : Fin 512, (if r.val / 64 ≤ x.val / 64 then scoreB q k n h (ix4 0 0 r x) else ⊥) = σ (512 * n + r))
    (hω : ∀ i ≤ n, ∀ r : Fin 512, valB v i h (ix3 0 d r) = ω (512 * i + r)) : finB q k v n h (ix3 0 d x) = racc σ ω (n + 1) := by
  have hd' : ∀ r : Fin 512, Scalar.select (maskB (ix2 r x)) (scoreB q k n h (ix4 0 0 r x)) ⊥ = σ (512 * n + r) := by
    intro r
    rw [mask_apply, Scalar.select_ofBool, ← hd r]
    simp only [decide_eq_true_eq]
  rw [finB, step_fin, acc_apply q k v h hh d x σ ω n hσ (fun i hi => hω i (by omega)), max_apply q k h hh x σ n hσ, racc, rmax]
  simp only [hd', hω n le_rfl]

/-- The block of head `h` of the output: the running softmax of the scores, applied to the values. -/
theorem out_apply (h : ℕ) (hh : h < 4) (y : Fin 512) (d : Fin 128) (σ ω : ℕ → EReal) (n : ℕ)
    (hσ : ∀ i < n, ∀ r : Fin 512, scoreB q k i h (ix4 0 0 r y) = σ (512 * i + r))
    (hd : ∀ r : Fin 512, (if r.val / 64 ≤ y.val / 64 then scoreB q k n h (ix4 0 0 r y) else ⊥) = σ (512 * n + r))
    (hω : ∀ i ≤ n, ∀ r : Fin 512, valB v i h (ix3 0 ⟨d.val, by omega⟩ r) = ω (512 * i + r))
    (h1 : ∀ i ≤ n, ∀ r : Fin 512, valB v i h (ix3 0 128 r) = 1) :
    outB q k v n h (ix2 y d) = Ideal.div (racc σ ω (n + 1)) (racc σ (fun _ => 1) (n + 1)) := by
  rw [outB, step_out, fin_apply q k v h hh _ y σ ω n hσ hd hω, fin_apply q k v h hh _ y σ (fun _ => 1) n hσ hd h1]

end blocks

end Cert.KernelIdeal.Hand

end
-- ==== Proof.KI.Spec.lean ====
/- The chunk-masked attention as a formula over the extended reals, from the argument arrays: transposed queries, keys, and padded transposed values. -/
module

public import proofs.«01_k».proof.Proof.KI.Softmax
public import Idealize.ShloMosaic.Lib.Pointwise.Index

@[expose] public section

noncomputable section

namespace Cert.Attn

open Idealize.ShloMosaic Cert.Softmax

/-- Keys are visible to a query of the same or a later chunk of 64; the score is the inner product over the head's 256 lanes, and minus infinity of a key that is not visible. -/
def score (Q : (⟨2, ![4096, 8192]⟩ : Shape).Idx → EReal) (K : (⟨2, ![8192, 4096]⟩ : Shape).Idx → EReal) (b : Fin 2) (g : Fin 16) (i : Fin 4096) (j : ℕ) : EReal :=
  if h : j < 4096 ∧ j / 64 ≤ i.val / 64 then
    ∑ c : Fin 256, K (ix2 ⟨4096 * b.val + j, by omega⟩ ⟨256 * g.val + c.val, by omega⟩) * Q (ix2 ⟨256 * g.val + c.val, by omega⟩ ⟨4096 * b.val + i.val, by omega⟩)
  else ⊥

/-- Row `d` of a head's padded values at key `j`. -/
def value (V : (⟨3, ![16, 2304, 512]⟩ : Shape).Idx → EReal) (b : Fin 2) (g : Fin 16) (d : Fin 144) (j : ℕ) : EReal :=
  if h : j < 4096 then V (ix3 ⟨8 * b.val + j / 512, by omega⟩ ⟨144 * g.val + d.val, by omega⟩ ⟨j % 512, by omega⟩) else 0

/-- The greatest score of a query. -/
def top (Q : (⟨2, ![4096, 8192]⟩ : Shape).Idx → EReal) (K : (⟨2, ![8192, 4096]⟩ : Shape).Idx → EReal) (b : Fin 2) (g : Fin 16) (i : Fin 4096) : EReal :=
  Finset.univ.fold max ⊥ fun j : Fin 4096 => score Q K b g i j

/-- The attention at a position, head and lane: the values weighted by the softmax, in powers of two, of the scores. -/
def att (Q : (⟨2, ![4096, 8192]⟩ : Shape).Idx → EReal) (K : (⟨2, ![8192, 4096]⟩ : Shape).Idx → EReal) (V : (⟨3, ![16, 2304, 512]⟩ : Shape).Idx → EReal)
    (b : Fin 2) (g : Fin 16) (i : Fin 4096) (d : Fin 128) : EReal :=
  ∑ j : Fin 4096, value V b g ⟨d.val, by omega⟩ j
    * Ideal.div (Ideal.exp2 (score Q K b g i j - top Q K b g i)) (∑ l : Fin 4096, Ideal.exp2 (score Q K b g i l - top Q K b g i))

/-- The attention as an array: positions by rows, heads and lanes by columns. -/
def attn (Q : (⟨2, ![4096, 8192]⟩ : Shape).Idx → EReal) (K : (⟨2, ![8192, 4096]⟩ : Shape).Idx → EReal) (V : (⟨3, ![16, 2304, 512]⟩ : Shape).Idx → EReal) :
    (⟨2, ![8192, 2048]⟩ : Shape).Idx → EReal := fun i =>
  have h0 : (i 0).val < 8192 := (i 0).isLt
  have h1 : (i 1).val < 2048 := (i 1).isLt
  att Q K V ⟨(i 0).val / 4096, by omega⟩ ⟨(i 1).val / 128, by omega⟩ ⟨(i 0).val % 4096, by omega⟩ ⟨(i 1).val % 128, by omega⟩

/-- What the formula asks of its arrays: finite queries and keys, and ones in the row of each head's values that follows its 128 lanes. -/
structure Ok (Q : (⟨2, ![4096, 8192]⟩ : Shape).Idx → EReal) (K : (⟨2, ![8192, 4096]⟩ : Shape).Idx → EReal) (V : (⟨3, ![16, 2304, 512]⟩ : Shape).Idx → EReal) : Prop where
  q : ∀ i, ∃ r : ℝ, Q i = r
  k : ∀ i, ∃ r : ℝ, K i = r
  v : ∀ (b g : Fin 16) (r : Fin 512), V (ix3 b ⟨144 * g.val + 128, by omega⟩ r) = 1

/-- A finite sum of reals is a real. -/
theorem sum_real {ι : Type*} (s : Finset ι) (f : ι → EReal) (h : ∀ i, ∃ r : ℝ, f i = r) : ∃ r : ℝ, ∑ i ∈ s, f i = r := by
  classical
  induction s using Finset.induction_on with
  | empty => exact ⟨0, by simp⟩
  | insert i s hi ih =>
    obtain ⟨a, ha⟩ := h i
    obtain ⟨b, hb⟩ := ih
    exact ⟨a + b, by rw [Finset.sum_insert hi, ha, hb, EReal.coe_add]⟩

section

variable {Q : (⟨2, ![4096, 8192]⟩ : Shape).Idx → EReal} {K : (⟨2, ![8192, 4096]⟩ : Shape).Idx → EReal} {V : (⟨3, ![16, 2304, 512]⟩ : Shape).Idx → EReal}

/-- A visible key's score is a real. -/
theorem score_real (H : Ok Q K V) (b : Fin 2) (g : Fin 16) (i : Fin 4096) (j : ℕ) (h : j < 4096 ∧ j / 64 ≤ i.val / 64) : ∃ r : ℝ, score Q K b g i j = r := by
  rw [score, dif_pos h]
  refine sum_real _ _ fun c => ?_
  obtain ⟨x, hx⟩ := H.k (ix2 ⟨4096 * b.val + j, by omega⟩ ⟨256 * g.val + c.val, by omega⟩)
  obtain ⟨y, hy⟩ := H.q (ix2 ⟨256 * g.val + c.val, by omega⟩ ⟨4096 * b.val + i.val, by omega⟩)
  exact ⟨x * y, by rw [hx, hy, EReal.coe_mul]⟩

theorem score_isScore (H : Ok Q K V) (b : Fin 2) (g : Fin 16) (i : Fin 4096) (j : ℕ) : IsScore (score Q K b g i j) := by
  by_cases h : j < 4096 ∧ j / 64 ≤ i.val / 64
  · exact Or.inr (score_real H b g i j h)
  · exact Or.inl (by rw [score, dif_neg h])

/-- The running softmax over the blocks up to the query's own is the attention. -/
theorem running (H : Ok Q K V) (b : Fin 2) (g : Fin 16) (i : Fin 4096) (d : Fin 128) :
    Ideal.div (racc (score Q K b g i) (value V b g ⟨d.val, by omega⟩) (i.val / 512 + 1)) (racc (score Q K b g i) (fun _ => 1) (i.val / 512 + 1)) = att Q K V b g i d := by
  have h0 : score Q K b g i 0 ≠ ⊥ := by
    obtain ⟨r, hr⟩ := score_real H b g i 0 ⟨by omega, by omega⟩
    rw [hr]; exact EReal.coe_ne_bot r
  refine softmax (value V b g ⟨d.val, by omega⟩) (score_isScore H b g i) h0 (i.val / 512 + 1) 4096 (by omega) (by omega) (fun j hj => ?_) _ rfl
  rw [score, dif_neg (by omega)]

end

end Cert.Attn

end
-- ==== Proof.KI.Value.lean ====
/- The attention kernel's result arrays over the extended reals: the chunk-masked attention of the arguments, and the last slices of the two weight arrays. -/
module

public import proofs.«01_k».proof.Proof.KI.Frame
public import proofs.«01_k».proof.Proof.KI.Point
public import proofs.«01_k».proof.Proof.KI.Spec

@[expose] public section

set_option maxRecDepth 16384

noncomputable section

namespace Cert.KernelIdeal.Hand

open Idealize.ShloMosaic Idealize.ShloMosaic.TcCoe
open Idealize.ShloMosaic.Pipeline (Dat Cfg Window)
open Cert.KernelIdeal.Gen Cert.Softmax Cert.Attn

variable (m : (ℓ : Loc nD τ sig) → Buf (Elt Ideal) ℓ) (c : Dev nD)

/-- The query block of a point, at coordinates. -/
theorem qblk (t : Fin cfg0.N) (a : Fin 1024) (b : Fin 512) :
    (iblk m c 0 t : Vec Ideal S1024x512 .bf16) (ix2 a b)
      = V m c main_arg0 (ix2 ⟨1024 * (t.val / 8 % 4) + a.val, by omega⟩ ⟨512 * (8 * (t.val / 32) + t.val % 8) + b.val, by have := N64 t; omega⟩) := by
  have ht := N64 t
  blk_simp [iblk]
  refine congrArg (V m c main_arg0) ?_
  blk_ext [e0]

/-- The key block of a point, at coordinates. -/
theorem kblk (t : Fin cfg0.N) (a : Fin 4096) (b : Fin 1024) :
    (iblk m c 2 t : Vec Ideal S4096x1024 .bf16) (ix2 a b)
      = V m c main_arg1 (ix2 ⟨4096 * (t.val / 32) + a.val, by have := N64 t; omega⟩ ⟨1024 * (t.val / 8 % 4) + b.val, by omega⟩) := by
  have ht := N64 t
  blk_simp [iblk]
  refine congrArg (V m c main_arg1) ?_
  blk_ext [e2]

/-- The value block of a point, at coordinates. -/
theorem vblk (t : Fin cfg0.N) (a : Fin 8) (b : Fin 576) (r : Fin 512) :
    (iblk m c 3 t : Vec Ideal S8x576x512 .bf16) (ix3 a b r)
      = V m c main_arg2 (ix3 ⟨8 * (t.val / 32) + a.val, by have := N64 t; omega⟩ ⟨576 * (t.val / 8 % 4) + b.val, by omega⟩ r) := by
  have ht := N64 t
  blk_simp [iblk]
  refine congrArg (V m c main_arg2) ?_
  blk_ext [e3]

/-- A block's scores are the attention's, of the keys that are visible. -/
theorem score_blk (t : Fin cfg0.N) (n h : ℕ) (hn : n < 8) (hh : h < 4) (r y : Fin 512)
    (hv : (512 * n + r.val) / 64 ≤ (512 * (t.val % 8) + y.val) / 64) :
    scoreB (iblk m c 0 t) (iblk m c 2 t) n h (ix4 0 0 r y)
      = score (V m c main_arg0) (V m c main_arg1) ⟨t.val / 32, by have := N64 t; omega⟩ ⟨4 * (t.val / 8 % 4) + h, by omega⟩ ⟨512 * (t.val % 8) + y.val, by omega⟩ (512 * n + r.val) := by
  have ht := N64 t
  rw [score_apply (q := iblk m c 0 t) (k := iblk m c 2 t) n h hn hh, score, dif_pos ⟨by omega, hv⟩]
  refine Finset.sum_congr rfl fun l _ => ?_
  rw [qblk, kblk]
  congr 1
  · refine congrArg (V m c main_arg1) ?_
    congr 1 <;> apply Fin.ext <;> simp only [] <;> omega
  · refine congrArg (V m c main_arg0) ?_
    congr 1 <;> apply Fin.ext <;> simp only [] <;> omega

/-- A block's values are the attention's. -/
theorem val_blk (t : Fin cfg0.N) (n h : ℕ) (hn : n < 8) (hh : h < 4) (d : Fin 144) (r : Fin 512) :
    valB (iblk m c 3 t) n h (ix3 0 d r)
      = value (V m c main_arg2) ⟨t.val / 32, by have := N64 t; omega⟩ ⟨4 * (t.val / 8 % 4) + h, by omega⟩ d (512 * n + r.val) := by
  have ht := N64 t
  rw [val_apply (v := iblk m c 3 t) n h hn hh, value, dif_pos (by omega), vblk]
  refine congrArg (V m c main_arg2) ?_
  congr 1 <;> apply Fin.ext <;> simp only [] <;> omega

/-- The output block of a point is the attention of its queries. -/
theorem out_blk (H : Ok (V m c main_arg0) (V m c main_arg1) (V m c main_arg2)) (t : Fin cfg0.N) (y : S512x512.Idx) (h0 : (y 0).val < 512) (h1 : (y 1).val < 512) :
    outO (iblk m c 0 t) (iblk m c 2 t) (iblk m c 3 t) (grid0.coords t 2).val y
      = att (V m c main_arg0) (V m c main_arg1) (V m c main_arg2) ⟨t.val / 32, by have := N64 t; omega⟩ ⟨4 * (t.val / 8 % 4) + (y 1).val / 128, by omega⟩
          ⟨512 * (t.val % 8) + (y 0).val, by omega⟩ ⟨(y 1).val % 128, by omega⟩ := by
  have ht := N64 t
  have hc : (grid0.coords t 2).val = t.val % 8 := coord2 t
  have hh : (y 1).val / 128 < 4 := by omega
  rw [outO, hc]
  refine Eq.trans ?_ (running H _ _ _ _)
  have hi : (512 * (t.val % 8) + (y 0).val) / 512 = t.val % 8 := by omega
  simp only [hi]
  have hy : (fun a => ⟨(y a).val % S512x128.size a, Nat.mod_lt _ (pos512x128 a)⟩ : S512x128.Idx) = ix2 (⟨(y 0).val, h0⟩ : Fin 512) (⟨(y 1).val % 128, by omega⟩ : Fin 128) := by
    funext a
    apply Fin.ext
    fin_cases a
    · exact Nat.mod_eq_of_lt h0
    · rfl
  refine (congrArg (outB (iblk m c 0 t) (iblk m c 2 t) (iblk m c 3 t) (t.val % 8) ((y 1).val / 128)) hy).trans ?_
  refine out_apply (iblk m c 0 t) (iblk m c 2 t) (iblk m c 3 t) ((y 1).val / 128) hh ⟨(y 0).val, h0⟩ ⟨(y 1).val % 128, by omega⟩ _ _ (t.val % 8) ?_ ?_ ?_ ?_
  · intro i hi r
    exact score_blk m c t i _ (by omega) hh r ⟨(y 0).val, h0⟩ (by show (512 * i + r.val) / 64 ≤ (512 * (t.val % 8) + (y 0).val) / 64; omega)
  · intro r
    by_cases hr : r.val / 64 ≤ (y 0).val / 64
    · rw [if_pos hr]
      exact score_blk m c t (t.val % 8) _ (by omega) hh r ⟨(y 0).val, h0⟩ (by show (512 * (t.val % 8) + r.val) / 64 ≤ (512 * (t.val % 8) + (y 0).val) / 64; omega)
    · rw [if_neg hr, score, dif_neg]
      show ¬ (512 * (t.val % 8) + r.val < 4096 ∧ (512 * (t.val % 8) + r.val) / 64 ≤ (512 * (t.val % 8) + (y 0).val) / 64)
      omega
  · exact fun i hi r => val_blk m c t i _ (by omega) hh _ r
  · intro i hi r
    rw [val_blk m c t i _ (by omega) hh, value, dif_pos (by omega)]
    refine Eq.trans (congrArg (V m c main_arg2) ?_) (H.v ⟨8 * (t.val / 32) + i, by omega⟩ ⟨4 * (t.val / 8 % 4) + (y 1).val / 128, by omega⟩ r)
    congr 1 <;> apply Fin.ext <;> simp only [] <;> omega

/-- The attention's array after the run. -/
theorem arr6 (H : Ok (V m c main_arg0) (V m c main_arg1) (V m c main_arg2)) :
    (dats m 0 c).arrAt 6 cfg0.N = (attn (V m c main_arg0) (V m c main_arg1) (V m c main_arg2) : Buf (Elt Ideal) ((c.tc : Thread nD τ).loc main_v0_0)) := by
  refine (dats m 0 c).arrAt_eq_of_covers 6 _ (by decide +kernel) fun t hf y => ?_
  blk_simp
  rw [after6]
  have ht := N64 t
  idx_bounds y
  refine (out_blk m c H t y (by omega) (by omega)).trans ?_
  have r0 : ((win0_6.blk t).view.emb y 0 : ℕ) = (t.val / 32 * 8 + t.val % 8) * 512 + (y 0).val := by blk_simp [e6]
  have r1 : ((win0_6.blk t).view.emb y 1 : ℕ) = (t.val / 8 % 4) * 512 + (y 1).val := by blk_simp [e6]
  rw [attn]
  congr 1 <;> apply Fin.ext <;> simp only [r0, r1] <;> omega

/-- The first cast's array after the run. -/
theorem arr7 : (dats m 0 c).arrAt 7 cfg0.N
    = (fun i => V m c main_arg3 (ix3 3 (i 0) (i 1)) : Buf (Elt Ideal) ((c.tc : Thread nD τ).loc main_v0_1)) := by
  refine (dats m 0 c).arrAt_eq_of_covers 7 _ (by decide +kernel) fun t hf y => ?_
  blk_simp
  rw [after7]
  have ht := N64 t
  unfold_payloads
  pointwise
  blk_simp [iblk]
  refine congrArg (V m c main_arg3) ?_
  blk_ext [e4, e7]

/-- The second cast's array after the run. -/
theorem arr8 : (dats m 0 c).arrAt 8 cfg0.N
    = (fun i => V m c main_arg4 (ix3 3 (i 0) (i 1)) : Buf (Elt Ideal) ((c.tc : Thread nD τ).loc main_v0_2)) := by
  refine (dats m 0 c).arrAt_eq_of_covers 8 _ (by decide +kernel) fun t hf y => ?_
  blk_simp
  rw [after8]
  have ht := N64 t
  unfold_payloads
  pointwise
  blk_simp [iblk]
  refine congrArg (V m c main_arg4) ?_
  blk_ext [e5, e8]

end Cert.KernelIdeal.Hand

end
-- ==== Proof.RefValue.lean ====
/- The reference's results over the extended reals: the chunk-masked attention of the arguments, and the last slices of the two weight arrays. -/
module

public import proofs.«01_k».proof.Proof.Gen.ReferenceIdeal.Read
public import proofs.«01_k».proof.Proof.KI.Spec
public import Idealize.ShloMosaic.Lib.Pointwise

@[expose] public section

set_option maxRecDepth 16384

noncomputable section

namespace Cert.ReferenceIdeal.Hand

open Idealize.ShloMosaic Idealize.ShloMosaic.TcCoe
open Cert.ReferenceIdeal.Gen Cert.ReferenceIdeal.Read Cert.Softmax Cert.Attn

variable (Q : Vec Ideal S4096x8192 .bf16) (K : Vec Ideal S8192x4096 .bf16) (W : Vec Ideal S16x2304x512 .bf16)

theorem ofBits_ninf : Ideal.ofBits .f32 4286578688#32 = ⊥ := by simp [Ideal.ofBits, Ideal.ieee]

theorem ofBits_two : Ideal.ofBits .f32 1073741824#32 = ((2 : ℝ) : EReal) := by
  simp [Ideal.ofBits, Ideal.ieee, -EReal.coe_mul]; norm_num

/-- A power of two. -/
theorem pow_two (x : EReal) : Ideal.pow ((2 : ℝ) : EReal) x = Ideal.exp2 x := by
  induction x with
  | bot => show (if (2 : ℝ) < 0 then (⊥ : EReal) else if (1 : ℝ) < 2 then 0 else if (2 : ℝ) = 1 then 1 else ⊤) = 0; norm_num
  | top => show (if (2 : ℝ) < 0 then (⊥ : EReal) else if (1 : ℝ) < 2 then ⊤ else if (2 : ℝ) = 1 then 1 else 0) = ⊤; norm_num
  | coe r => rfl

/-- A position's chunk, as the reference's words compute it. -/
theorem chunk_word : ∀ i : Fin 4096, IntOp.divsi ArithUnit.host (BitVec.ofNat 32 i.val) 64#32 = BitVec.ofNat 32 (i.val / 64) := by decide +kernel

/-- The order of chunks, as words. -/
theorem chunk_le : ∀ a b : Fin 64, IntOp.cmpi CmpIPredicate.sle (BitVec.ofNat 32 a.val) (BitVec.ofNat 32 b.val) = BitVec.ofBool (decide (a.val ≤ b.val)) := by
  decide +kernel

/-- The mask: a key is kept when its chunk is not after the query's. -/
theorem mask_ref (i j : Fin 4096) : val_main_v17 (F := Ideal) (ix2 i j) = BitVec.ofBool (decide (j.val / 64 ≤ i.val / 64)) := by
  pointwise [val_main_v17, val_main_v16, val_main_v15, val_main_v14, val_main_v13, val_main_v12, val_main_v11, val_main_c, val_main_v10]
  rw [chunk_word i, chunk_word j]
  exact chunk_le ⟨j.val / 64, by omega⟩ ⟨i.val / 64, by omega⟩

/-- The masked scores. -/
theorem score_ref (b : Fin 2) (g : Fin 16) (i j : Fin 4096) : val_main_v19 (F := Ideal) Q K (ix4 b g i j) = score Q K b g i j := by
  pointwise [val_main_v19, val_main_call0_v1, val_main_call0_v2, val_main_call0_v0, val_main_cst, val_main_v18, val_main_v9, val_main_v1, val_main_v0, val_main_v3, val_main_v2]
  rw [mask_ref, Scalar.select_ofBool, score]
  simp only [decide_eq_true_eq]
  by_cases h : j.val / 64 ≤ i.val / 64
  · rw [if_pos h, dif_pos ⟨j.isLt, h⟩]
    refine Finset.sum_congr rfl fun c _ => ?_
    rw [mul_comm]
    congr 1
    · refine congrArg K ?_
      congr 1 <;> apply Fin.ext <;> simp only [] <;> omega
    · refine congrArg Q ?_
      congr 1 <;> apply Fin.ext <;> simp only [] <;> omega
  · rw [if_neg h, dif_neg (fun h' => h h'.2)]
    exact ofBits_ninf

/-- The greatest scores. -/
theorem top_ref (b : Fin 2) (g : Fin 16) (i : Fin 4096) : val_main_v20 (F := Ideal) Q K (ix3 b g i) = top Q K b g i := by
  pointwise [val_main_v20, val_main_cst_0]
  rw [ofBits_ninf, top]
  simp only [score_ref]

/-- The weights before their division. -/
theorem pow_ref (b : Fin 2) (g : Fin 16) (i j : Fin 4096) :
    val_main_v25 (F := Ideal) Q K (ix4 b g i j) = Ideal.exp2 (score Q K b g i j - top Q K b g i) := by
  pointwise [val_main_v25, val_main_v24, val_main_cst_1, val_main_v23, val_main_v22, val_main_v21]
  rw [ofBits_two, pow_two, score_ref, top_ref]

/-- The weights. -/
theorem soft_ref (b : Fin 2) (g : Fin 16) (i j : Fin 4096) : val_main_v29 (F := Ideal) Q K (ix4 b g i j)
    = Ideal.div (Ideal.exp2 (score Q K b g i j - top Q K b g i)) (∑ l : Fin 4096, Ideal.exp2 (score Q K b g i l - top Q K b g i)) := by
  pointwise [val_main_v29, val_main_v28, val_main_v27, val_main_v26, val_main_cst_2]
  simp only [pow_ref]

/-- The values. -/
theorem value_ref (b : Fin 2) (g : Fin 16) (j : Fin 4096) (d : Fin 128) :
    val_main_v8 (F := Ideal) W (ix4 b j g d) = value W b g ⟨d.val, by omega⟩ j := by
  pointwise [val_main_v8, val_main_v7, val_main_v6, val_main_v5, val_main_v4]
  rw [value, dif_pos j.isLt]
  refine congrArg W ?_
  congr 1 <;> apply Fin.ext <;> simp only [] <;> omega

/-- The attention. -/
theorem att_ref : val_main_v33 (F := Ideal) Q K W = attn Q K W := by
  funext i
  rw [eq_ix2 i]
  generalize i 0 = r
  generalize i 1 = l
  pointwise [val_main_v33, val_main_v32, val_main_v31, val_main_v30]
  simp only [value_ref, soft_ref]
  rfl

/-- The first cast. -/
theorem cast36 (X : Vec Ideal S4x2048x8192 .f32) : val_main_v36 (F := Ideal) X = fun i => X (ix3 3 (i 0) (i 1)) := by
  funext i
  pointwise [val_main_v36, val_main_v35, val_main_v34]

/-- The second cast. -/
theorem cast39 (X : Vec Ideal S4x8192x2048 .f32) : val_main_v39 (F := Ideal) X = fun i => X (ix3 3 (i 0) (i 1)) := by
  funext i
  pointwise [val_main_v39, val_main_v38, val_main_v37]

end Cert.ReferenceIdeal.Hand

end
-- ==== Proof.Pre.lean ====
/- What the precondition says of the arrays. -/
module

public import proofs.«01_k».proof.Defs
public import proofs.«01_k».proof.Proof.Gen.Pre_finite_and_ones
public import proofs.«01_k».proof.Proof.KI.Spec
public import Idealize.ShloMosaic.Lib.Pointwise

@[expose] public section

set_option maxRecDepth 16384

noncomputable section

namespace Cert.Pre_finite_and_ones.Hand

open Idealize.ShloMosaic Idealize.ShloMosaic.TcCoe
open Cert.Pre_finite_and_ones Cert.Attn

variable (Q : Vec Ideal S4096x8192 .bf16) (K : Vec Ideal S8192x4096 .bf16) (W : Vec Ideal S16x2304x512 .bf16)
  (X : Vec Ideal S4x2048x8192 .f32) (Y : Vec Ideal S4x8192x2048 .f32)

theorem ofBits_inf : Ideal.ofBits .f32 2139095040#32 = ⊤ := by simp [Ideal.ofBits, Ideal.ieee]

/-- An extended real whose absolute value is below infinity is a real. -/
theorem real_of_abs_lt {x : EReal} (h : BitVec.ofBool (decide (max x (-x) < ⊤)) = 1#1) : ∃ r : ℝ, x = r := by
  have h' : max x (-x) < ⊤ := by
    by_contra hn
    simp [hn] at h
  induction x with
  | bot => simp at h'
  | top => simp at h'
  | coe r => exact ⟨r, rfl⟩

theorem fn1 (i : S4096x8192.Idx) : (fn (F := Ideal) Q K W X Y).1 i = BitVec.ofBool (decide (max (Q i) (-(Q i)) < (⊤ : EReal))) := by
  pointwise [fn]
  rw [ofBits_inf]; rfl

theorem fn2 (i : S8192x4096.Idx) : (fn (F := Ideal) Q K W X Y).2.1 i = BitVec.ofBool (decide (max (K i) (-(K i)) < (⊤ : EReal))) := by
  pointwise [fn]
  rw [ofBits_inf]; rfl

theorem fn3 (b g : Fin 16) (r : Fin 512) : (fn (F := Ideal) Q K W X Y).2.2 (ix3 b g r) = BitVec.ofBool (decide (W (ix3 b ⟨g.val * 144 + 128, by omega⟩ r) = (1 : EReal))) := by
  pointwise [fn]

/-- Under the precondition the arrays are as the attention's formula asks. -/
theorem ok (h1 : (fn (F := Ideal) Q K W X Y).1 = fun _ => 1#1) (h2 : (fn (F := Ideal) Q K W X Y).2.1 = fun _ => 1#1)
    (h3 : (fn (F := Ideal) Q K W X Y).2.2 = fun _ => 1#1) : Ok Q K W where
  q i := real_of_abs_lt ((fn1 Q K W X Y i).symm.trans (congrFun h1 i))
  k i := real_of_abs_lt ((fn2 Q K W X Y i).symm.trans (congrFun h2 i))
  v b g r := by
    have h := (fn3 Q K W X Y b g r).symm.trans (congrFun h3 _)
    have h' : W (ix3 b ⟨g.val * 144 + 128, by omega⟩ r) = (1 : EReal) := by
      by_contra hn
      simp [hn] at h
    refine Eq.trans (congrArg W ?_) h'
    congr 1; apply Fin.ext; simp only []; omega

end Cert.Pre_finite_and_ones.Hand
-- ==== Proof.MI.Spec.lean ====
/- The MLP with its residual over the extended reals, at coordinates: what both the kernel and the reference compute. -/
module

public import Idealize.ShloMosaic.Lib.Pointwise

@[expose] public section

noncomputable section

namespace Cert.Mlp

open Idealize.ShloMosaic

/-- The number 2048 as the programs spell it. -/
abbrev width : EReal := Ideal.ofBits FTy.f32 1157627904#32

/-- The small number that the programs add to the mean of the squares. -/
abbrev small : EReal := Ideal.ofBits FTy.f32 897988541#32

/-- An entry of a row `u` divided by the row's root mean square, times an entry of `g`. -/
def rms (u g : Fin 2048 → EReal) (j : Fin 2048) : EReal :=
  u j * Ideal.rsqrt (Ideal.div (∑ l, u l * u l) width + small) * g j

/-- A hidden unit: the square of the positive part of a row's inner product with a column. -/
def unit (n w : Fin 2048 → EReal) : EReal := max (∑ l, n l * w l) 0 * max (∑ l, n l * w l) 0

/-- The share of hidden unit `k` in the result at row `p` and column `j`. -/
def term (x : Fin 8192 → Fin 2048 → EReal) (g : Fin 2048 → EReal) (w₁ : Fin 2048 → Fin 8192 → EReal) (w₂ : Fin 8192 → Fin 2048 → EReal)
    (p : Fin 8192) (j : Fin 2048) (k : Fin 8192) : EReal :=
  unit (rms (x p) g) (fun l => w₁ l k) * w₂ k j

/-- The MLP: the row itself and the shares of all hidden units. -/
def mlp (x : Fin 8192 → Fin 2048 → EReal) (g : Fin 2048 → EReal) (w₁ : Fin 2048 → Fin 8192 → EReal) (w₂ : Fin 8192 → Fin 2048 → EReal)
    (p : Fin 8192) (j : Fin 2048) : EReal :=
  x p j + ∑ k, term x g w₁ w₂ p j k

/-- The share of block `b` of 1024 hidden units. -/
def part (f : Fin 8192 → EReal) (b : ℕ) : EReal := ∑ k : Fin 1024, f ⟨(1024 * b + k.val) % 8192, by omega⟩

/-- The eight blocks' shares are all the shares. -/
theorem sum_part (f : Fin 8192 → EReal) : ∑ b ∈ Finset.range 8, part f b = ∑ k, f k := by
  rw [Finset.sum_range, show (∑ k, f k) = ∑ q : Fin (8 * 1024), f q from rfl, ← Equiv.sum_comp finProdFinEquiv, Fintype.sum_prod_type]
  refine Finset.sum_congr rfl fun b _ => Finset.sum_congr rfl fun k _ => congrArg f (Fin.ext ?_)
  show (1024 * b.val + k.val) % 8192 = k.val + 1024 * b.val
  omega

end Cert.Mlp

end
-- ==== Proof.MI.Point.lean ====
/- The two computations of the MLP kernel over the extended reals, read at an index. -/
module

public import proofs.«01_k».proof.Proof.Gen.Kernel2Ideal.Skeleton
public import proofs.«01_k».proof.Proof.MI.Spec
public import Idealize.ShloMosaic.Lib.Pointwise

@[expose] public section

set_option maxRecDepth 16384

noncomputable section

namespace Cert.Kernel2Ideal.Hand

open Idealize.ShloMosaic Idealize.ShloMosaic.TcCoe
open Cert.Kernel2Ideal.Gen Cert.Mlp

/-- The norm of a row of a block of 256 rows. -/
theorem norm_apply (g : Vec Ideal S1x2048 .f32) (x : Vec Ideal S256x2048 .f32) (r : Fin 256) (j : Fin 2048) :
    k0_pay1 g x (ix2 r j) = rms (fun l => x (ix2 r l)) (fun l => g (ix2 0 l)) j := by
  unfold_payloads
  pointwise
  rfl

/-- One step of the sum: the share of a block of hidden units joins what is there. -/
theorem step_apply (n : Vec Ideal S1024x2048 .bf16) (u : Vec Ideal S2048x1024 .bf16) (o : Vec Ideal S1024x2048 .f32) (w : Vec Ideal S1024x2048 .bf16) (r : Fin 1024) (j : Fin 2048) :
    k0_pay2 n u o w (ix2 r j) = o (ix2 r j) + ∑ k : Fin 1024, unit (fun l => n (ix2 r l)) (fun l => u (ix2 l k)) * w (ix2 k j) := by
  unfold_payloads
  pointwise
  rfl

end Cert.Kernel2Ideal.Hand

end
-- ==== Proof.MI.Value.lean ====
/- The value of the MLP kernel: its array after the run is the MLP of its arguments, over the extended reals. -/
module

public import proofs.«01_k».proof.Proof.Gen.Kernel2Ideal.Frame
public import proofs.«01_k».proof.Proof.MI.Point
public import Idealize.ShloMosaic.Lib.Pipeline.ValueKit

@[expose] public section

set_option maxRecDepth 16384

noncomputable section

namespace Cert.Kernel2Ideal.Hand

open Idealize.ShloMosaic Idealize.ShloMosaic.TcCoe Idealize.ShloMosaic.Tactic Idealize.SL.Sem
open Idealize.ShloMosaic.Pipeline (Dat Cfg Window)
open Cert.Kernel2Ideal.Gen Cert.Mlp

theorem hz : (![0, 0] : Fin 2 → Nat) = fun _ => 0 := funext fun a => by fin_cases a <;> rfl

/-- A block of 1024 rows, each divided by its root mean square and scaled. -/
def normB (x : Vec Ideal S1024x2048 .f32) (g : Vec Ideal S1x2048 .f32) : Vec Ideal S1024x2048 .bf16 :=
  fun y => rms (fun l => x (ix2 (y 0) l)) (fun l => g (ix2 0 l)) (y 1)

/-- Every piece that the loop stores holds the norm of its rows. -/
theorem pieces_norm (𝒱 : Variants) (c : Dev nD) (bd : Option 𝒱.V) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x1024 .bf16) (harg4 : arg4.IsWhole)
    (arg5 : Memref sig .tc .vmem S1024x2048 .bf16) (harg5 : arg5.IsWhole) (arg6 : Memref sig .tc .vmem S1024x2048 .f32) (harg6 : arg6.IsWhole)
    (arg7 : Memref sig .tc .vmem S1024x2048 .bf16) (harg7 : arg7.IsWhole) (h1 : k0_cond1 i = 1#1) (g : Vec Ideal S1x2048 .f32)
    (X : BufTy.Contents (Elt Ideal) arg2.view.ty) (n : ℕ) (hn : n ≤ k0_t1_loop.trips) :
    ∀ p ∈ pb_k0_t1 (F := Ideal) 𝒱 c bd i arg2 harg2 arg3 harg3 arg4 harg4 arg5 harg5 arg6 harg6 arg7 harg7 h1 g X n,
      ∀ x : p.1.shape.Idx, p.2 x = normB (arg2.view.read (Elt Ideal) X) g (p.1.emb x) := by
  induction n with
  | zero => intro p hp; exact absurd hp List.not_mem_nil
  | succ k ih =>
    intro p hp
    rw [pb_k0_t1_succ (k := ⟨k, hn⟩)] at hp
    rcases List.mem_append.mp hp with hp | hp
    · unfold tripL_k0_t1 trip_k0_t1 at hp
      dsimp only at hp
      rcases List.mem_singleton.mp hp with rfl
      intro x
      have hk : k < 4 := Nat.lt_of_lt_of_le hn k0_t1_abs.2.1
      obtain ⟨r, j, rfl⟩ : ∃ (r : Fin 256) (j : Fin 2048), x = ix2 r j := ⟨x 0, x 1, eq_ix2 x⟩
      have o0 : k0_off1 ⟨k, hn⟩ 0 = 256 * k := congrFun (k0_off1_eq _) 0
      have o1 : k0_off1 ⟨k, hn⟩ 1 = 0 := congrFun (k0_off1_eq _) 1
      dsimp only
      refine (norm_apply g _ r j).trans ?_
      have e (l : Fin 2048) : (Rect.unit (s := S1024x2048) (k0_off1 ⟨k, hn⟩) ![256, 2048] (k0_off1_inb i ⟨k, hn⟩ h1)).emb (ix2 r l)
          = ix2 (⟨256 * k + r.val, by omega⟩ : Fin 1024) l := by
        funext a
        apply Fin.ext
        rw [Rect.emb_apply]
        fin_cases a
        · show k0_off1 ⟨k, hn⟩ 0 + 1 * r.val = 256 * k + r.val
          omega
        · show k0_off1 ⟨k, hn⟩ 1 + 1 * l.val = l.val
          omega
      have e' (l : Fin 2048) : View.readAt (Elt Ideal) arg2.view (Rect.unit (s := S1024x2048) (k0_off1 ⟨k, hn⟩) ![256, 2048] (k0_off1_inb i ⟨k, hn⟩ h1)).toLoadRect X (ix2 r l)
          = arg2.view.read (Elt Ideal) X (ix2 (⟨256 * k + r.val, by omega⟩ : Fin 1024) l) := congrArg (arg2.view.read (Elt Ideal) X) (e l)
      rw [funext e', show (Rect.unit (s := S1024x2048) (k0_off1 ⟨k, hn⟩) ![256, 2048] (k0_off1_inb i ⟨k, hn⟩ h1)).emb (ix2 r j) = _ from e j]
      rfl
    · exact ih (Nat.le_of_succ_le hn) p hp

section
variable (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x2048 .bf16) (h5 : a5.IsWhole) (a6 : Memref sig .tc .vmem S1024x2048 .f32) (h6 : a6.IsWhole)
    (a7 : Memref sig .tc .vmem S1024x2048 .bf16) (h7 : a7.IsWhole)
    (x0 : Vec Ideal S1024x2048 .f32) (x1 : Vec Ideal S1x2048 .f32) (x2 : Vec Ideal S2048x1024 .bf16) (x3 : Vec Ideal S1024x2048 .bf16)

/-- A later point of a row of blocks adds its block's share to what is there. -/
theorem out_B (hc : ¬cond0_0 i) (xo : Vec Ideal S1024x2048 .f32) (xs : Vec Ideal S1024x2048 .bf16) :
    out0_B_4 c i a2 h2 a3 h3 a4 h4 a5 h5 a6 h6 a7 h7 hc x0 x1 x2 x3 xo xs = k0_pay2 xs x2 xo x3 := by
  unfold out0_B_4
  rw [View.read_writes_junk_eq_canon]
  unfold kernelRun0_B
  dsimp only
  rw [View.canon_unit_zero hz]
  simp only [View.readAt_eq_ld, h7.read_unread, h6.read_unread, h5.read_unread, h4.read_unread, View.ld_unit_zero (S := S1024x2048) hz, View.ld_unit_zero (S := S2048x1024) hz]

/-- What the first point of a row of blocks stores in the scratch buffer is the norm of its rows. -/
theorem canon_A (hc : cond0_0 i) :
    View.canon (kernelRun0_A (F := Ideal) c i a2 h2 a3 h3 a4 h4 a5 h5 a6 h6 a7 h7 hc x0 x1 x2 x3).2.1 = normB x0 x1 := by
  funext y
  refine View.canon_apply_of_pieces (normB x0 x1) _ ?_ y (scover0_A_0 c i a2 h2 a3 h3 a4 h4 a5 h5 a6 h6 a7 h7 hc x0 x1 x2 x3 y)
  unfold kernelRun0_A
  dsimp only
  rw [View.readAt_eq_ld, h3.read_unread, View.ld_unit_zero (S := S1x2048) hz]
  have h := pieces_norm Variants.none c none i a2 h2 a3 h3 a4 h4 a5 h5 a6 h6 a7 h7 hc x1 (h2.unread x0) _ le_rfl
  rw [h2.read_unread] at h
  exact h

/-- So the scratch buffer holds the norm. -/
theorem sout_A (hc : cond0_0 i) : sout0_A_0 c i a2 h2 a3 h3 a4 h4 a5 h5 a6 h6 a7 h7 hc x0 x1 x2 x3 = normB x0 x1 := by
  unfold sout0_A_0
  rw [View.read_writes_junk_eq_canon, canon_A]

/-- The first point of a row of blocks leaves the rows and its block's share. -/
theorem out_A (hc : cond0_0 i) : out0_A_4 c i a2 h2 a3 h3 a4 h4 a5 h5 a6 h6 a7 h7 hc x0 x1 x2 x3 = k0_pay2 (normB x0 x1) x2 x0 x3 := by
  have hn := canon_A c i a2 h2 a3 h3 a4 h4 a5 h5 a6 h6 a7 h7 x0 x1 x2 x3 hc
  unfold out0_A_4
  rw [View.read_writes_junk_eq_canon]
  unfold kernelRun0_A at hn ⊢
  dsimp only at hn ⊢
  sl_unfold_words
  rw [View.canon_cons_unit_zero (S := S1024x2048) hz, View.readCov_unit_zero (S := S1024x2048) _ hz]
  rw [View.readAt_eq_ld, h3.read_unread, View.ld_unit_zero (S := S1x2048) hz] at hn
  simp only [View.readAt_eq_ld, h2.read_unread, h3.read_unread, h5.read_unread, h4.read_unread, View.ld_unit_zero (S := S1024x2048) hz, View.ld_unit_zero (S := S2048x1024) hz, View.ld_unit_zero (S := S1x2048) hz]
  rw [View.readCov_eq_canon']
  exact congrArg (fun n => k0_pay2 n x2 x0 x3) ((View.ld_unit_zero (S := S1024x2048) hz _ _).trans hn)
end

variable (m : (ℓ : Loc nD τ sig) → Buf (Elt Ideal) ℓ) (ρ : Dev nD → PrngReg)

theorem e0 : ∀ t : Fin cfg0.N, win0_0.index t = ![t.val / 8, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, t.val % 8] := (by decide +kernel : ∀ t : Fin grid0.N, _)
theorem e3 : ∀ t : Fin cfg0.N, win0_3.index t = ![t.val % 8, 0] := (by decide +kernel : ∀ t : Fin grid0.N, _)
theorem e4 : ∀ t : Fin cfg0.N, win0_4.index t = ![t.val / 8, 0] := (by decide +kernel : ∀ t : Fin grid0.N, _)

theorem N64 (t : Fin cfg0.N) : t.val < 64 := t.isLt

/-- The arguments at coordinates. -/
abbrev X (c : Dev nD) (p : Fin 8192) (j : Fin 2048) : EReal := V m c main_arg0 (ix2 p j)
abbrev G (c : Dev nD) (j : Fin 2048) : EReal := V m c main_arg1 (ix2 0 j)
abbrev W1 (c : Dev nD) (l : Fin 2048) (k : Fin 8192) : EReal := V m c main_arg2 (ix2 l k)
abbrev W2 (c : Dev nD) (k : Fin 8192) (j : Fin 2048) : EReal := V m c main_arg3 (ix2 k j)

/-- The row of the whole array that row `r` of a point's block is. -/
abbrev row (n : ℕ) (r : Fin 1024) : Fin 8192 := ⟨(1024 * (n / 8) + r.val) % 8192, by omega⟩

theorem blk0 (c : Dev nD) (t : Fin cfg0.N) (r : Fin 1024) (j : Fin 2048) : iblk m c 0 t (ix2 r j) = X m c (row t.val r) j := by
  have ht := N64 t
  blk_simp [iblk]
  refine congrArg (V m c main_arg0) ?_
  blk_ext [e0]

theorem blk1 (c : Dev nD) (t : Fin cfg0.N) (j : Fin 2048) : iblk m c 1 t (ix2 0 j) = G m c j := by
  blk_simp [iblk]
  refine congrArg (V m c main_arg1) ?_
  blk_ext [e1]

theorem blk2 (c : Dev nD) (t : Fin cfg0.N) (l : Fin 2048) (k : Fin 1024) :
    iblk m c 2 t (ix2 l k) = W1 m c l ⟨(1024 * (t.val % 8) + k.val) % 8192, by omega⟩ := by
  blk_simp [iblk]
  refine congrArg (V m c main_arg2) ?_
  blk_ext [e2]

theorem blk3 (c : Dev nD) (t : Fin cfg0.N) (k : Fin 1024) (j : Fin 2048) :
    iblk m c 3 t (ix2 k j) = W2 m c ⟨(1024 * (t.val % 8) + k.val) % 8192, by omega⟩ j := by
  blk_simp [iblk]
  refine congrArg (V m c main_arg3) ?_
  blk_ext [e3]

/-- The norm of a point's rows. -/
theorem norm_blk (c : Dev nD) (t : Fin cfg0.N) (r : Fin 1024) (j : Fin 2048) :
    normB (iblk m c 0 t) (iblk m c 1 t) (ix2 r j) = rms (X m c (row t.val r)) (G m c) j := by
  show rms (fun l => iblk m c 0 t (ix2 r l)) (fun l => iblk m c 1 t (ix2 0 l)) j = _
  rw [funext (blk0 m c t r), funext (blk1 m c t)]

/-- A step of the sum at a point, on rows that are normed already. -/
theorem step_blk (c : Dev nD) (t : Fin cfg0.N) (n : Vec Ideal S1024x2048 .bf16) (o : Vec Ideal S1024x2048 .f32) (r : Fin 1024) (j : Fin 2048)
    (hn : ∀ l, n (ix2 r l) = rms (X m c (row t.val r)) (G m c) l) :
    k0_pay2 n (iblk m c 2 t) o (iblk m c 3 t) (ix2 r j)
      = o (ix2 r j) + part (term (X m c) (G m c) (W1 m c) (W2 m c) (row t.val r) j) (t.val % 8) := by
  refine (step_apply n (iblk m c 2 t) o (iblk m c 3 t) r j).trans (congrArg (o (ix2 r j) + ·) (Finset.sum_congr rfl fun k _ => ?_))
  rw [funext hn, funext fun l => blk2 m c t l k, blk3]
  rfl

/-- After each point the scratch buffer holds the norm of the point's rows, and the output the rows and the shares of the blocks so far. -/
theorem outs (c : Dev nD) : ∀ (n : ℕ) (h : n < cfg0.N),
    (∀ r j, (outsAt0 m c n h).2 (ix2 r j) = rms (X m c (row n r)) (G m c) j) ∧
    ∀ r j, (outsAt0 m c n h).1 (ix2 r j) = X m c (row n r) j
      + ∑ b ∈ Finset.range (n % 8 + 1), part (term (X m c) (G m c) (W1 m c) (W2 m c) (row n r) j) b := by
  intro n
  induction n using Nat.strong_induction_on with
  | _ n ih =>
    intro h
    by_cases h0 : n % 8 = 0
    · rw [outsAt0_A m c ⟨n, h⟩ h0]
      dsimp only
      rw [sout_A, out_A]
      refine ⟨fun r j => norm_blk m c ⟨n, h⟩ r j, fun r j => ?_⟩
      rw [step_blk m c ⟨n, h⟩ _ _ r j fun l => norm_blk m c ⟨n, h⟩ r l, blk0, h0]
      simp only [h0, zero_add, Finset.sum_range_one]
    · rw [outsAt0_B m c ⟨n, h⟩ h0]
      dsimp only
      rw [out_B]
      obtain ⟨i1, i2⟩ := ih (n - 1) (by omega) (by omega)
      have hr (r : Fin 1024) : row (n - 1) r = row n r := by
        apply Fin.ext
        simp only []
        omega
      simp only [hr] at i1 i2
      refine ⟨i1, fun r j => ?_⟩
      rw [step_blk m c ⟨n, h⟩ _ _ r j (i1 r), i2, show n % 8 + 1 = ((n - 1) % 8 + 1) + 1 by omega, Finset.sum_range_succ _ ((n - 1) % 8 + 1), add_assoc,
        show (n - 1) % 8 + 1 = n % 8 by omega]

/-- The array after the run is the MLP of the arguments. -/
theorem arr4 (c : Dev nD) : (dats m 0 c).arrAt 4 cfg0.N
    = (fun i => mlp (X m c) (G m c) (W1 m c) (W2 m c) (i 0) (i 1) : Buf (Elt Ideal) ((c.tc : Thread nD τ).loc main_v0)) := by
  refine (dats m 0 c).arrAt_eq_of_covers 4 _ (by decide +kernel) fun t hf y => ?_
  blk_simp
  rw [after0_4]
  have ht := N64 t
  have h7 : t.val % 8 = 7 := (flush0_4 t).mp hf
  have h0 : (y 0).val < 1024 := (y 0).isLt
  have h1 : (y 1).val < 2048 := (y 1).isLt
  have r0 : ((win0_4.blk t).view.emb y 0 : ℕ) = (t.val / 8) * 1024 + (y 0).val := by blk_simp [e4]
  have r1 : ((win0_4.blk t).view.emb y 1 : ℕ) = (y 1).val := by blk_simp [e4]
  have hy : y = ix2 (⟨(y 0).val, h0⟩ : Fin 1024) (⟨(y 1).val, h1⟩ : Fin 2048) := by
    funext a; fin_cases a <;> rfl
  refine (congrArg _ hy).trans (((outs m c t.val t.isLt).2 ⟨(y 0).val, h0⟩ ⟨(y 1).val, h1⟩).trans ?_)
  rw [h7, sum_part, ← mlp]
  congr 1 <;> apply Fin.ext <;> simp only [r0, r1] <;> omega

/-- The run: the result is the MLP of the arguments, and the arguments end unchanged. -/
theorem run_all : θ_run defs (onTc (τ := τ) (main (F := Ideal))) ⟨m, fun _ => 0, ρ⟩ fun r => ∀ c : Dev nD,
    r.2.mem ((c.tc : Thread nD τ).loc main_v0) = (fun i => mlp (X m c) (G m c) (W1 m c) (W2 m c) (i 0) (i 1) : Buf (Elt Ideal) ((c.tc : Thread nD τ).loc main_v0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨((h.2 c).1 4).trans (arr4 m c), h.1 c⟩) (θ_run_and (unchanged m ρ) (run_main m ρ))

end Cert.Kernel2Ideal.Hand

end
-- ==== Proof.Ref2Value.lean ====
/- The reference MLP over the extended reals, at coordinates. -/
module

public import proofs.«01_k».proof.Proof.Gen.Reference2Ideal.Read
public import proofs.«01_k».proof.Proof.MI.Spec
public import Idealize.ShloMosaic.Lib.Pointwise

@[expose] public section

set_option maxRecDepth 16384

noncomputable section

namespace Cert.Reference2Ideal.Hand

open Idealize.ShloMosaic Idealize.ShloMosaic.TcCoe
open Cert.Reference2Ideal.Read Cert.Mlp

variable (x : Vec Ideal S8192x2048 .f32) (g : Vec Ideal S1x2048 .f32) (u : Vec Ideal S2048x8192 .bf16) (w : Vec Ideal S8192x2048 .bf16)

/-- The norm. -/
theorem norm_ref (p : Fin 8192) (j : Fin 2048) :
    val_main_v11 (F := Ideal) x g (ix2 p j) = rms (fun l => x (ix2 p l)) (fun l => g (ix2 0 l)) j := by
  pointwise [val_main_v11, val_main_v10, val_main_v9, val_main_v8, val_main_v7, val_main_v6, val_main_v5, val_main_v4, val_main_v3, val_main_v2, val_main_v1, val_main_v0, val_main_cst, val_main_cst_0, val_main_cst_1]
  rfl

/-- The hidden units. -/
theorem hidden_ref (p k : Fin 8192) :
    val_main_v15 (F := Ideal) x g u (ix2 p k) = unit (rms (fun l => x (ix2 p l)) (fun l => g (ix2 0 l))) (fun l => u (ix2 l k)) := by
  pointwise [val_main_v15, val_main_v14, val_main_call0_v0, val_main_call0_cst, val_main_v13, val_main_v12]
  simp only [norm_ref]
  rfl

/-- The result. -/
theorem mlp_ref : val_main_v18 (F := Ideal) x g u w
    = fun i => mlp (fun p j => x (ix2 p j)) (fun j => g (ix2 0 j)) (fun l k => u (ix2 l k)) (fun k j => w (ix2 k j)) (i 0) (i 1) := by
  funext i
  obtain ⟨p, j, rfl⟩ : ∃ (p : Fin 8192) (j : Fin 2048), i = ix2 p j := ⟨i 0, i 1, eq_ix2 i⟩
  pointwise [val_main_v18, val_main_v17, val_main_v16]
  simp only [hidden_ref]
  rfl

end Cert.Reference2Ideal.Hand

end
-- ==== Proof.M.Claim.lean ====
/- The claims on the MLP call. -/
module

public import proofs.«01_k».proof.Defs
public import proofs.«01_k».proof.Proof.Gen.Kernel2.Frame
public import proofs.«01_k».proof.Proof.MI.Value
public import proofs.«01_k».proof.Proof.Ref2Value
public import proofs.«01_k».proof.Proof.Gen.Reference2Ideal.Run

@[expose] public section

noncomputable section

namespace Cert.Proof

open Idealize.ShloMosaic Idealize.SL.Sem

/-- The MLP kernel's frame. -/
theorem mlp_frame : Cert.quiescent_Kernel2 := fun m ρ _ => Cert.Kernel2.Gen.frame m ρ

/-- The idealized MLP kernel's frame. -/
theorem mlp_ideal_frame : Cert.quiescent_Kernel2Ideal := fun m ρ _ => Cert.Kernel2Ideal.Gen.frame m ρ

/-- The reference MLP's frame: it writes none of its arguments, and it has no semaphore. -/
theorem mlp_ref_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- From any arguments the kernel and the reference end with the same array: the MLP with its norm and its residual. -/
theorem mlp_algebraic : Cert.algebraic_Kernel2Ideal_Reference2Ideal := by
  intro m g m' g' _ hag
  refine ⟨fun c => fun i => Cert.Mlp.mlp (Cert.Kernel2Ideal.Hand.X m c) (Cert.Kernel2Ideal.Hand.G m c) (Cert.Kernel2Ideal.Hand.W1 m c) (Cert.Kernel2Ideal.Hand.W2 m c) (i 0) (i 1),
    Cert.Kernel2Ideal.Hand.run_all m g, ?_⟩
  refine (θ_run Cert.Reference2Ideal.defs _ _).mono (fun r h c => ?_) (Cert.Reference2Ideal.Value.run m' g')
  obtain ⟨h0, hargs⟩ := h c
  obtain ⟨e0, e1, e2, e3⟩ := hag c
  refine ⟨?_, hargs⟩
  rw [h0, Cert.Reference2Ideal.Read.val_main_v18_eq, Cert.Reference2Ideal.Hand.mlp_ref, e0, e1, e2, e3]
  rfl

end Cert.Proof

end
-- ==== Proof.MF.Point.lean ====
/- The three computations of the MLP kernel with the final norm over the extended reals, read at an index. -/
module

public import proofs.«01_k».proof.Proof.Gen.Kernel3Ideal.Skeleton
public import proofs.«01_k».proof.Proof.MI.Spec
public import Idealize.ShloMosaic.Lib.Pointwise

@[expose] public section

set_option maxRecDepth 16384

noncomputable section

namespace Cert.Kernel3Ideal.Hand

open Idealize.ShloMosaic Idealize.ShloMosaic.TcCoe
open Cert.Kernel3Ideal.Gen Cert.Mlp

/-- The norm of a row of a block of 256 rows. -/
theorem norm_apply (g : Vec Ideal S1x2048 .f32) (x : Vec Ideal S256x2048 .f32) (r : Fin 256) (j : Fin 2048) :
    k0_pay1 g x (ix2 r j) = rms (fun l => x (ix2 r l)) (fun l => g (ix2 0 l)) j := by
  unfold_payloads
  pointwise
  rfl

/-- The final norm of a row of a block of 256 rows. -/
theorem final_apply (g : Vec Ideal S1x2048 .f32) (x : Vec Ideal S256x2048 .f32) (r : Fin 256) (j : Fin 2048) :
    k0_pay3 g x (ix2 r j) = rms (fun l => x (ix2 r l)) (fun l => g (ix2 0 l)) j := by
  unfold_payloads
  pointwise
  rfl

/-- One step of the sum: the share of a block of hidden units joins what is there. -/
theorem step_apply (n : Vec Ideal S1024x2048 .bf16) (u : Vec Ideal S2048x1024 .bf16) (o : Vec Ideal S1024x2048 .f32) (w : Vec Ideal S1024x2048 .bf16) (r : Fin 1024) (j : Fin 2048) :
    k0_pay2 n u o w (ix2 r j) = o (ix2 r j) + ∑ k : Fin 1024, unit (fun l => n (ix2 r l)) (fun l => u (ix2 l k)) * w (ix2 k j) := by
  unfold_payloads
  pointwise
  rfl

end Cert.Kernel3Ideal.Hand

end
-- ==== Proof.MF.Value.lean ====
/- The value of the MLP kernel with the final norm: its array after the run is the norm of the MLP of its arguments, over the extended reals. -/
module

public import proofs.«01_k».proof.Proof.Gen.Kernel3Ideal.Frame
public import proofs.«01_k».proof.Proof.MF.Point
public import Idealize.ShloMosaic.Lib.Pipeline.ValueKit
public import Idealize.ShloMosaic.Lib.VecWindow
public import Idealize.ShloMosaic.Lib.WritesUnit

@[expose] public section

set_option maxRecDepth 16384

noncomputable section

namespace Cert.Kernel3Ideal.Hand

open Idealize.ShloMosaic Idealize.ShloMosaic.TcCoe Idealize.ShloMosaic.Tactic Idealize.SL.Sem
open Idealize.ShloMosaic.Pipeline (Dat Cfg Window)
open Cert.Kernel3Ideal.Gen Cert.Mlp

theorem hz : (![0, 0] : Fin 2 → Nat) = fun _ => 0 := funext fun a => by fin_cases a <;> rfl

/-- A block of 1024 rows, each divided by its root mean square and scaled. -/
def normB (x : Vec Ideal S1024x2048 .f32) (g : Vec Ideal S1x2048 .f32) : Vec Ideal S1024x2048 .bf16 :=
  fun y => rms (fun l => x (ix2 (y 0) l)) (fun l => g (ix2 0 l)) (y 1)

/-- The same norm of a block of output rows. -/
def finB (x : Vec Ideal S1024x2048 .f32) (g : Vec Ideal S1x2048 .f32) : Vec Ideal S1024x2048 .f32 :=
  fun y => rms (fun l => x (ix2 (y 0) l)) (fun l => g (ix2 0 l)) (y 1)

/-- Every piece that the loop stores holds the norm of its rows. -/
theorem pieces_norm (𝒱 : Variants) (c : Dev nD) (bd : Option 𝒱.V) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x1024 .bf16) (harg4 : arg4.IsWhole)
    (arg5 : Memref sig .tc .vmem S1024x2048 .bf16) (harg5 : arg5.IsWhole) (arg6 : Memref sig .tc .vmem S1x2048 .f32) (harg6 : arg6.IsWhole)
    (arg7 : Memref sig .tc .vmem S1024x2048 .f32) (harg7 : arg7.IsWhole) (arg8 : Memref sig .tc .vmem S1024x2048 .bf16) (harg8 : arg8.IsWhole) (h1 : k0_cond1 i = 1#1) (g : Vec Ideal S1x2048 .f32)
    (X : BufTy.Contents (Elt Ideal) arg2.view.ty) (n : ℕ) (hn : n ≤ k0_t1_loop.trips) :
    ∀ p ∈ pb_k0_t1 (F := Ideal) 𝒱 c bd i arg2 harg2 arg3 harg3 arg4 harg4 arg5 harg5 arg6 harg6 arg7 harg7 arg8 harg8 h1 g X n,
      ∀ x : p.1.shape.Idx, p.2 x = normB (arg2.view.read (Elt Ideal) X) g (p.1.emb x) := by
  induction n with
  | zero => intro p hp; exact absurd hp List.not_mem_nil
  | succ k ih =>
    intro p hp
    rw [pb_k0_t1_succ (k := ⟨k, hn⟩)] at hp
    rcases List.mem_append.mp hp with hp | hp
    · unfold tripL_k0_t1 trip_k0_t1 at hp
      dsimp only at hp
      rcases List.mem_singleton.mp hp with rfl
      intro x
      have hk : k < 4 := Nat.lt_of_lt_of_le hn k0_t1_abs.2.1
      obtain ⟨r, j, rfl⟩ : ∃ (r : Fin 256) (j : Fin 2048), x = ix2 r j := ⟨x 0, x 1, eq_ix2 x⟩
      have o0 : k0_off1 ⟨k, hn⟩ 0 = 256 * k := congrFun (k0_off1_eq _) 0
      have o1 : k0_off1 ⟨k, hn⟩ 1 = 0 := congrFun (k0_off1_eq _) 1
      dsimp only
      refine (norm_apply g _ r j).trans ?_
      have e (l : Fin 2048) : (Rect.unit (s := S1024x2048) (k0_off1 ⟨k, hn⟩) ![256, 2048] (k0_off1_inb i ⟨k, hn⟩ h1)).emb (ix2 r l)
          = ix2 (⟨256 * k + r.val, by omega⟩ : Fin 1024) l := by
        funext a
        apply Fin.ext
        rw [Rect.emb_apply]
        fin_cases a
        · show k0_off1 ⟨k, hn⟩ 0 + 1 * r.val = 256 * k + r.val
          omega
        · show k0_off1 ⟨k, hn⟩ 1 + 1 * l.val = l.val
          omega
      have e' (l : Fin 2048) : View.readAt (Elt Ideal) arg2.view (Rect.unit (s := S1024x2048) (k0_off1 ⟨k, hn⟩) ![256, 2048] (k0_off1_inb i ⟨k, hn⟩ h1)).toLoadRect X (ix2 r l)
          = arg2.view.read (Elt Ideal) X (ix2 (⟨256 * k + r.val, by omega⟩ : Fin 1024) l) := congrArg (arg2.view.read (Elt Ideal) X) (e l)
      rw [funext e', show (Rect.unit (s := S1024x2048) (k0_off1 ⟨k, hn⟩) ![256, 2048] (k0_off1_inb i ⟨k, hn⟩ h1)).emb (ix2 r j) = _ from e j]
      rfl
    · exact ih (Nat.le_of_succ_le hn) p hp

/-- After `n` trips of the last loop the first `256 n` rows of the output are normed and the others are as they were. -/
theorem final_rows (𝒱 : Variants) (c : Dev nD) (bd : Option 𝒱.V) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x1024 .bf16) (harg4 : arg4.IsWhole)
    (arg5 : Memref sig .tc .vmem S1024x2048 .bf16) (harg5 : arg5.IsWhole) (arg6 : Memref sig .tc .vmem S1x2048 .f32) (harg6 : arg6.IsWhole)
    (arg7 : Memref sig .tc .vmem S1024x2048 .f32) (harg7 : arg7.IsWhole) (arg8 : Memref sig .tc .vmem S1024x2048 .bf16) (harg8 : arg8.IsWhole) (h2 : k0_cond2 i = 1#1)
    (g : Vec Ideal S1x2048 .f32) (G : BufTy.Contents (Elt Ideal) arg7.view.ty) (n : ℕ) (hn : n ≤ k0_t2_loop.trips) :
    ∀ y : S1024x2048.Idx, arg7.view.read (Elt Ideal) (arg7.view.writes (Elt Ideal) G
        (pb_k0_t2 (F := Ideal) 𝒱 c bd i arg2 harg2 arg3 harg3 arg4 harg4 arg5 harg5 arg6 harg6 arg7 harg7 arg8 harg8 h2 g G n)) y
      = if (y 0).val < 256 * n then finB (arg7.view.read (Elt Ideal) G) g y else arg7.view.read (Elt Ideal) G y := by
  induction n with
  | zero =>
    intro y
    rw [if_neg (by omega)]
    rfl
  | succ k ih =>
    intro y
    have hk : k < 4 := Nat.lt_of_lt_of_le hn k0_t2_abs.2.1
    have ih := ih (Nat.le_of_succ_le hn)
    have h0 : (y 0).val < 1024 := (y 0).isLt
    have h1 : (y 1).val < 2048 := (y 1).isLt
    rw [pb_k0_t2_succ (k := ⟨k, hn⟩)]
    unfold tripL_k0_t2 trip_k0_t2
    dsimp only
    have hoff : k0_off2 ⟨k, hn⟩ = ![256 * k, 0] := k0_off2_eq _
    by_cases hy : 256 * k ≤ (y 0).val ∧ (y 0).val < 256 * k + 256
    · rw [if_pos (by omega)]
      obtain ⟨r, hr⟩ : ∃ r : Fin 256, (y 0).val = 256 * k + r.val := ⟨⟨(y 0).val - 256 * k, by omega⟩, by simp only []; omega⟩
      obtain ⟨j, hj⟩ : ∃ j : Fin 2048, (y 1).val = j.val := ⟨⟨(y 1).val, h1⟩, rfl⟩
      refine (View.read_writes_cons_rows_of_mem arg7.view G (size := ![256, 2048]) _ _ _ y (ix2 r j) hoff hr hj).trans ((final_apply g _ r j).trans ?_)
      have e (l : Fin 2048) : (Rect.unit (s := S1024x2048) (k0_off2 ⟨k, hn⟩) ![256, 2048] (k0_off2_inb i ⟨k, hn⟩ h2)).emb (ix2 r l)
          = ix2 (y 0 : Fin 1024) l := by
        have o0 : k0_off2 ⟨k, hn⟩ 0 = 256 * k := congrFun hoff 0
        have o1 : k0_off2 ⟨k, hn⟩ 1 = 0 := congrFun hoff 1
        funext a
        apply Fin.ext
        rw [Rect.emb_apply]
        fin_cases a
        · show k0_off2 ⟨k, hn⟩ 0 + 1 * r.val = (y 0).val
          omega
        · show k0_off2 ⟨k, hn⟩ 1 + 1 * l.val = l.val
          omega
      have e' (l : Fin 2048) : View.readAt (Elt Ideal) arg7.view (Rect.unit (s := S1024x2048) (k0_off2 ⟨k, hn⟩) ![256, 2048] (k0_off2_inb i ⟨k, hn⟩ h2)).toLoadRect
          (arg7.view.writes (Elt Ideal) G (pb_k0_t2 (F := Ideal) 𝒱 c bd i arg2 harg2 arg3 harg3 arg4 harg4 arg5 harg5 arg6 harg6 arg7 harg7 arg8 harg8 h2 g G k)) (ix2 r l)
          = arg7.view.read (Elt Ideal) G (ix2 (y 0 : Fin 1024) l) := by
        refine (congrArg (arg7.view.read (Elt Ideal) _) (e l)).trans ((ih _).trans (if_neg ?_))
        show ¬ (y 0).val < 256 * k
        omega
      rw [funext e']
      exact congrArg (rms _ _) (Fin.ext hj.symm)
    · refine (View.read_writes_cons_rows_of_not_mem arg7.view G (size := ![256, 2048]) (W := 256) _ _ _ y hoff rfl (by omega)).trans ((ih y).trans ?_)
      by_cases hlt : (y 0).val < 256 * k
      · rw [if_pos hlt, if_pos (by omega)]
      · rw [if_neg hlt, if_neg (by omega)]

section
variable (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x2048 .bf16) (h5 : a5.IsWhole) (a6 : Memref sig .tc .vmem S1x2048 .f32) (h6 : a6.IsWhole)
    (a7 : Memref sig .tc .vmem S1024x2048 .f32) (h7 : a7.IsWhole) (a8 : Memref sig .tc .vmem S1024x2048 .bf16) (h8 : a8.IsWhole)
    (x0 : Vec Ideal S1024x2048 .f32) (x1 : Vec Ideal S1x2048 .f32) (x2 : Vec Ideal S2048x1024 .bf16) (x3 : Vec Ideal S1024x2048 .bf16) (x4 : Vec Ideal S1x2048 .f32)

/-- A later point of a row of blocks adds its block's share to what is there. -/
theorem out_B (hc : ¬cond0_0 i) (hd : ¬cond0_1 i) (xo : Vec Ideal S1024x2048 .f32) (xs : Vec Ideal S1024x2048 .bf16) :
    out0_B_5 c i a2 h2 a3 h3 a4 h4 a5 h5 a6 h6 a7 h7 a8 h8 hc hd x0 x1 x2 x3 x4 xo xs = k0_pay2 xs x2 xo x3 := by
  unfold out0_B_5
  rw [View.read_writes_junk_eq_canon]
  unfold kernelRun0_B
  dsimp only
  rw [View.canon_unit_zero hz]
  simp only [View.readAt_eq_ld, h8.read_unread, h7.read_unread, h5.read_unread, h4.read_unread, View.ld_unit_zero (S := S1024x2048) hz, View.ld_unit_zero (S := S2048x1024) hz]

/-- The last point of a row of blocks adds its block's share and norms the rows. -/
theorem out_C (hc : ¬cond0_0 i) (hd : cond0_1 i) (xo : Vec Ideal S1024x2048 .f32) (xs : Vec Ideal S1024x2048 .bf16) :
    out0_C_5 c i a2 h2 a3 h3 a4 h4 a5 h5 a6 h6 a7 h7 a8 h8 hc hd x0 x1 x2 x3 x4 xo xs = finB (k0_pay2 xs x2 xo x3) x4 := by
  funext y
  unfold out0_C_5
  rw [View.read_writes_junk_eq_canon, ← View.read_writes_eq_canon a7.view a7.view.junk _ (cover0_C_5 c i a2 h2 a3 h3 a4 h4 a5 h5 a6 h6 a7 h7 a8 h8 hc hd x0 x1 x2 x3 x4 xo xs)]
  unfold kernelRun0_C
  dsimp only
  rw [View.writes_append]
  refine (final_rows Variants.none c none i a2 h2 a3 h3 a4 h4 a5 h5 a6 h6 a7 h7 a8 h8 hd _ _ _ le_rfl y).trans ?_
  have h0 : (y 0).val < 1024 := (y 0).isLt
  rw [if_pos (by rw [show k0_t2_loop.trips = 4 from by decide +kernel]; exact h0)]
  sl_unfold_words
  rw [View.read_writes_full (s := S1024x2048) a7.view a7.view.junk inb_S1024x2048_S1024x2048_0_0]
  simp only [View.readAt_eq_ld, h8.read_unread, h7.read_unread, h6.read_unread, h5.read_unread, h4.read_unread, View.ld_unit_zero (S := S1024x2048) hz, View.ld_unit_zero (S := S2048x1024) hz,
    View.ld_unit_zero (S := S1x2048) hz]

/-- What the first point of a row of blocks stores in the scratch buffer is the norm of its rows. -/
theorem canon_A (hc : cond0_0 i) (hd : ¬cond0_1 i) :
    View.canon (kernelRun0_A (F := Ideal) c i a2 h2 a3 h3 a4 h4 a5 h5 a6 h6 a7 h7 a8 h8 hc hd x0 x1 x2 x3 x4).2.1 = normB x0 x1 := by
  funext y
  refine View.canon_apply_of_pieces (normB x0 x1) _ ?_ y (scover0_A_0 c i a2 h2 a3 h3 a4 h4 a5 h5 a6 h6 a7 h7 a8 h8 hc hd x0 x1 x2 x3 x4 y)
  unfold kernelRun0_A
  dsimp only
  rw [View.readAt_eq_ld, h3.read_unread, View.ld_unit_zero (S := S1x2048) hz]
  have h := pieces_norm Variants.none c none i a2 h2 a3 h3 a4 h4 a5 h5 a6 h6 a7 h7 a8 h8 hc x1 (h2.unread x0) _ le_rfl
  rw [h2.read_unread] at h
  exact h

/-- So the scratch buffer holds the norm. -/
theorem sout_A (hc : cond0_0 i) (hd : ¬cond0_1 i) : sout0_A_0 c i a2 h2 a3 h3 a4 h4 a5 h5 a6 h6 a7 h7 a8 h8 hc hd x0 x1 x2 x3 x4 = normB x0 x1 := by
  unfold sout0_A_0
  rw [View.read_writes_junk_eq_canon, canon_A]

/-- The first point of a row of blocks leaves the rows and its block's share. -/
theorem out_A (hc : cond0_0 i) (hd : ¬cond0_1 i) : out0_A_5 c i a2 h2 a3 h3 a4 h4 a5 h5 a6 h6 a7 h7 a8 h8 hc hd x0 x1 x2 x3 x4 = k0_pay2 (normB x0 x1) x2 x0 x3 := by
  have hn := canon_A c i a2 h2 a3 h3 a4 h4 a5 h5 a6 h6 a7 h7 a8 h8 x0 x1 x2 x3 x4 hc hd
  unfold out0_A_5
  rw [View.read_writes_junk_eq_canon]
  unfold kernelRun0_A at hn ⊢
  dsimp only at hn ⊢
  sl_unfold_words
  rw [View.canon_cons_unit_zero (S := S1024x2048) hz, View.readCov_unit_zero (S := S1024x2048) _ hz]
  rw [View.readAt_eq_ld, h3.read_unread, View.ld_unit_zero (S := S1x2048) hz] at hn
  simp only [View.readAt_eq_ld, h2.read_unread, h3.read_unread, h5.read_unread, h4.read_unread, View.ld_unit_zero (S := S1024x2048) hz, View.ld_unit_zero (S := S2048x1024) hz, View.ld_unit_zero (S := S1x2048) hz]
  rw [View.readCov_eq_canon']
  exact congrArg (fun n => k0_pay2 n x2 x0 x3) ((View.ld_unit_zero (S := S1024x2048) hz _ _).trans hn)
end

variable (m : (ℓ : Loc nD τ sig) → Buf (Elt Ideal) ℓ) (ρ : Dev nD → PrngReg)

theorem e0 : ∀ t : Fin cfg0.N, win0_0.index t = ![t.val / 8, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, t.val % 8] := (by decide +kernel : ∀ t : Fin grid0.N, _)
theorem e3 : ∀ t : Fin cfg0.N, win0_3.index t = ![t.val % 8, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val / 8, 0] := (by decide +kernel : ∀ t : Fin grid0.N, _)

theorem N64 (t : Fin cfg0.N) : t.val < 64 := t.isLt

/-- The arguments at coordinates. -/
abbrev X (c : Dev nD) (p : Fin 8192) (j : Fin 2048) : EReal := V m c main_arg0 (ix2 p j)
abbrev G (c : Dev nD) (j : Fin 2048) : EReal := V m c main_arg1 (ix2 0 j)
abbrev W1 (c : Dev nD) (l : Fin 2048) (k : Fin 8192) : EReal := V m c main_arg2 (ix2 l k)
abbrev W2 (c : Dev nD) (k : Fin 8192) (j : Fin 2048) : EReal := V m c main_arg3 (ix2 k j)
abbrev FG (c : Dev nD) (j : Fin 2048) : EReal := V m c main_arg4 (ix2 0 j)

/-- The row of the whole array that row `r` of a point's block is. -/
abbrev row (n : ℕ) (r : Fin 1024) : Fin 8192 := ⟨(1024 * (n / 8) + r.val) % 8192, by omega⟩

theorem blk0 (c : Dev nD) (t : Fin cfg0.N) (r : Fin 1024) (j : Fin 2048) : iblk m c 0 t (ix2 r j) = X m c (row t.val r) j := by
  have ht := N64 t
  blk_simp [iblk]
  refine congrArg (V m c main_arg0) ?_
  blk_ext [e0]

theorem blk1 (c : Dev nD) (t : Fin cfg0.N) (j : Fin 2048) : iblk m c 1 t (ix2 0 j) = G m c j := by
  blk_simp [iblk]
  refine congrArg (V m c main_arg1) ?_
  blk_ext [e1]

theorem blk2 (c : Dev nD) (t : Fin cfg0.N) (l : Fin 2048) (k : Fin 1024) :
    iblk m c 2 t (ix2 l k) = W1 m c l ⟨(1024 * (t.val % 8) + k.val) % 8192, by omega⟩ := by
  blk_simp [iblk]
  refine congrArg (V m c main_arg2) ?_
  blk_ext [e2]

theorem blk3 (c : Dev nD) (t : Fin cfg0.N) (k : Fin 1024) (j : Fin 2048) :
    iblk m c 3 t (ix2 k j) = W2 m c ⟨(1024 * (t.val % 8) + k.val) % 8192, by omega⟩ j := by
  blk_simp [iblk]
  refine congrArg (V m c main_arg3) ?_
  blk_ext [e3]

theorem blk4 (c : Dev nD) (t : Fin cfg0.N) (j : Fin 2048) : iblk m c 4 t (ix2 0 j) = FG m c j := by
  blk_simp [iblk]
  refine congrArg (V m c main_arg4) ?_
  blk_ext [e4]

/-- The norm of a point's rows. -/
theorem norm_blk (c : Dev nD) (t : Fin cfg0.N) (r : Fin 1024) (j : Fin 2048) :
    normB (iblk m c 0 t) (iblk m c 1 t) (ix2 r j) = rms (X m c (row t.val r)) (G m c) j := by
  show rms (fun l => iblk m c 0 t (ix2 r l)) (fun l => iblk m c 1 t (ix2 0 l)) j = _
  rw [funext (blk0 m c t r), funext (blk1 m c t)]

/-- A step of the sum at a point, on rows that are normed already. -/
theorem step_blk (c : Dev nD) (t : Fin cfg0.N) (n : Vec Ideal S1024x2048 .bf16) (o : Vec Ideal S1024x2048 .f32) (r : Fin 1024) (j : Fin 2048)
    (hn : ∀ l, n (ix2 r l) = rms (X m c (row t.val r)) (G m c) l) :
    k0_pay2 n (iblk m c 2 t) o (iblk m c 3 t) (ix2 r j)
      = o (ix2 r j) + part (term (X m c) (G m c) (W1 m c) (W2 m c) (row t.val r) j) (t.val % 8) := by
  refine (step_apply n (iblk m c 2 t) o (iblk m c 3 t) r j).trans (congrArg (o (ix2 r j) + ·) (Finset.sum_congr rfl fun k _ => ?_))
  rw [funext hn, funext fun l => blk2 m c t l k, blk3]
  rfl

/-- The row and the shares of the blocks so far. -/
def acc (c : Dev nD) (n : ℕ) (r : Fin 1024) (j : Fin 2048) : EReal :=
  X m c (row n r) j + ∑ b ∈ Finset.range (n % 8 + 1), part (term (X m c) (G m c) (W1 m c) (W2 m c) (row n r) j) b

/-- A later point's share joins what the point before left. -/
theorem acc_step (c : Dev nD) (t : Fin cfg0.N) (h0 : ¬t.val % 8 = 0) (n : Vec Ideal S1024x2048 .bf16) (o : Vec Ideal S1024x2048 .f32) (r : Fin 1024) (j : Fin 2048)
    (hn : ∀ l, n (ix2 r l) = rms (X m c (row t.val r)) (G m c) l) (ho : o (ix2 r j) = acc m c (t.val - 1) r j) :
    k0_pay2 n (iblk m c 2 t) o (iblk m c 3 t) (ix2 r j) = acc m c t.val r j := by
  have hr : row (t.val - 1) r = row t.val r := by
    apply Fin.ext
    simp only []
    omega
  rw [step_blk m c t n o r j hn, ho, acc, acc, hr, show t.val % 8 + 1 = ((t.val - 1) % 8 + 1) + 1 by omega, Finset.sum_range_succ _ ((t.val - 1) % 8 + 1), add_assoc,
    show (t.val - 1) % 8 + 1 = t.val % 8 by omega]

/-- After each point the scratch buffer holds the norm of the point's rows, and the output the rows and the shares of the blocks so far; after the last point of
    a row of blocks it holds the norm of that. -/
theorem outs (c : Dev nD) : ∀ (n : ℕ) (h : n < cfg0.N),
    (∀ r j, (outsAt0 m c n h).2 (ix2 r j) = rms (X m c (row n r)) (G m c) j) ∧
    ∀ r j, (outsAt0 m c n h).1 (ix2 r j) = if n % 8 = 7 then rms (acc m c n r) (FG m c) j else acc m c n r j := by
  intro n
  induction n using Nat.strong_induction_on with
  | _ n ih =>
    intro h
    by_cases h0 : n % 8 = 0
    · have h1 : ¬n % 8 = 7 := by omega
      rw [outsAt0_A m c ⟨n, h⟩ h0 h1]
      dsimp only
      rw [sout_A, out_A]
      refine ⟨fun r j => norm_blk m c ⟨n, h⟩ r j, fun r j => ?_⟩
      rw [if_neg h1, step_blk m c ⟨n, h⟩ _ _ r j fun l => norm_blk m c ⟨n, h⟩ r l, blk0, acc, h0]
      simp only [h0, zero_add, Finset.sum_range_one]
    · obtain ⟨i1, i2⟩ := ih (n - 1) (by omega) (by omega)
      have h7 : ¬(n - 1) % 8 = 7 := by omega
      have hr (r : Fin 1024) : row (n - 1) r = row n r := by
        apply Fin.ext
        simp only []
        omega
      simp only [hr] at i1
      simp only [if_neg h7] at i2
      by_cases h1 : n % 8 = 7
      · rw [outsAt0_C m c ⟨n, h⟩ h0 h1]
        dsimp only
        rw [out_C]
        refine ⟨i1, fun r j => ?_⟩
        rw [if_pos h1]
        show rms (fun l => k0_pay2 _ (iblk m c 2 ⟨n, h⟩) _ (iblk m c 3 ⟨n, h⟩) (ix2 r l)) (fun l => iblk m c 4 ⟨n, h⟩ (ix2 0 l)) j = _
        rw [funext fun l => acc_step m c ⟨n, h⟩ h0 _ _ r l (i1 r) (i2 r l), funext (blk4 m c ⟨n, h⟩)]
      · rw [outsAt0_B m c ⟨n, h⟩ h0 h1]
        dsimp only
        rw [out_B]
        refine ⟨i1, fun r j => ?_⟩
        rw [if_neg h1]
        exact acc_step m c ⟨n, h⟩ h0 _ _ r j (i1 r) (i2 r j)

/-- The array after the run is the norm of the MLP of the arguments. -/
theorem arr5 (c : Dev nD) : (dats m 0 c).arrAt 5 cfg0.N
    = (fun i => rms (mlp (X m c) (G m c) (W1 m c) (W2 m c) (i 0)) (FG m c) (i 1) : Buf (Elt Ideal) ((c.tc : Thread nD τ).loc main_v0)) := by
  refine (dats m 0 c).arrAt_eq_of_covers 5 _ (by decide +kernel) fun t hf y => ?_
  blk_simp
  rw [after0_5]
  have ht := N64 t
  have h7 : t.val % 8 = 7 := (flush0_5 t).mp hf
  have h0 : (y 0).val < 1024 := (y 0).isLt
  have h1 : (y 1).val < 2048 := (y 1).isLt
  have r0 : ((win0_5.blk t).view.emb y 0 : ℕ) = (t.val / 8) * 1024 + (y 0).val := by blk_simp [e5]
  have r1 : ((win0_5.blk t).view.emb y 1 : ℕ) = (y 1).val := by blk_simp [e5]
  have hy : y = ix2 (⟨(y 0).val, h0⟩ : Fin 1024) (⟨(y 1).val, h1⟩ : Fin 2048) := by
    funext a; fin_cases a <;> rfl
  refine (congrArg _ hy).trans (((outs m c t.val t.isLt).2 ⟨(y 0).val, h0⟩ ⟨(y 1).val, h1⟩).trans ?_)
  rw [if_pos h7]
  have ha (r : Fin 1024) : acc m c t.val r = mlp (X m c) (G m c) (W1 m c) (W2 m c) (row t.val r) := by
    funext j
    rw [acc, h7, sum_part, ← mlp]
  have q0 : (win0_5.blk t).view.emb y 0 = row t.val ⟨(y 0).val, h0⟩ := by
    apply Fin.ext
    simp only [r0]
    omega
  have q1 : (win0_5.blk t).view.emb y 1 = (⟨(y 1).val, h1⟩ : Fin 2048) := Fin.ext r1
  rw [ha, ← q0, ← q1]

/-- The run: the result is the norm of the MLP of the arguments, and the arguments end unchanged. -/
theorem run_all : θ_run defs (onTc (τ := τ) (main (F := Ideal))) ⟨m, fun _ => 0, ρ⟩ fun r => ∀ c : Dev nD,
    r.2.mem ((c.tc : Thread nD τ).loc main_v0) = (fun i => rms (mlp (X m c) (G m c) (W1 m c) (W2 m c) (i 0)) (FG m c) (i 1) : Buf (Elt Ideal) ((c.tc : Thread nD τ).loc main_v0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨((h.2 c).1 5).trans (arr5 m c), h.1 c⟩) (θ_run_and (unchanged m ρ) (run_main m ρ))

end Cert.Kernel3Ideal.Hand

end
-- ==== Proof.Ref3Value.lean ====
/- The reference MLP with the final norm over the extended reals, at coordinates. -/
module

public import proofs.«01_k».proof.Proof.Gen.Reference3Ideal.Read
public import proofs.«01_k».proof.Proof.MI.Spec
public import Idealize.ShloMosaic.Lib.Pointwise

@[expose] public section

set_option maxRecDepth 16384

noncomputable section

namespace Cert.Reference3Ideal.Hand

open Idealize.ShloMosaic Idealize.ShloMosaic.TcCoe
open Cert.Reference3Ideal.Read Cert.Mlp

variable (x : Vec Ideal S8192x2048 .f32) (g : Vec Ideal S1x2048 .f32) (u : Vec Ideal S2048x8192 .bf16) (w : Vec Ideal S8192x2048 .bf16) (fg : Vec Ideal S1x2048 .f32)

/-- The norm. -/
theorem norm_ref (p : Fin 8192) (j : Fin 2048) :
    val_main_v11 (F := Ideal) x g (ix2 p j) = rms (fun l => x (ix2 p l)) (fun l => g (ix2 0 l)) j := by
  pointwise [val_main_v11, val_main_v10, val_main_v9, val_main_v8, val_main_v7, val_main_v6, val_main_v5, val_main_v4, val_main_v3, val_main_v2, val_main_v1, val_main_v0, val_main_cst, val_main_cst_0, val_main_cst_1]
  rfl

/-- The hidden units. -/
theorem hidden_ref (p k : Fin 8192) :
    val_main_v15 (F := Ideal) x g u (ix2 p k) = unit (rms (fun l => x (ix2 p l)) (fun l => g (ix2 0 l))) (fun l => u (ix2 l k)) := by
  pointwise [val_main_v15, val_main_v14, val_main_call0_v0, val_main_call0_cst, val_main_v13, val_main_v12]
  simp only [norm_ref]
  rfl

/-- The MLP. -/
theorem mlp_ref (p : Fin 8192) (j : Fin 2048) : val_main_v18 (F := Ideal) x g u w (ix2 p j)
    = mlp (fun p j => x (ix2 p j)) (fun j => g (ix2 0 j)) (fun l k => u (ix2 l k)) (fun k j => w (ix2 k j)) p j := by
  pointwise [val_main_v18, val_main_v17, val_main_v16]
  simp only [hidden_ref]
  rfl

/-- The result: the MLP normed again. -/
theorem final_ref : val_main_v30 (F := Ideal) x g u w fg
    = fun i => rms (mlp (fun p j => x (ix2 p j)) (fun j => g (ix2 0 j)) (fun l k => u (ix2 l k)) (fun k j => w (ix2 k j)) (i 0)) (fun j => fg (ix2 0 j)) (i 1) := by
  funext i
  obtain ⟨p, j, rfl⟩ : ∃ (p : Fin 8192) (j : Fin 2048), i = ix2 p j := ⟨i 0, i 1, eq_ix2 i⟩
  pointwise [val_main_v30, val_main_v29, val_main_v28, val_main_v27, val_main_v26, val_main_v25, val_main_v24, val_main_v23, val_main_v22, val_main_v21, val_main_v20, val_main_v19, val_main_cst_2, val_main_cst_3, val_main_cst_4]
  simp only [mlp_ref]
  rfl

end Cert.Reference3Ideal.Hand

end
-- ==== Proof.MF.Claim.lean ====
/- The claims on the MLP call with the final norm. -/
module

public import proofs.«01_k».proof.Defs
public import proofs.«01_k».proof.Proof.Gen.Kernel3.Frame
public import proofs.«01_k».proof.Proof.MF.Value
public import proofs.«01_k».proof.Proof.Ref3Value
public import proofs.«01_k».proof.Proof.Gen.Reference3Ideal.Run

@[expose] public section

noncomputable section

namespace Cert.Proof

open Idealize.ShloMosaic Idealize.SL.Sem

/-- The final MLP kernel's frame. -/
theorem last_frame : Cert.quiescent_Kernel3 := fun m ρ _ => Cert.Kernel3.Gen.frame m ρ

/-- The idealized final MLP kernel's frame. -/
theorem last_ideal_frame : Cert.quiescent_Kernel3Ideal := fun m ρ _ => Cert.Kernel3Ideal.Gen.frame m ρ

/-- The reference MLP's frame: it writes none of its arguments, and it has no semaphore. -/
theorem last_ref_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- From any arguments the kernel and the reference end with the same array: the norm of the MLP with its norm and its residual. -/
theorem last_algebraic : Cert.algebraic_Kernel3Ideal_Reference3Ideal := by
  intro m g m' g' _ hag
  refine ⟨fun c => fun i => Cert.Mlp.rms (Cert.Mlp.mlp (Cert.Kernel3Ideal.Hand.X m c) (Cert.Kernel3Ideal.Hand.G m c) (Cert.Kernel3Ideal.Hand.W1 m c) (Cert.Kernel3Ideal.Hand.W2 m c) (i 0)) (Cert.Kernel3Ideal.Hand.FG m c) (i 1),
    Cert.Kernel3Ideal.Hand.run_all m g, ?_⟩
  refine (θ_run Cert.Reference3Ideal.defs _ _).mono (fun r h c => ?_) (Cert.Reference3Ideal.Value.run m' g')
  obtain ⟨h0, hargs⟩ := h c
  obtain ⟨e0, e1, e2, e3, e4⟩ := hag c
  refine ⟨?_, hargs⟩
  rw [h0, Cert.Reference3Ideal.Read.val_main_v30_eq, Cert.Reference3Ideal.Hand.final_ref, e0, e1, e2, e3, e4]
  rfl

end Cert.Proof

end
-- ==== Proof.GluValue.lean ====
/- The value of the gated linear unit's kernel: its array after the run is the gated linear unit of its arguments, over the extended reals. -/
module

public import proofs.«01_k».proof.Proof.Gen.Kernel4Ideal.Frame
public import proofs.«01_k».proof.Proof.MI.Spec
public import Idealize.ShloMosaic.Lib.Pointwise
public import Idealize.ShloMosaic.Lib.Pipeline.ValueKit

@[expose] public section

set_option maxRecDepth 16384

noncomputable section

namespace Cert.Glu

open Idealize.ShloMosaic Cert.Mlp

/-- A gated entry: a row's inner product with one column and its bias, times the logistic function of the inner product with another column and its bias. -/
def gate (n u w : Fin 2048 → EReal) (a b : EReal) : EReal := (∑ l, n l * u l + a) * Ideal.logistic (∑ l, n l * w l + b)

/-- The gated linear unit of a normed row: column `j` is gated by column `2048 + j`. -/
def glu (x : Fin 8192 → Fin 2048 → EReal) (g : Fin 2048 → EReal) (w : Fin 2048 → Fin 4096 → EReal) (b : Fin 4096 → EReal) (p : Fin 8192) (j : Fin 2048) : EReal :=
  gate (rms (x p) g) (fun l => w l ⟨j.val, by omega⟩) (fun l => w l ⟨2048 + j.val, by omega⟩) (b ⟨j.val, by omega⟩) (b ⟨2048 + j.val, by omega⟩)

end Cert.Glu

namespace Cert.Kernel4Ideal.Hand

open Idealize.ShloMosaic Idealize.ShloMosaic.TcCoe Idealize.ShloMosaic.Tactic Idealize.SL.Sem
open Idealize.ShloMosaic.Pipeline (Dat Cfg Window)
open Cert.Kernel4Ideal.Gen Cert.Mlp Cert.Glu

theorem hz : (![0, 0] : Fin 2 → Nat) = fun _ => 0 := funext fun a => by fin_cases a <;> rfl

/-- The norm of a row of a block of 256 rows. -/
theorem norm_apply (g : Vec Ideal S1x2048 .f32) (x : Vec Ideal S256x2048 .f32) (r : Fin 256) (j : Fin 2048) :
    k0_pay1 g x (ix2 r j) = rms (fun l => x (ix2 r l)) (fun l => g (ix2 0 l)) j := by
  unfold_payloads
  pointwise
  rfl

/-- The first half of a block's columns. -/
theorem left_apply (n : Vec Ideal S1024x2048 .bf16) (u : Vec Ideal S2048x512 .bf16) (a : Vec Ideal S1x512 .f32) (w : Vec Ideal S2048x512 .bf16) (b : Vec Ideal S1x512 .f32)
    (r : Fin 1024) (j : Fin 512) :
    k0_pay2 n u a w b (ix2 r j) = gate (fun l => n (ix2 r l)) (fun l => u (ix2 l j)) (fun l => w (ix2 l j)) (a (ix2 0 j)) (b (ix2 0 j)) := by
  unfold_payloads
  pointwise
  rfl

/-- The second half of a block's columns. -/
theorem right_apply (n : Vec Ideal S1024x2048 .bf16) (u : Vec Ideal S2048x512 .bf16) (a : Vec Ideal S1x512 .f32) (w : Vec Ideal S2048x512 .bf16) (b : Vec Ideal S1x512 .f32)
    (r : Fin 1024) (j : Fin 512) :
    k0_pay3 n u a w b (ix2 r j) = gate (fun l => n (ix2 r l)) (fun l => u (ix2 l j)) (fun l => w (ix2 l j)) (a (ix2 0 j)) (b (ix2 0 j)) := by
  unfold_payloads
  pointwise
  rfl

/-- A block of 1024 rows, each divided by its root mean square and scaled. -/
def normB (x : Vec Ideal S1024x2048 .f32) (g : Vec Ideal S1x2048 .f32) : Vec Ideal S1024x2048 .bf16 :=
  fun y => rms (fun l => x (ix2 (y 0) l)) (fun l => g (ix2 0 l)) (y 1)

/-- The gated block of normed rows. -/
def gluB (n : Vec Ideal S1024x2048 .bf16) (u w : Vec Ideal S2048x1024 .bf16) (a b : Vec Ideal S1x1024 .f32) : Vec Ideal S1024x1024 .f32 :=
  fun y => gate (fun l => n (ix2 (y 0) l)) (fun l => u (ix2 l (y 1))) (fun l => w (ix2 l (y 1))) (a (ix2 0 (y 1))) (b (ix2 0 (y 1)))

/-- A column of half of the weights' block. -/
theorem ld_w (x : Vec Ideal S2048x1024 .bf16) (o : ℕ) (ho : o + 512 ≤ 1024) (inb) (l : Fin 2048) (j : Fin 512) :
    View.ld x (Rect.unit (s := S2048x1024) ![0, o] S2048x512.size inb) (ix2 l j) = x (ix2 l ⟨o + j.val, by omega⟩) :=
  View.ld_unit_apply_of x _ _ _ _ _ fun a => by fin_cases a <;> simp [ix2]

/-- An entry of half of the bias's block. -/
theorem ld_b (x : Vec Ideal S1x1024 .f32) (o : ℕ) (ho : o + 512 ≤ 1024) (inb) (j : Fin 512) :
    View.ld x (Rect.unit (s := S1x1024) ![0, o] S1x512.size inb) (ix2 0 j) = x (ix2 0 ⟨o + j.val, by omega⟩) :=
  View.ld_unit_apply_of x _ _ _ _ _ fun a => by fin_cases a <;> simp [ix2]

/-- Where half of the output's block lies. -/
theorem emb_half (o : ℕ) (ho : o + 512 ≤ 1024) (inb) (r : Fin 1024) (j : Fin 512) :
    (Rect.unit (s := S1024x1024) ![0, o] S1024x512.size inb).emb (ix2 r j) = ix2 r (⟨o + j.val, by omega⟩ : Fin 1024) := by
  funext a
  apply Fin.ext
  rw [Rect.emb_apply]
  fin_cases a
  · show 0 + 1 * r.val = r.val
    omega
  · show o + 1 * j.val = o + j.val
    omega

/-- Both stored pieces hold the gated block. -/
theorem pieces_glu (n : Vec Ideal S1024x2048 .bf16) (u w : Vec Ideal S2048x1024 .bf16) (a b : Vec Ideal S1x1024 .f32) (i0 i1 i2 i3 i4 i5) :
    ∀ p ∈ ([⟨Rect.unit (s := S1024x1024) ![0, 512] S1024x512.size i0,
          k0_pay3 (F := Ideal) n (View.ld u (Rect.unit (s := S2048x1024) ![0, 512] S2048x512.size i1)) (View.ld a (Rect.unit (s := S1x1024) ![0, 512] S1x512.size i2))
            (View.ld w (Rect.unit (s := S2048x1024) ![0, 512] S2048x512.size i1)) (View.ld b (Rect.unit (s := S1x1024) ![0, 512] S1x512.size i2))⟩,
        ⟨Rect.unit (s := S1024x1024) ![0, 0] S1024x512.size i3,
          k0_pay2 (F := Ideal) n (View.ld u (Rect.unit (s := S2048x1024) ![0, 0] S2048x512.size i4)) (View.ld a (Rect.unit (s := S1x1024) ![0, 0] S1x512.size i5))
            (View.ld w (Rect.unit (s := S2048x1024) ![0, 0] S2048x512.size i4)) (View.ld b (Rect.unit (s := S1x1024) ![0, 0] S1x512.size i5))⟩]
        : List (View.Piece (Elt Ideal) S1024x1024 .f32)), ∀ x : p.1.shape.Idx, p.2 x = gluB n u w a b (p.1.emb x) := by
  intro p hp
  rcases List.mem_cons.mp hp with rfl | hp
  · intro x
    obtain ⟨r, j, rfl⟩ : ∃ (r : Fin 1024) (j : Fin 512), x = ix2 r j := ⟨x 0, x 1, eq_ix2 x⟩
    refine (right_apply n _ _ _ _ r j).trans ?_
    rw [ld_b _ 512 (by omega), ld_b _ 512 (by omega), funext fun l => ld_w u 512 (by omega) i1 l j, funext fun l => ld_w w 512 (by omega) i1 l j]
    exact (congrArg (gluB n u w a b) (emb_half 512 (by omega) i0 r j)).symm
  · rcases List.mem_singleton.mp hp with rfl
    intro x
    obtain ⟨r, j, rfl⟩ : ∃ (r : Fin 1024) (j : Fin 512), x = ix2 r j := ⟨x 0, x 1, eq_ix2 x⟩
    refine (left_apply n _ _ _ _ r j).trans ?_
    rw [ld_b _ 0 (by omega), ld_b _ 0 (by omega), funext fun l => ld_w u 0 (by omega) i4 l j, funext fun l => ld_w w 0 (by omega) i4 l j]
    exact (congrArg (gluB n u w a b) (emb_half 0 (by omega) i3 r j)).symm

/-- Every piece that the loop stores holds the norm of its rows. -/
theorem pieces_norm (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S2048x1024 .bf16) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1024x1024 .f32) (harg8 : arg8.IsWhole) (arg9 : Memref sig .tc .vmem S1024x2048 .bf16) (harg9 : arg9.IsWhole)
    (h1 : k0_cond1 i = 1#1) (g : Vec Ideal S1x2048 .f32)
    (X : BufTy.Contents (Elt Ideal) arg2.view.ty) (n : ℕ) (hn : n ≤ k0_t1_loop.trips) :
    ∀ p ∈ pb_k0_t1 (F := Ideal) 𝒱 c bd i arg2 harg2 arg3 harg3 arg4 harg4 arg5 harg5 arg6 harg6 arg7 harg7 arg8 harg8 arg9 harg9 h1 g X n,
      ∀ x : p.1.shape.Idx, p.2 x = normB (arg2.view.read (Elt Ideal) X) g (p.1.emb x) := by
  induction n with
  | zero => intro p hp; exact absurd hp List.not_mem_nil
  | succ k ih =>
    intro p hp
    rw [pb_k0_t1_succ (k := ⟨k, hn⟩)] at hp
    rcases List.mem_append.mp hp with hp | hp
    · unfold tripL_k0_t1 trip_k0_t1 at hp
      dsimp only at hp
      rcases List.mem_singleton.mp hp with rfl
      intro x
      have hk : k < 4 := Nat.lt_of_lt_of_le hn k0_t1_abs.2.1
      obtain ⟨r, j, rfl⟩ : ∃ (r : Fin 256) (j : Fin 2048), x = ix2 r j := ⟨x 0, x 1, eq_ix2 x⟩
      have o0 : k0_off1 ⟨k, hn⟩ 0 = 256 * k := congrFun (k0_off1_eq _) 0
      have o1 : k0_off1 ⟨k, hn⟩ 1 = 0 := congrFun (k0_off1_eq _) 1
      dsimp only
      refine (norm_apply g _ r j).trans ?_
      have e (l : Fin 2048) : (Rect.unit (s := S1024x2048) (k0_off1 ⟨k, hn⟩) ![256, 2048] (k0_off1_inb i ⟨k, hn⟩ h1)).emb (ix2 r l)
          = ix2 (⟨256 * k + r.val, by omega⟩ : Fin 1024) l := by
        funext a
        apply Fin.ext
        rw [Rect.emb_apply]
        fin_cases a
        · show k0_off1 ⟨k, hn⟩ 0 + 1 * r.val = 256 * k + r.val
          omega
        · show k0_off1 ⟨k, hn⟩ 1 + 1 * l.val = l.val
          omega
      have e' (l : Fin 2048) : View.readAt (Elt Ideal) arg2.view (Rect.unit (s := S1024x2048) (k0_off1 ⟨k, hn⟩) ![256, 2048] (k0_off1_inb i ⟨k, hn⟩ h1)).toLoadRect X (ix2 r l)
          = arg2.view.read (Elt Ideal) X (ix2 (⟨256 * k + r.val, by omega⟩ : Fin 1024) l) := congrArg (arg2.view.read (Elt Ideal) X) (e l)
      rw [funext e', show (Rect.unit (s := S1024x2048) (k0_off1 ⟨k, hn⟩) ![256, 2048] (k0_off1_inb i ⟨k, hn⟩ h1)).emb (ix2 r j) = _ from e j]
      rfl
    · exact ih (Nat.le_of_succ_le hn) p hp

section
variable (c : Dev nD) (i : grid0.Coords) (a2 : Memref sig .tc .vmem S1024x2048 .f32) (h2 : a2.IsWhole) (a3 : Memref sig .tc .vmem S1x2048 .f32) (h3 : a3.IsWhole)
    (a4 : Memref sig .tc .vmem S2048x1024 .bf16) (h4 : a4.IsWhole) (a5 : Memref sig .tc .vmem S2048x1024 .bf16) (h5 : a5.IsWhole)
    (a6 : Memref sig .tc .vmem S1x1024 .f32) (h6 : a6.IsWhole) (a7 : Memref sig .tc .vmem S1x1024 .f32) (h7 : a7.IsWhole)
    (a8 : Memref sig .tc .vmem S1024x1024 .f32) (h8 : a8.IsWhole) (a9 : Memref sig .tc .vmem S1024x2048 .bf16) (h9 : a9.IsWhole)
    (x0 : Vec Ideal S1024x2048 .f32) (x1 : Vec Ideal S1x2048 .f32) (x2 x3 : Vec Ideal S2048x1024 .bf16) (x4 x5 : Vec Ideal S1x1024 .f32)

/-- The second point of a row of blocks gates the rows that are normed already. -/
theorem out_B (hc : ¬cond0_0 i) (xs : Vec Ideal S1024x2048 .bf16) :
    out0_B_6 c i a2 h2 a3 h3 a4 h4 a5 h5 a6 h6 a7 h7 a8 h8 a9 h9 hc x0 x1 x2 x3 x4 x5 xs = gluB xs x2 x3 x4 x5 := by
  funext y
  unfold out0_B_6
  rw [View.read_writes_junk_eq_canon]
  refine View.canon_apply_of_pieces (gluB xs x2 x3 x4 x5) _ ?_ y (cover0_B_6 c i a2 h2 a3 h3 a4 h4 a5 h5 a6 h6 a7 h7 a8 h8 a9 h9 hc x0 x1 x2 x3 x4 x5 xs y)
  unfold kernelRun0_B
  dsimp only
  sl_unfold_words
  simp only [View.readAt_eq_ld, h9.read_unread, h7.read_unread, h6.read_unread, h5.read_unread, h4.read_unread, View.ld_unit_zero (S := S1024x2048) hz]
  exact pieces_glu xs x2 x3 x4 x5 _ _ _ _ _ _

/-- What the first point of a row of blocks stores in the scratch buffer is the norm of its rows. -/
theorem canon_A (hc : cond0_0 i) :
    View.canon (kernelRun0_A (F := Ideal) c i a2 h2 a3 h3 a4 h4 a5 h5 a6 h6 a7 h7 a8 h8 a9 h9 hc x0 x1 x2 x3 x4 x5).2.1 = normB x0 x1 := by
  funext y
  refine View.canon_apply_of_pieces (normB x0 x1) _ ?_ y (scover0_A_0 c i a2 h2 a3 h3 a4 h4 a5 h5 a6 h6 a7 h7 a8 h8 a9 h9 hc x0 x1 x2 x3 x4 x5 y)
  unfold kernelRun0_A
  dsimp only
  rw [View.readAt_eq_ld, h3.read_unread, View.ld_unit_zero (S := S1x2048) hz]
  have h := pieces_norm Variants.none c none i a2 h2 a3 h3 a4 h4 a5 h5 a6 h6 a7 h7 a8 h8 a9 h9 hc x1 (h2.unread x0) _ le_rfl
  rw [h2.read_unread] at h
  exact h

/-- So the scratch buffer holds the norm. -/
theorem sout_A (hc : cond0_0 i) : sout0_A_0 c i a2 h2 a3 h3 a4 h4 a5 h5 a6 h6 a7 h7 a8 h8 a9 h9 hc x0 x1 x2 x3 x4 x5 = normB x0 x1 := by
  unfold sout0_A_0
  rw [View.read_writes_junk_eq_canon, canon_A]

/-- The first point of a row of blocks gates the rows that it norms. -/
theorem out_A (hc : cond0_0 i) : out0_A_6 c i a2 h2 a3 h3 a4 h4 a5 h5 a6 h6 a7 h7 a8 h8 a9 h9 hc x0 x1 x2 x3 x4 x5 = gluB (normB x0 x1) x2 x3 x4 x5 := by
  have hn := canon_A c i a2 h2 a3 h3 a4 h4 a5 h5 a6 h6 a7 h7 a8 h8 a9 h9 x0 x1 x2 x3 x4 x5 hc
  funext y
  unfold out0_A_6
  rw [View.read_writes_junk_eq_canon]
  refine View.canon_apply_of_pieces (gluB (normB x0 x1) x2 x3 x4 x5) _ ?_ y (cover0_A_6 c i a2 h2 a3 h3 a4 h4 a5 h5 a6 h6 a7 h7 a8 h8 a9 h9 hc x0 x1 x2 x3 x4 x5 y)
  unfold kernelRun0_A at hn ⊢
  dsimp only at hn ⊢
  sl_unfold_words
  rw [View.readAt_eq_ld, h3.read_unread, View.ld_unit_zero (S := S1x2048) hz] at hn
  simp only [View.readAt_eq_ld, h7.read_unread, h6.read_unread, h5.read_unread, h4.read_unread, h3.read_unread, View.ld_unit_zero (S := S1x2048) hz]
  rw [View.readCov_eq_canon', ← (View.ld_unit_zero (S := S1024x2048) hz inb_S1024x2048_S1024x2048_0_0 _).trans hn]
  exact pieces_glu _ x2 x3 x4 x5 _ _ _ _ _ _
end

variable (m : (ℓ : Loc nD τ sig) → Buf (Elt Ideal) ℓ) (ρ : Dev nD → PrngReg)

theorem e0 : ∀ t : Fin cfg0.N, win0_0.index t = ![t.val / 2, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, t.val % 2] := (by decide +kernel : ∀ t : Fin grid0.N, _)
theorem e3 : ∀ t : Fin cfg0.N, win0_3.index t = ![0, t.val % 2 + 2] := (by decide +kernel : ∀ t : Fin grid0.N, _)
theorem e4 : ∀ t : Fin cfg0.N, win0_4.index t = ![0, t.val % 2] := (by decide +kernel : ∀ t : Fin grid0.N, _)
theorem e5 : ∀ t : Fin cfg0.N, win0_5.index t = ![0, t.val % 2 + 2] := (by decide +kernel : ∀ t : Fin grid0.N, _)
theorem e6 : ∀ t : Fin cfg0.N, win0_6.index t = ![t.val / 2, t.val % 2] := (by decide +kernel : ∀ t : Fin grid0.N, _)

/-- There are sixteen grid points. -/
theorem N16 (t : Fin cfg0.N) : t.val < 16 := t.isLt

/-- The rows at coordinates. -/
abbrev X (c : Dev nD) (p : Fin 8192) (j : Fin 2048) : EReal := V m c main_arg0 (ix2 p j)
/-- The norm's factors at coordinates. -/
abbrev G (c : Dev nD) (j : Fin 2048) : EReal := V m c main_arg1 (ix2 0 j)
/-- The weights at coordinates. -/
abbrev W (c : Dev nD) (l : Fin 2048) (k : Fin 4096) : EReal := V m c main_arg2 (ix2 l k)
/-- The bias at coordinates. -/
abbrev B (c : Dev nD) (k : Fin 4096) : EReal := V m c main_arg3 (ix2 0 k)

/-- The row of the whole array that row `r` of a point's block is. -/
abbrev row (n : ℕ) (r : Fin 1024) : Fin 8192 := ⟨(1024 * (n / 2) + r.val) % 8192, by omega⟩
/-- The column that column `k` of a point's block is. -/
abbrev col (n : ℕ) (k : Fin 1024) : Fin 4096 := ⟨(1024 * (n % 2) + k.val) % 4096, by omega⟩
/-- The column that gates it. -/
abbrev gcol (n : ℕ) (k : Fin 1024) : Fin 4096 := ⟨(1024 * (n % 2 + 2) + k.val) % 4096, by omega⟩

theorem blk0 (c : Dev nD) (t : Fin cfg0.N) (r : Fin 1024) (j : Fin 2048) : iblk m c 0 t (ix2 r j) = X m c (row t.val r) j := by
  have ht := N16 t
  blk_simp [iblk]
  refine congrArg (V m c main_arg0) ?_
  blk_ext [e0]

theorem blk1 (c : Dev nD) (t : Fin cfg0.N) (j : Fin 2048) : iblk m c 1 t (ix2 0 j) = G m c j := by
  blk_simp [iblk]
  refine congrArg (V m c main_arg1) ?_
  blk_ext [e1]

theorem blk2 (c : Dev nD) (t : Fin cfg0.N) (l : Fin 2048) (k : Fin 1024) : iblk m c 2 t (ix2 l k) = W m c l (col t.val k) := by
  blk_simp [iblk]
  refine congrArg (V m c main_arg2) ?_
  blk_ext [e2]

theorem blk3 (c : Dev nD) (t : Fin cfg0.N) (l : Fin 2048) (k : Fin 1024) : iblk m c 3 t (ix2 l k) = W m c l (gcol t.val k) := by
  blk_simp [iblk]
  refine congrArg (V m c main_arg2) ?_
  blk_ext [e3]

theorem blk4 (c : Dev nD) (t : Fin cfg0.N) (k : Fin 1024) : iblk m c 4 t (ix2 0 k) = B m c (col t.val k) := by
  blk_simp [iblk]
  refine congrArg (V m c main_arg3) ?_
  blk_ext [e4]

theorem blk5 (c : Dev nD) (t : Fin cfg0.N) (k : Fin 1024) : iblk m c 5 t (ix2 0 k) = B m c (gcol t.val k) := by
  blk_simp [iblk]
  refine congrArg (V m c main_arg3) ?_
  blk_ext [e5]

/-- The norm of a point's rows. -/
theorem norm_blk (c : Dev nD) (t : Fin cfg0.N) (r : Fin 1024) (j : Fin 2048) :
    normB (iblk m c 0 t) (iblk m c 1 t) (ix2 r j) = rms (X m c (row t.val r)) (G m c) j := by
  show rms (fun l => iblk m c 0 t (ix2 r l)) (fun l => iblk m c 1 t (ix2 0 l)) j = _
  rw [funext (blk0 m c t r), funext (blk1 m c t)]

/-- A point's gated block, on rows that are normed already. -/
theorem glu_blk (c : Dev nD) (t : Fin cfg0.N) (n : Vec Ideal S1024x2048 .bf16) (r k : Fin 1024) (hn : ∀ l, n (ix2 r l) = rms (X m c (row t.val r)) (G m c) l) :
    gluB n (iblk m c 2 t) (iblk m c 3 t) (iblk m c 4 t) (iblk m c 5 t) (ix2 r k)
      = gate (rms (X m c (row t.val r)) (G m c)) (fun l => W m c l (col t.val k)) (fun l => W m c l (gcol t.val k)) (B m c (col t.val k)) (B m c (gcol t.val k)) := by
  show gate (fun l => n (ix2 r l)) (fun l => iblk m c 2 t (ix2 l k)) (fun l => iblk m c 3 t (ix2 l k)) (iblk m c 4 t (ix2 0 k)) (iblk m c 5 t (ix2 0 k)) = _
  rw [funext hn, funext fun l => blk2 m c t l k, funext fun l => blk3 m c t l k, blk4, blk5]

/-- After each point the scratch buffer holds the norm of the point's rows, and the output the gated block. -/
theorem outs (c : Dev nD) : ∀ (n : ℕ) (h : n < cfg0.N),
    (∀ r j, (outsAt0 m c n h).2 (ix2 r j) = rms (X m c (row n r)) (G m c) j) ∧
    ∀ r k, (outsAt0 m c n h).1 (ix2 r k)
      = gate (rms (X m c (row n r)) (G m c)) (fun l => W m c l (col n k)) (fun l => W m c l (gcol n k)) (B m c (col n k)) (B m c (gcol n k)) := by
  intro n
  induction n using Nat.strong_induction_on with
  | _ n ih =>
    intro h
    by_cases h0 : n % 2 = 0
    · rw [outsAt0_A m c ⟨n, h⟩ h0]
      dsimp only
      rw [sout_A, out_A]
      exact ⟨fun r j => norm_blk m c ⟨n, h⟩ r j, fun r k => glu_blk m c ⟨n, h⟩ _ r k fun l => norm_blk m c ⟨n, h⟩ r l⟩
    · obtain ⟨i1, -⟩ := ih (n - 1) (by omega) (by omega)
      have hr (r : Fin 1024) : row (n - 1) r = row n r := by
        apply Fin.ext
        simp only []
        omega
      simp only [hr] at i1
      rw [outsAt0_B m c ⟨n, h⟩ h0]
      dsimp only
      rw [out_B]
      exact ⟨i1, fun r k => glu_blk m c ⟨n, h⟩ _ r k (i1 r)⟩

/-- The array after the run is the gated linear unit of the arguments. -/
theorem arr6 (c : Dev nD) : (dats m 0 c).arrAt 6 cfg0.N
    = (fun i => glu (X m c) (G m c) (W m c) (B m c) (i 0) (i 1) : Buf (Elt Ideal) ((c.tc : Thread nD τ).loc main_v0)) := by
  refine (dats m 0 c).arrAt_eq_of_covers 6 _ (by decide +kernel) fun t hf y => ?_
  blk_simp
  rw [after0_6]
  have ht := N16 t
  have h0 : (y 0).val < 1024 := (y 0).isLt
  have h1 : (y 1).val < 1024 := (y 1).isLt
  have r0 : ((win0_6.blk t).view.emb y 0 : ℕ) = (t.val / 2) * 1024 + (y 0).val := by blk_simp [e6]
  have r1 : ((win0_6.blk t).view.emb y 1 : ℕ) = (t.val % 2) * 1024 + (y 1).val := by blk_simp [e6]
  have hy : y = ix2 (⟨(y 0).val, h0⟩ : Fin 1024) (⟨(y 1).val, h1⟩ : Fin 1024) := by
    funext a; fin_cases a <;> rfl
  refine (congrArg _ hy).trans (((outs m c t.val t.isLt).2 ⟨(y 0).val, h0⟩ ⟨(y 1).val, h1⟩).trans ?_)
  unfold glu
  have q0 : (win0_6.blk t).view.emb y 0 = row t.val ⟨(y 0).val, h0⟩ := by apply Fin.ext; simp only [r0]; omega
  have q1 : (⟨((win0_6.blk t).view.emb y 1 : ℕ), by omega⟩ : Fin 4096) = col t.val ⟨(y 1).val, h1⟩ := by apply Fin.ext; simp only [r1]; omega
  have q2 : (⟨2048 + ((win0_6.blk t).view.emb y 1 : ℕ), by omega⟩ : Fin 4096) = gcol t.val ⟨(y 1).val, h1⟩ := by apply Fin.ext; simp only [r1]; omega
  rw [← q1, ← q2, ← q0]

/-- The run: the result is the gated linear unit of the arguments, and the arguments end unchanged. -/
theorem run_all : θ_run defs (onTc (τ := τ) (main (F := Ideal))) ⟨m, fun _ => 0, ρ⟩ fun r => ∀ c : Dev nD,
    r.2.mem ((c.tc : Thread nD τ).loc main_v0) = (fun i => glu (X m c) (G m c) (W m c) (B m c) (i 0) (i 1) : Buf (Elt Ideal) ((c.tc : Thread nD τ).loc main_v0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨((h.2 c).1 6).trans (arr6 m c), h.1 c⟩) (θ_run_and (unchanged m ρ) (run_main m ρ))

end Cert.Kernel4Ideal.Hand

end
-- ==== Proof.Glu.lean ====
/- The claims on the gated linear unit's call. -/
module

public import proofs.«01_k».proof.Defs
public import proofs.«01_k».proof.Proof.Gen.Kernel4.Frame
public import proofs.«01_k».proof.Proof.GluValue
public import proofs.«01_k».proof.Proof.Gen.Reference4Ideal.Read
public import proofs.«01_k».proof.Proof.Gen.Reference4Ideal.Run

@[expose] public section

set_option maxRecDepth 16384

noncomputable section

namespace Cert.Reference4Ideal.Hand

open Idealize.ShloMosaic Idealize.ShloMosaic.TcCoe
open Cert.Reference4Ideal.Read Cert.Mlp Cert.Glu

variable (x : Vec Ideal S8192x2048 .f32) (g : Vec Ideal S1x2048 .f32) (w : Vec Ideal S2048x4096 .bf16) (b : Vec Ideal S1x4096 .f32)

/-- The number one as the program spells it. -/
theorem one_bits : Ideal.ofBits FTy.f32 0x3F800000#32 = 1 := by
  simp [Ideal.ofBits, Ideal.ieee, -EReal.coe_mul]
  norm_num

/-- The norm. -/
theorem norm_ref (p : Fin 8192) (j : Fin 2048) :
    val_main_v11 (F := Ideal) x g (ix2 p j) = rms (fun l => x (ix2 p l)) (fun l => g (ix2 0 l)) j := by
  pointwise [val_main_v11, val_main_v10, val_main_v9, val_main_v8, val_main_v7, val_main_v6, val_main_v5, val_main_v4, val_main_v3, val_main_v2, val_main_v1, val_main_v0, val_main_cst, val_main_cst_0, val_main_cst_1]
  rfl

/-- The linear map with its bias. -/
theorem linear_ref (p : Fin 8192) (k : Fin 4096) : val_main_v15 (F := Ideal) x g w b (ix2 p k)
    = ∑ l, rms (fun l => x (ix2 p l)) (fun l => g (ix2 0 l)) l * w (ix2 l k) + b (ix2 0 k) := by
  pointwise [val_main_v15, val_main_v14, val_main_v13, val_main_v12]
  simp only [norm_ref]

/-- The result: the first half of the columns gated by the second half. -/
theorem glu_ref : val_main_v24 (F := Ideal) x g w b
    = fun i => glu (fun p j => x (ix2 p j)) (fun j => g (ix2 0 j)) (fun l k => w (ix2 l k)) (fun k => b (ix2 0 k)) (i 0) (i 1) := by
  funext i
  obtain ⟨p, j, rfl⟩ : ∃ (p : Fin 8192) (j : Fin 2048), i = ix2 p j := ⟨i 0, i 1, eq_ix2 i⟩
  have h1 : val_main_v16 (F := Ideal) x g w b (ix2 p j) = val_main_v15 (F := Ideal) x g w b (ix2 p (⟨j.val, by omega⟩ : Fin 4096)) := by
    rw [val_main_v16_apply]
    congr 1
    funext a
    apply Fin.ext
    fin_cases a <;> simp [idx_main_v16, ix2]
  have h2 : val_main_v17 (F := Ideal) x g w b (ix2 p j) = val_main_v15 (F := Ideal) x g w b (ix2 p (⟨2048 + j.val, by omega⟩ : Fin 4096)) := by
    rw [val_main_v17_apply]
    congr 1
    funext a
    apply Fin.ext
    fin_cases a <;> simp [idx_main_v17, ix2]
  pointwise [val_main_v24, val_main_v23, val_main_v22, val_main_v21, val_main_v20, val_main_v19, val_main_v18, val_main_cst_2, val_main_cst_3]
  simp only [h1, h2, linear_ref, one_bits]
  rfl

end Cert.Reference4Ideal.Hand

namespace Cert.Proof

open Idealize.ShloMosaic Idealize.SL.Sem

/-- The kernel's frame. -/
theorem glu_frame : Cert.quiescent_Kernel4 := fun m ρ _ => Cert.Kernel4.Gen.frame m ρ

/-- The idealized kernel's frame. -/
theorem glu_ideal_frame : Cert.quiescent_Kernel4Ideal := fun m ρ _ => Cert.Kernel4Ideal.Gen.frame m ρ

/-- The reference's frame: it writes none of its arguments, and it has no semaphore. -/
theorem glu_ref_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- From any arguments the kernel and the reference end with the same array. -/
theorem glu_algebraic : Cert.algebraic_Kernel4Ideal_Reference4Ideal := by
  intro m g m' g' _ hag
  refine ⟨fun c => fun i => Cert.Glu.glu (Cert.Kernel4Ideal.Hand.X m c) (Cert.Kernel4Ideal.Hand.G m c) (Cert.Kernel4Ideal.Hand.W m c) (Cert.Kernel4Ideal.Hand.B m c) (i 0) (i 1),
    Cert.Kernel4Ideal.Hand.run_all m g, ?_⟩
  refine (θ_run Cert.Reference4Ideal.defs _ _).mono (fun r h c => ?_) (Cert.Reference4Ideal.Value.run m' g')
  obtain ⟨h0, hargs⟩ := h c
  obtain ⟨e0, e1, e2, e3⟩ := hag c
  refine ⟨?_, hargs⟩
  rw [h0, Cert.Reference4Ideal.Read.val_main_v24_eq, Cert.Reference4Ideal.Hand.glu_ref, e0, e1, e2, e3]
  rfl

end Cert.Proof

end
-- ==== Proof.Linear.lean ====
/- The linear call with a bias: its array after the run, the reference's, and the claims on both. -/
module

public import proofs.«01_k».proof.Defs
public import proofs.«01_k».proof.Proof.Gen.Kernel5.Frame
public import proofs.«01_k».proof.Proof.Gen.Kernel5Ideal.Frame
public import proofs.«01_k».proof.Proof.Gen.Reference5Ideal.Read
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Linear

open Idealize.ShloMosaic

/-- The row itself and the inner products of the row of `a` with the columns of `w`, with a bias. -/
def linear (x a : Fin 8192 → Fin 2048 → EReal) (w : Fin 2048 → Fin 2048 → EReal) (b : Fin 2048 → EReal) (p : Fin 8192) (j : Fin 2048) : EReal :=
  x p j + ((∑ l, a p l * w l j) + b j)

end Cert.Linear

namespace Cert.Kernel5Ideal.Hand

open Idealize.ShloMosaic Idealize.ShloMosaic.TcCoe Idealize.ShloMosaic.Tactic Idealize.SL.Sem
open Idealize.ShloMosaic.Pipeline (Dat Cfg Window)
open Cert.Kernel5Ideal.Gen Cert.Linear

/-- The origin of a block. -/
theorem hz : (![0, 0] : Fin 2 → Nat) = fun _ => 0 := funext fun a => by fin_cases a <;> rfl

/-- What a grid point stores, at an index. -/
theorem out_apply (x : Vec Ideal S512x2048 .f32) (a : Vec Ideal S512x2048 .bf16) (w : Vec Ideal S2048x2048 .bf16) (b : Vec Ideal S1x2048 .f32) (r : Fin 512) (j : Fin 2048) :
    out0_4 x a w b (ix2 r j) = x (ix2 r j) + ((∑ l : Fin 2048, a (ix2 r l) * w (ix2 l j)) + b (ix2 0 j)) := by
  unfold out0_4
  rw [View.canon_unit_zero hz]
  simp only [View.ld_unit_zero (S := S512x2048) hz, View.ld_unit_zero (S := S2048x2048) hz, View.ld_unit_zero (S := S1x2048) hz]
  unfold_payloads
  pointwise

variable (m : (ℓ : Loc nD τ sig) → Buf (Elt Ideal) ℓ) (ρ : Dev nD → PrngReg)

/-- Each window's block at a grid point. -/
theorem e0 : ∀ t : Fin cfg0.N, win0_0.index t = ![t.val, 0] := (by decide +kernel : ∀ t : Fin grid0.N, _)
/-- The block of rows of `a`. -/
theorem e1 : ∀ t : Fin cfg0.N, win0_1.index t = ![t.val, 0] := (by decide +kernel : ∀ t : Fin grid0.N, _)
/-- The whole of the weights. -/
theorem e2 : ∀ t : Fin cfg0.N, win0_2.index t = ![0, 0] := (by decide +kernel : ∀ t : Fin grid0.N, _)
/-- The whole of the bias. -/
theorem e3 : ∀ t : Fin cfg0.N, win0_3.index t = ![0, 0] := (by decide +kernel : ∀ t : Fin grid0.N, _)
/-- The block of rows of the output. -/
theorem e4 : ∀ t : Fin cfg0.N, win0_4.index t = ![t.val, 0] := (by decide +kernel : ∀ t : Fin grid0.N, _)

/-- There are sixteen grid points. -/
theorem N16 (t : Fin cfg0.N) : t.val < 16 := t.isLt

/-- The residual's rows at coordinates. -/
abbrev X (c : Dev nD) (p : Fin 8192) (j : Fin 2048) : EReal := V m c main_arg0 (ix2 p j)
/-- The factor's rows at coordinates. -/
abbrev A (c : Dev nD) (p : Fin 8192) (j : Fin 2048) : EReal := V m c main_arg1 (ix2 p j)
/-- The weights at coordinates. -/
abbrev W (c : Dev nD) (l j : Fin 2048) : EReal := V m c main_arg2 (ix2 l j)
/-- The bias at coordinates. -/
abbrev B (c : Dev nD) (j : Fin 2048) : EReal := V m c main_arg3 (ix2 0 j)

/-- The row of the whole array that row `r` of a point's block is. -/
abbrev row (n : ℕ) (r : Fin 512) : Fin 8192 := ⟨(512 * n + r.val) % 8192, by omega⟩

/-- A point's rows of the residual. -/
theorem blk0 (c : Dev nD) (t : Fin cfg0.N) (r : Fin 512) (j : Fin 2048) : iblk m c 0 t (ix2 r j) = X m c (row t.val r) j := by
  have ht := N16 t
  blk_simp [iblk]
  refine congrArg (V m c main_arg0) ?_
  blk_ext [e0]

/-- A point's rows of the factor. -/
theorem blk1 (c : Dev nD) (t : Fin cfg0.N) (r : Fin 512) (j : Fin 2048) : iblk m c 1 t (ix2 r j) = A m c (row t.val r) j := by
  have ht := N16 t
  blk_simp [iblk]
  refine congrArg (V m c main_arg1) ?_
  blk_ext [e1]

/-- The weights, the same at every point. -/
theorem blk2 (c : Dev nD) (t : Fin cfg0.N) (l j : Fin 2048) : iblk m c 2 t (ix2 l j) = W m c l j := by
  blk_simp [iblk]
  refine congrArg (V m c main_arg2) ?_
  blk_ext [e2]

/-- The bias, the same at every point. -/
theorem blk3 (c : Dev nD) (t : Fin cfg0.N) (j : Fin 2048) : iblk m c 3 t (ix2 0 j) = B m c j := by
  blk_simp [iblk]
  refine congrArg (V m c main_arg3) ?_
  blk_ext [e3]

/-- The array after the run. -/
theorem arr (c : Dev nD) : (dats m 0 c).arrAt 4 cfg0.N
    = (fun i => linear (X m c) (A m c) (W m c) (B m c) (i 0) (i 1) : Buf (Elt Ideal) ((c.tc : Thread nD τ).loc main_v0)) := by
  refine (dats m 0 c).arrAt_eq_of_covers 4 _ (by decide +kernel) fun t hf y => ?_
  blk_simp
  rw [after0_4]
  have ht := N16 t
  have h0 : (y 0).val < 512 := (y 0).isLt
  have h1 : (y 1).val < 2048 := (y 1).isLt
  have r0 : ((win0_4.blk t).view.emb y 0 : ℕ) = t.val * 512 + (y 0).val := by blk_simp [e4]
  have r1 : ((win0_4.blk t).view.emb y 1 : ℕ) = (y 1).val := by blk_simp [e4]
  have hy : y = ix2 (⟨(y 0).val, h0⟩ : Fin 512) (⟨(y 1).val, h1⟩ : Fin 2048) := by
    funext a; fin_cases a <;> rfl
  refine (congrArg _ hy).trans ((out_apply _ _ _ _ ⟨(y 0).val, h0⟩ ⟨(y 1).val, h1⟩).trans ?_)
  simp only [blk0, blk1, blk2, blk3]
  rw [← linear]
  congr 1 <;> apply Fin.ext <;> simp only [r0, r1] <;> omega

/-- The run: the result is the linear map with its residual, and the arguments end unchanged. -/
theorem run_all : θ_run defs (onTc (τ := τ) (main (F := Ideal))) ⟨m, fun _ => 0, ρ⟩ fun r => ∀ c : Dev nD,
    r.2.mem ((c.tc : Thread nD τ).loc main_v0) = (fun i => linear (X m c) (A m c) (W m c) (B m c) (i 0) (i 1) : Buf (Elt Ideal) ((c.tc : Thread nD τ).loc main_v0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨((h.2 c).1 4).trans (arr m c), h.1 c⟩) (θ_run_and (unchanged m ρ) (run_main m ρ))

end Cert.Kernel5Ideal.Hand

namespace Cert.Reference5Ideal.Hand

open Idealize.ShloMosaic Idealize.ShloMosaic.TcCoe
open Cert.Reference5Ideal.Read Cert.Linear

/-- The reference's result. -/
theorem linear_ref (x : Vec Ideal S8192x2048 .f32) (a : Vec Ideal S8192x2048 .bf16) (w : Vec Ideal S2048x2048 .bf16) (b : Vec Ideal S1x2048 .f32) :
    val_main_v5 (F := Ideal) x a w b
    = fun i => linear (fun p j => x (ix2 p j)) (fun p j => a (ix2 p j)) (fun l j => w (ix2 l j)) (fun j => b (ix2 0 j)) (i 0) (i 1) := by
  funext i
  obtain ⟨p, j, rfl⟩ : ∃ (p : Fin 8192) (j : Fin 2048), i = ix2 p j := ⟨i 0, i 1, eq_ix2 i⟩
  pointwise [val_main_v5, val_main_v4, val_main_v3, val_main_v2, val_main_v1, val_main_v0]
  rfl

end Cert.Reference5Ideal.Hand

namespace Cert.Proof

open Idealize.ShloMosaic Idealize.SL.Sem

/-- The kernel's frame. -/
theorem linear_frame : Cert.quiescent_Kernel5 := fun m ρ _ => Cert.Kernel5.Gen.frame m ρ

/-- The idealized kernel's frame. -/
theorem linear_ideal_frame : Cert.quiescent_Kernel5Ideal := fun m ρ _ => Cert.Kernel5Ideal.Gen.frame m ρ

/-- The reference's frame: it writes none of its arguments, and it has no semaphore. -/
theorem linear_ref_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- From any arguments the kernel and the reference end with the same array. -/
theorem linear_algebraic : Cert.algebraic_Kernel5Ideal_Reference5Ideal := by
  intro m g m' g' _ hag
  refine ⟨fun c => fun i => Cert.Linear.linear (Cert.Kernel5Ideal.Hand.X m c) (Cert.Kernel5Ideal.Hand.A m c) (Cert.Kernel5Ideal.Hand.W m c) (Cert.Kernel5Ideal.Hand.B m c) (i 0) (i 1),
    Cert.Kernel5Ideal.Hand.run_all m g, ?_⟩
  refine (θ_run Cert.Reference5Ideal.defs _ _).mono (fun r h c => ?_) (Cert.Reference5Ideal.Value.run m' g')
  obtain ⟨h0, hargs⟩ := h c
  obtain ⟨e0, e1, e2, e3⟩ := hag c
  refine ⟨?_, hargs⟩
  rw [h0, Cert.Reference5Ideal.Read.val_main_v5_eq, Cert.Reference5Ideal.Hand.linear_ref, e0, e1, e2, e3]
  rfl

end Cert.Proof

end
-- ==== Proof.LinearPlain.lean ====
/- The linear call without a bias: its array after the run, the reference's, and the claims on both. -/
module

public import proofs.«01_k».proof.Defs
public import proofs.«01_k».proof.Proof.Gen.Kernel6.Frame
public import proofs.«01_k».proof.Proof.Gen.Kernel6Ideal.Frame
public import proofs.«01_k».proof.Proof.Gen.Reference6Ideal.Read
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.LinearPlain

open Idealize.ShloMosaic

/-- The row itself and the inner products of the row of `a` with the columns of `w`. -/
def linear (x a : Fin 8192 → Fin 2048 → EReal) (w : Fin 2048 → Fin 2048 → EReal) (p : Fin 8192) (j : Fin 2048) : EReal :=
  x p j + ∑ l, a p l * w l j

end Cert.LinearPlain

namespace Cert.Kernel6Ideal.Hand

open Idealize.ShloMosaic Idealize.ShloMosaic.TcCoe Idealize.ShloMosaic.Tactic Idealize.SL.Sem
open Idealize.ShloMosaic.Pipeline (Dat Cfg Window)
open Cert.Kernel6Ideal.Gen Cert.LinearPlain

/-- The origin of a block. -/
theorem hz : (![0, 0] : Fin 2 → Nat) = fun _ => 0 := funext fun a => by fin_cases a <;> rfl

/-- What a grid point stores, at an index. -/
theorem out_apply (x : Vec Ideal S512x2048 .f32) (a : Vec Ideal S512x2048 .bf16) (w : Vec Ideal S2048x2048 .bf16) (r : Fin 512) (j : Fin 2048) :
    out0_3 x a w (ix2 r j) = x (ix2 r j) + ∑ l : Fin 2048, a (ix2 r l) * w (ix2 l j) := by
  unfold out0_3
  rw [View.canon_unit_zero hz]
  simp only [View.ld_unit_zero (S := S512x2048) hz, View.ld_unit_zero (S := S2048x2048) hz]
  unfold_payloads
  pointwise

variable (m : (ℓ : Loc nD τ sig) → Buf (Elt Ideal) ℓ) (ρ : Dev nD → PrngReg)

/-- Each window's block at a grid point. -/
theorem e0 : ∀ t : Fin cfg0.N, win0_0.index t = ![t.val, 0] := (by decide +kernel : ∀ t : Fin grid0.N, _)
/-- The block of rows of `a`. -/
theorem e1 : ∀ t : Fin cfg0.N, win0_1.index t = ![t.val, 0] := (by decide +kernel : ∀ t : Fin grid0.N, _)
/-- The whole of the weights. -/
theorem e2 : ∀ t : Fin cfg0.N, win0_2.index t = ![0, 0] := (by decide +kernel : ∀ t : Fin grid0.N, _)
/-- The block of rows of the output. -/
theorem e3 : ∀ t : Fin cfg0.N, win0_3.index t = ![t.val, 0] := (by decide +kernel : ∀ t : Fin grid0.N, _)

/-- There are sixteen grid points. -/
theorem N16 (t : Fin cfg0.N) : t.val < 16 := t.isLt

/-- The residual's rows at coordinates. -/
abbrev X (c : Dev nD) (p : Fin 8192) (j : Fin 2048) : EReal := V m c main_arg0 (ix2 p j)
/-- The factor's rows at coordinates. -/
abbrev A (c : Dev nD) (p : Fin 8192) (j : Fin 2048) : EReal := V m c main_arg1 (ix2 p j)
/-- The weights at coordinates. -/
abbrev W (c : Dev nD) (l j : Fin 2048) : EReal := V m c main_arg2 (ix2 l j)

/-- The row of the whole array that row `r` of a point's block is. -/
abbrev row (n : ℕ) (r : Fin 512) : Fin 8192 := ⟨(512 * n + r.val) % 8192, by omega⟩

/-- A point's rows of the residual. -/
theorem blk0 (c : Dev nD) (t : Fin cfg0.N) (r : Fin 512) (j : Fin 2048) : iblk m c 0 t (ix2 r j) = X m c (row t.val r) j := by
  have ht := N16 t
  blk_simp [iblk]
  refine congrArg (V m c main_arg0) ?_
  blk_ext [e0]

/-- A point's rows of the factor. -/
theorem blk1 (c : Dev nD) (t : Fin cfg0.N) (r : Fin 512) (j : Fin 2048) : iblk m c 1 t (ix2 r j) = A m c (row t.val r) j := by
  have ht := N16 t
  blk_simp [iblk]
  refine congrArg (V m c main_arg1) ?_
  blk_ext [e1]

/-- The weights, the same at every point. -/
theorem blk2 (c : Dev nD) (t : Fin cfg0.N) (l j : Fin 2048) : iblk m c 2 t (ix2 l j) = W m c l j := by
  blk_simp [iblk]
  refine congrArg (V m c main_arg2) ?_
  blk_ext [e2]

/-- The array after the run. -/
theorem arr (c : Dev nD) : (dats m 0 c).arrAt 3 cfg0.N
    = (fun i => linear (X m c) (A m c) (W m c) (i 0) (i 1) : Buf (Elt Ideal) ((c.tc : Thread nD τ).loc main_v0)) := by
  refine (dats m 0 c).arrAt_eq_of_covers 3 _ (by decide +kernel) fun t hf y => ?_
  blk_simp
  rw [after0_3]
  have ht := N16 t
  have h0 : (y 0).val < 512 := (y 0).isLt
  have h1 : (y 1).val < 2048 := (y 1).isLt
  have r0 : ((win0_3.blk t).view.emb y 0 : ℕ) = t.val * 512 + (y 0).val := by blk_simp [e3]
  have r1 : ((win0_3.blk t).view.emb y 1 : ℕ) = (y 1).val := by blk_simp [e3]
  have hy : y = ix2 (⟨(y 0).val, h0⟩ : Fin 512) (⟨(y 1).val, h1⟩ : Fin 2048) := by
    funext a; fin_cases a <;> rfl
  refine (congrArg _ hy).trans ((out_apply _ _ _ ⟨(y 0).val, h0⟩ ⟨(y 1).val, h1⟩).trans ?_)
  simp only [blk0, blk1, blk2]
  rw [← linear]
  congr 1 <;> apply Fin.ext <;> simp only [r0, r1] <;> omega

/-- The run: the result is the linear map with its residual, and the arguments end unchanged. -/
theorem run_all : θ_run defs (onTc (τ := τ) (main (F := Ideal))) ⟨m, fun _ => 0, ρ⟩ fun r => ∀ c : Dev nD,
    r.2.mem ((c.tc : Thread nD τ).loc main_v0) = (fun i => linear (X m c) (A m c) (W m c) (i 0) (i 1) : Buf (Elt Ideal) ((c.tc : Thread nD τ).loc main_v0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨((h.2 c).1 3).trans (arr m c), h.1 c⟩) (θ_run_and (unchanged m ρ) (run_main m ρ))

end Cert.Kernel6Ideal.Hand

namespace Cert.Reference6Ideal.Hand

open Idealize.ShloMosaic Idealize.ShloMosaic.TcCoe
open Cert.Reference6Ideal.Read Cert.LinearPlain

/-- The reference's result. -/
theorem linear_ref (x : Vec Ideal S8192x2048 .f32) (a : Vec Ideal S8192x2048 .bf16) (w : Vec Ideal S2048x2048 .bf16) :
    val_main_v3 (F := Ideal) x a w
    = fun i => linear (fun p j => x (ix2 p j)) (fun p j => a (ix2 p j)) (fun l j => w (ix2 l j)) (i 0) (i 1) := by
  funext i
  obtain ⟨p, j, rfl⟩ : ∃ (p : Fin 8192) (j : Fin 2048), i = ix2 p j := ⟨i 0, i 1, eq_ix2 i⟩
  pointwise [val_main_v3, val_main_v2, val_main_v1, val_main_v0]
  rfl

end Cert.Reference6Ideal.Hand

namespace Cert.Proof

open Idealize.ShloMosaic Idealize.SL.Sem

/-- The kernel's frame. -/
theorem plain_frame : Cert.quiescent_Kernel6 := fun m ρ _ => Cert.Kernel6.Gen.frame m ρ

/-- The idealized kernel's frame. -/
theorem plain_ideal_frame : Cert.quiescent_Kernel6Ideal := fun m ρ _ => Cert.Kernel6Ideal.Gen.frame m ρ

/-- The reference's frame: it writes none of its arguments, and it has no semaphore. -/
theorem plain_ref_frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- From any arguments the kernel and the reference end with the same array. -/
theorem plain_algebraic : Cert.algebraic_Kernel6Ideal_Reference6Ideal := by
  intro m g m' g' _ hag
  refine ⟨fun c => fun i => Cert.LinearPlain.linear (Cert.Kernel6Ideal.Hand.X m c) (Cert.Kernel6Ideal.Hand.A m c) (Cert.Kernel6Ideal.Hand.W m c) (i 0) (i 1),
    Cert.Kernel6Ideal.Hand.run_all m g, ?_⟩
  refine (θ_run Cert.Reference6Ideal.defs _ _).mono (fun r h c => ?_) (Cert.Reference6Ideal.Value.run m' g')
  obtain ⟨h0, hargs⟩ := h c
  obtain ⟨e0, e1, e2⟩ := hag c
  refine ⟨?_, hargs⟩
  rw [h0, Cert.Reference6Ideal.Read.val_main_v3_eq, Cert.Reference6Ideal.Hand.linear_ref, e0, e1, e2]
  rfl

end Cert.Proof

end
-- ==== Proof.ProjPieces.lean ====
/- What the latent projections' kernel stores: every piece of an output's block is the slice of one array of the block, so a block is known entry by entry. -/
module

public import proofs.«01_k».proof.Proof.Gen.Kernel7Ideal.Frame
public import Idealize.ShloMosaic.Lib.Pointwise
public import Idealize.ShloMosaic.Lib.Pipeline.ValueKit

@[expose] public section

set_option maxRecDepth 16384

noncomputable section

namespace Cert.Kernel7Ideal.Hand

open Idealize.ShloMosaic Idealize.ShloMosaic.TcCoe Idealize.ShloMosaic.Tactic Idealize.SL.Sem
open Idealize.ShloMosaic.Pipeline (Dat Cfg Window)
open Cert.Kernel7Ideal.Gen

/-- Offsets zero, in two dimensions. -/
theorem hz : (![0, 0] : Fin 2 → Nat) = fun _ => 0 := funext fun a => by fin_cases a <;> rfl
/-- Offsets zero, in three dimensions. -/
theorem hz3 : (![0, 0, 0] : Fin 3 → Nat) = fun _ => 0 := funext fun a => by fin_cases a <;> rfl

/-- The scale of the queries, as its bits. -/
abbrev σ : EReal := Scalar.ofBits (F := Ideal) .f32 0x3DD53B95#32

/-! ### The stored pieces as functions of a head's offset -/

/-- The lanes of a head without rotation, scaled. -/
def nopeOf (Q : Vec Ideal S3072x512 .f32) (o : ℕ) (h : S3072x512.Slices ![o, 0] S128x512) : Vec Ideal S128x512 .bf16 :=
  truncf .bf16 (mulf (extractStridedSlice S128x512 ![o, 0] Q h : FVec Ideal S128x512 .f32) (broadcast S128x512 (Scalar.ofBits (F := Ideal) .f32 0x3DD53B95#32))) bitsLt_bf16_f32

/-- The rotated lanes of a head, scaled. -/
def peOf (Q : Vec Ideal S3072x512 .f32) (C S : Vec Ideal S64x512 .f32) (o : ℕ) (h : S3072x512.Slices ![o, 0] S64x512) : Vec Ideal S64x512 .bf16 :=
  truncf .bf16 (mulf (addf (mulf (extractStridedSlice S64x512 ![o, 0] Q h : FVec Ideal S64x512 .f32) C)
    (mulf (concatenate S64x512 0
      [⟨S32x512, (subf (broadcast S32x512 (Scalar.ofBits (F := Ideal) .f32 0x00000000#32))
          (extractStridedSlice S32x512 ![32, 0] (extractStridedSlice S64x512 ![o, 0] Q h : FVec Ideal S64x512 .f32) slices_S64x512_o32_0_S32x512 : FVec Ideal S32x512 .f32) : FVec Ideal S32x512 .f32)⟩,
       ⟨S32x512, (extractStridedSlice S32x512 ![0, 0] (extractStridedSlice S64x512 ![o, 0] Q h : FVec Ideal S64x512 .f32) slices_S64x512_o0_0_S32x512 : FVec Ideal S32x512 .f32)⟩]
      concatenates_S32x512_S32x512_S64x512_d0) S)) (broadcast S64x512 (Scalar.ofBits (F := Ideal) .f32 0x3DD53B95#32))) bitsLt_bf16_f32

/-- A head's columns of the keys. -/
def knOf (K : Vec Ideal S512x2048 .bf16) (o : ℕ) (h : S512x2048.Slices ![0, o] S512x128) : Vec Ideal S512x128 .bf16 := extractStridedSlice S512x128 ![0, o] K h

/-- A head's rows of the values. -/
def vOf (V : Vec Ideal S2048x512 .bf16) (o : ℕ) (h : S2048x512.Slices ![o, 0] S128x512) : Vec Ideal S1x128x512 .bf16 :=
  shapeCast S1x128x512 (extractStridedSlice S128x512 ![o, 0] V h : FVec Ideal S128x512 .bf16) shapeCasts_S128x512_S1x128x512

/-- Rows of ones. -/
def onesOf : Vec Ideal S1x16x512 .bf16 := shapeCast S1x16x512 (broadcast S16x512 (Scalar.ofBits (F := Ideal) .bf16 0x3F80#16) : FVec Ideal S16x512 .bf16) shapeCasts_S16x512_S1x16x512

/-- A copied slice of the weights. -/
def cpOf (W : Vec Ideal S1x512x128 .bf16) : Vec Ideal S512x128 .bf16 :=
  shapeCast S512x128 (shapeCast S512x128 W shapeCasts_S1x512x128_S512x128 : FVec Ideal S512x128 .bf16) shapeCasts_S512x128_S512x128

/-- An entry of a head's plain lanes. -/
theorem nopeOf_apply (Q : Vec Ideal S3072x512 .f32) (o : ℕ) (ho : o + 128 ≤ 3072) (h) (r : Fin 128) (j : Fin 512) :
    nopeOf Q o h (ix2 r j) = Q (ix2 (⟨o + r.val, by omega⟩ : Fin 3072) j) * σ := by
  unfold nopeOf
  pointwise

/-- An entry of a head's rotated lanes. -/
theorem peOf_apply (Q : Vec Ideal S3072x512 .f32) (C S : Vec Ideal S64x512 .f32) (o : ℕ) (ho : o + 64 ≤ 3072) (h) (r : Fin 64) (j : Fin 512) :
    peOf Q C S o h (ix2 r j) = (Q (ix2 (⟨o + r.val, by omega⟩ : Fin 3072) j) * C (ix2 r j)
      + (if h : r.val < 32 then 0 - Q (ix2 (⟨o + (32 + r.val), by omega⟩ : Fin 3072) j) else Q (ix2 (⟨o + (r.val - 32), by omega⟩ : Fin 3072) j)) * S (ix2 r j)) * σ := by
  unfold peOf
  pointwise

/-- An entry of a head's columns of the keys. -/
theorem knOf_apply (K : Vec Ideal S512x2048 .bf16) (o : ℕ) (ho : o + 128 ≤ 2048) (h) (r : Fin 512) (j : Fin 128) :
    knOf K o h (ix2 r j) = K (ix2 r (⟨o + j.val, by omega⟩ : Fin 2048)) := by
  unfold knOf
  pointwise

/-- An entry of a head's rows of the values. -/
theorem vOf_apply (V : Vec Ideal S2048x512 .bf16) (o : ℕ) (ho : o + 128 ≤ 2048) (h) (r : Fin 128) (j : Fin 512) :
    vOf V o h (ix3 0 r j) = V (ix2 (⟨o + r.val, by omega⟩ : Fin 2048) j) := by
  unfold vOf
  pointwise

/-- An entry of the rows of ones. -/
theorem onesOf_apply (r : Fin 16) (j : Fin 512) : onesOf (ix3 0 r j) = Scalar.ofBits (F := Ideal) .bf16 0x3F80#16 := by
  unfold onesOf
  pointwise

/-- An entry of a copied slice. -/
theorem cpOf_apply (W : Vec Ideal S1x512x128 .bf16) (r : Fin 512) (j : Fin 128) : cpOf W (ix2 r j) = W (ix3 0 r j) := by
  unfold cpOf
  pointwise

/-! ### The blocks' arrays -/

/-- The block of the queries: in each head's 256 rows 128 lanes without rotation, 64 rotated lanes and 64 zeros. -/
def Gq (Q : Vec Ideal S3072x512 .f32) (C S : Vec Ideal S64x512 .f32) : Vec Ideal S4096x512 .bf16 := fun y =>
  let h := (y 0).val / 256
  let d := (y 0).val % 256
  let q := fun n : ℕ => Q (ix2 (⟨n % 3072, Nat.mod_lt _ (by omega)⟩ : Fin 3072) (y 1 : Fin 512))
  let e : Fin 64 := ⟨(d - 128) % 64, Nat.mod_lt _ (by omega)⟩
  if d < 128 then q (192 * h + d) * σ
  else if d < 192 then (q (192 * h + d) * C (ix2 e (y 1 : Fin 512)) + (if d < 160 then 0 - q (192 * h + d + 32) else q (192 * h + d - 32)) * S (ix2 e (y 1 : Fin 512))) * σ
  else Scalar.ofBits (F := Ideal) .bf16 0x0000#16

/-- The block of the keys: in each head's 256 columns its 128 columns of the keys and the shared rotated lanes, padded. -/
def Gk (K : Vec Ideal S512x2048 .bf16) (P : Vec Ideal S512x128 .bf16) : Vec Ideal S512x4096 .bf16 := fun y =>
  let h := (y 1).val / 256
  let d := (y 1).val % 256
  if d < 128 then K (ix2 (y 0 : Fin 512) (⟨(128 * h + d) % 2048, Nat.mod_lt _ (by omega)⟩ : Fin 2048))
  else P (ix2 (y 0 : Fin 512) (⟨(d - 128) % 128, Nat.mod_lt _ (by omega)⟩ : Fin 128))

/-- The block of the values: in each head's 144 rows its 128 rows of the values and 16 rows of ones. -/
def Gv (V : Vec Ideal S2048x512 .bf16) : Vec Ideal S1x2304x512 .bf16 := fun y =>
  let h := (y 1).val / 144
  let d := (y 1).val % 144
  if d < 128 then V (ix2 (⟨(128 * h + d) % 2048, Nat.mod_lt _ (by omega)⟩ : Fin 2048) (y 2 : Fin 512))
  else Scalar.ofBits (F := Ideal) .bf16 0x3F80#16

/-- The weights' columns of one kind, head after head. -/
def Gs (W : Vec Ideal S1x512x4096 .bf16) (o : ℕ) : Vec Ideal S512x2048 .bf16 := fun y =>
  W (ix3 (0 : Fin 1) (y 0 : Fin 512) (⟨(256 * ((y 1).val / 128) + o + (y 1).val % 128) % 4096, Nat.mod_lt _ (by omega)⟩ : Fin 4096))

/-- That every piece of a list holds its part of one array. -/
abbrev Holds {s : Shape} (G : Vec Ideal s .bf16) (L : List (View.Piece (Elt Ideal) s .bf16)) : Prop := ∀ p ∈ L, ∀ x : p.1.shape.Idx, p.2 x = G (p.1.emb x)

/-- A list's pieces hold when the first does and the others do. -/
theorem holds_cons {s : Shape} {G : Vec Ideal s .bf16} {p : View.Piece (Elt Ideal) s .bf16} {L : List (View.Piece (Elt Ideal) s .bf16)}
    (hp : ∀ x : p.1.shape.Idx, p.2 x = G (p.1.emb x)) (hL : Holds G L) : Holds G (p :: L) := by
  intro q hq
  rcases List.mem_cons.mp hq with rfl | hq
  · exact hp
  · exact hL q hq

/-- Of an empty list all pieces hold. -/
theorem holds_nil {s : Shape} {G : Vec Ideal s .bf16} : Holds G [] := fun _ h => absurd h List.not_mem_nil

/-- Where a piece of a matrix lies. -/
theorem emb_mat {A B a b : ℕ} (o u : ℕ) (ho : o + a ≤ A) (hu : u + b ≤ B) (inb) (r : Fin a) (j : Fin b) :
    (Rect.unit (s := (⟨2, ![A, B]⟩ : Shape)) ![o, u] ![a, b] inb).emb (ix2 r j) = ix2 (⟨o + r.val, by omega⟩ : Fin A) (⟨u + j.val, by omega⟩ : Fin B) := by
  funext x
  apply Fin.ext
  rw [Rect.emb_apply]
  fin_cases x
  · show o + 1 * r.val = o + r.val
    omega
  · show u + 1 * j.val = u + j.val
    omega

section
variable (Q : Vec Ideal S3072x512 .f32) (C S : Vec Ideal S64x512 .f32)

/-- A head's plain lanes are their part of the queries' block. -/
theorem q_nope (h : ℕ) (hh : h < 16) (hs) (inb) (x : (⟨2, ![128, 512]⟩ : Shape).Idx) :
    nopeOf Q (192 * h) hs x = Gq Q C S ((Rect.unit (s := S4096x512) ![256 * h, 0] ![128, 512] inb).emb x) := by
  obtain ⟨r, j, rfl⟩ : ∃ (r : Fin 128) (j : Fin 512), x = ix2 r j := ⟨x 0, x 1, eq_ix2 x⟩
  refine (nopeOf_apply Q _ (by omega) hs r j).trans ?_
  rw [show (Rect.unit (s := S4096x512) ![256 * h, 0] ![128, 512] inb).emb (ix2 r j) = _ from emb_mat (256 * h) 0 (by omega) (by omega) inb r j]
  have e0 : (256 * h + r.val) / 256 = h := by omega
  have e1 : (256 * h + r.val) % 256 = r.val := by omega
  have e2 : (192 * h + r.val) % 3072 = 192 * h + r.val := by omega
  simp only [Gq, ix2, Matrix.cons_val_zero, Matrix.cons_val_one, e0, e1, e2, r.isLt, if_true, Nat.zero_add]

/-- So are its rotated lanes. -/
theorem q_pe (h : ℕ) (hh : h < 16) (hs) (inb) (x : (⟨2, ![64, 512]⟩ : Shape).Idx) :
    peOf Q C S (192 * h + 128) hs x = Gq Q C S ((Rect.unit (s := S4096x512) ![256 * h + 128, 0] ![64, 512] inb).emb x) := by
  obtain ⟨r, j, rfl⟩ : ∃ (r : Fin 64) (j : Fin 512), x = ix2 r j := ⟨x 0, x 1, eq_ix2 x⟩
  refine (peOf_apply Q C S _ (by omega) hs r j).trans ?_
  rw [show (Rect.unit (s := S4096x512) ![256 * h + 128, 0] ![64, 512] inb).emb (ix2 r j) = _ from emb_mat (256 * h + 128) 0 (by omega) (by omega) inb r j]
  have e0 : (256 * h + 128 + r.val) / 256 = h := by omega
  have e1 : (256 * h + 128 + r.val) % 256 = 128 + r.val := by omega
  have e2 : (192 * h + (128 + r.val)) % 3072 = 192 * h + 128 + r.val := by omega
  have e3 : (128 + r.val - 128) % 64 = r.val := by omega
  have c0 : ¬ 128 + r.val < 128 := by omega
  have c1 : 128 + r.val < 192 := by omega
  simp only [Gq, ix2, Matrix.cons_val_zero, Matrix.cons_val_one, e0, e1, e2, e3, c0, c1, if_true, if_false, Nat.zero_add]
  by_cases hr : r.val < 32
  · have c2 : 128 + r.val < 160 := by omega
    have e4 : (192 * h + (128 + r.val) + 32) % 3072 = 192 * h + 128 + (32 + r.val) := by omega
    simp only [hr, c2, e4, dif_pos, if_true, Fin.eta]
  · have c2 : ¬ 128 + r.val < 160 := by omega
    have e4 : (192 * h + (128 + r.val) - 32) % 3072 = 192 * h + 128 + (r.val - 32) := by omega
    simp only [hr, c2, e4, dif_neg, if_false, not_false_eq_true, Fin.eta]

/-- So are its zeros. -/
theorem q_pad (h : ℕ) (hh : h < 16) (inb) (x : (⟨2, ![64, 512]⟩ : Shape).Idx) :
    (broadcast S64x512 (Scalar.ofBits (F := Ideal) .bf16 0x0000#16) : Vec Ideal S64x512 .bf16) x = Gq Q C S ((Rect.unit (s := S4096x512) ![256 * h + 192, 0] ![64, 512] inb).emb x) := by
  obtain ⟨r, j, rfl⟩ : ∃ (r : Fin 64) (j : Fin 512), x = ix2 r j := ⟨x 0, x 1, eq_ix2 x⟩
  rw [show (Rect.unit (s := S4096x512) ![256 * h + 192, 0] ![64, 512] inb).emb (ix2 r j) = _ from emb_mat (256 * h + 192) 0 (by omega) (by omega) inb r j]
  have e1 : (256 * h + 192 + r.val) % 256 = 192 + r.val := by omega
  have c0 : ¬ 192 + r.val < 128 := by omega
  have c1 : ¬ 192 + r.val < 192 := by omega
  simp only [Gq, ix2, Matrix.cons_val_zero, Matrix.cons_val_one, e1, c0, c1, if_false]
  rfl
end

section
variable (K : Vec Ideal S512x2048 .bf16) (P : Vec Ideal S512x128 .bf16)

/-- A head's columns are their part of the keys' block. -/
theorem k_nope (h : ℕ) (hh : h < 16) (hs) (inb) (x : (⟨2, ![512, 128]⟩ : Shape).Idx) :
    knOf K (128 * h) hs x = Gk K P ((Rect.unit (s := S512x4096) ![0, 256 * h] ![512, 128] inb).emb x) := by
  obtain ⟨r, j, rfl⟩ : ∃ (r : Fin 512) (j : Fin 128), x = ix2 r j := ⟨x 0, x 1, eq_ix2 x⟩
  refine (knOf_apply K _ (by omega) hs r j).trans ?_
  rw [show (Rect.unit (s := S512x4096) ![0, 256 * h] ![512, 128] inb).emb (ix2 r j) = _ from emb_mat 0 (256 * h) (by omega) (by omega) inb r j]
  have e0 : (256 * h + j.val) / 256 = h := by omega
  have e1 : (256 * h + j.val) % 256 = j.val := by omega
  have e2 : (128 * h + j.val) % 2048 = 128 * h + j.val := by omega
  simp only [Gk, ix2, Matrix.cons_val_zero, Matrix.cons_val_one, e0, e1, e2, j.isLt, if_true, Nat.zero_add]

/-- So are the shared rotated lanes. -/
theorem k_pe (h : ℕ) (hh : h < 16) (inb) (x : (⟨2, ![512, 128]⟩ : Shape).Idx) :
    P x = Gk K P ((Rect.unit (s := S512x4096) ![0, 256 * h + 128] ![512, 128] inb).emb x) := by
  obtain ⟨r, j, rfl⟩ : ∃ (r : Fin 512) (j : Fin 128), x = ix2 r j := ⟨x 0, x 1, eq_ix2 x⟩
  rw [show (Rect.unit (s := S512x4096) ![0, 256 * h + 128] ![512, 128] inb).emb (ix2 r j) = _ from emb_mat 0 (256 * h + 128) (by omega) (by omega) inb r j]
  have e1 : (256 * h + 128 + j.val) % 256 = 128 + j.val := by omega
  have e2 : (128 + j.val - 128) % 128 = j.val := by omega
  have c0 : ¬ 128 + j.val < 128 := by omega
  simp only [Gk, ix2, Matrix.cons_val_zero, Matrix.cons_val_one, e1, e2, c0, if_false, Nat.zero_add]
end

/-- Where a piece of the values' block lies. -/
theorem emb_v {a : ℕ} (o : ℕ) (ho : o + a ≤ 2304) (inb) (r : Fin a) (j : Fin 512) :
    (Rect.unit (s := S1x2304x512) ![0, o, 0] ![1, a, 512] inb).emb (ix3 0 r j) = ix3 (0 : Fin 1) (⟨o + r.val, by omega⟩ : Fin 2304) j := by
  funext x
  apply Fin.ext
  rw [Rect.emb_apply]
  fin_cases x
  · rfl
  · show o + 1 * r.val = o + r.val
    omega
  · show 0 + 1 * j.val = j.val
    omega

section
variable (V : Vec Ideal S2048x512 .bf16)

/-- A head's rows are their part of the values' block. -/
theorem v_head (h : ℕ) (hh : h < 16) (hs) (inb) (x : (⟨3, ![1, 128, 512]⟩ : Shape).Idx) :
    vOf V (128 * h) hs x = Gv V ((Rect.unit (s := S1x2304x512) ![0, 144 * h, 0] ![1, 128, 512] inb).emb x) := by
  obtain ⟨r, j, rfl⟩ : ∃ (r : Fin 128) (j : Fin 512), x = ix3 0 r j := ⟨x 1, x 2, by
    funext a; fin_cases a
    · exact Fin.ext (by have := (x 0).isLt; change (x 0).val < 1 at this; show (x 0).val = 0; omega)
    · rfl
    · rfl⟩
  refine (vOf_apply V _ (by omega) hs r j).trans ?_
  rw [show (Rect.unit (s := S1x2304x512) ![0, 144 * h, 0] ![1, 128, 512] inb).emb (ix3 0 r j) = _ from emb_v (144 * h) (by omega) inb r j]
  have e0 : (144 * h + r.val) / 144 = h := by omega
  have e1 : (144 * h + r.val) % 144 = r.val := by omega
  have e2 : (128 * h + r.val) % 2048 = 128 * h + r.val := by omega
  have i1 : (ix3 (0 : Fin 1) (⟨144 * h + r.val, by omega⟩ : Fin 2304) j 1).val = 144 * h + r.val := rfl
  simp only [Gv, i1, e0, e1, e2, r.isLt, if_true]
  rfl

/-- So are its rows of ones. -/
theorem v_ones (h : ℕ) (hh : h < 16) (inb) (x : (⟨3, ![1, 16, 512]⟩ : Shape).Idx) :
    onesOf x = Gv V ((Rect.unit (s := S1x2304x512) ![0, 144 * h + 128, 0] ![1, 16, 512] inb).emb x) := by
  obtain ⟨r, j, rfl⟩ : ∃ (r : Fin 16) (j : Fin 512), x = ix3 0 r j := ⟨x 1, x 2, by
    funext a; fin_cases a
    · exact Fin.ext (by have := (x 0).isLt; change (x 0).val < 1 at this; show (x 0).val = 0; omega)
    · rfl
    · rfl⟩
  refine (onesOf_apply r j).trans ?_
  rw [show (Rect.unit (s := S1x2304x512) ![0, 144 * h + 128, 0] ![1, 16, 512] inb).emb (ix3 0 r j) = _ from emb_v (144 * h + 128) (by omega) inb r j]
  have e1 : (144 * h + 128 + r.val) % 144 = 128 + r.val := by omega
  have c0 : ¬ 128 + r.val < 128 := by omega
  have i1 : (ix3 (0 : Fin 1) (⟨144 * h + 128 + r.val, by omega⟩ : Fin 2304) j 1).val = 144 * h + 128 + r.val := rfl
  simp only [Gv, i1, e1, c0, if_false]
end

/-- A head's columns of the weights. -/
theorem s_head (W : Vec Ideal S1x512x4096 .bf16) (h o : ℕ) (hh : h < 16) (ho : o = 0 ∨ o = 128) (i1) (inb) (x : (⟨2, ![512, 128]⟩ : Shape).Idx) :
    cpOf (View.ld W (Rect.unit (s := S1x512x4096) ![0, 0, 256 * h + o] S1x512x128.size i1)) x = Gs W o ((Rect.unit (s := S512x2048) ![0, 128 * h] ![512, 128] inb).emb x) := by
  obtain ⟨r, j, rfl⟩ : ∃ (r : Fin 512) (j : Fin 128), x = ix2 r j := ⟨x 0, x 1, eq_ix2 x⟩
  refine (cpOf_apply _ r j).trans ?_
  rw [show (Rect.unit (s := S512x2048) ![0, 128 * h] ![512, 128] inb).emb (ix2 r j) = _ from emb_mat 0 (128 * h) (by omega) (by omega) inb r j]
  have e0 : (128 * h + j.val) / 128 = h := by omega
  have e1 : (128 * h + j.val) % 128 = j.val := by omega
  have e2 : (256 * h + o + j.val) % 4096 = 256 * h + o + j.val := by omega
  simp only [Gs, ix2, Matrix.cons_val_zero, Matrix.cons_val_one, e0, e1, e2, Nat.zero_add]
  exact View.ld_unit_apply_of W _ _ _ _ _ fun a => by fin_cases a <;> simp [ix3]
-- ==== Proof.ProjBlocks.lean ====
/- What a point of the latent projections' kernel leaves in its three outputs' blocks and in the two scratch buffers, which the first point fills. -/
module

public import proofs.«01_k».proof.Proof.ProjPieces

@[expose] public section

set_option maxRecDepth 16384

noncomputable section

namespace Cert.Kernel7Ideal.Hand

open Idealize.ShloMosaic Idealize.ShloMosaic.TcCoe Idealize.ShloMosaic.Tactic Idealize.SL.Sem
open Idealize.ShloMosaic.Pipeline (Dat Cfg Window)
open Cert.Kernel7Ideal.Gen

section
variable (c : Dev nD) (i : grid0.Coords)
    (a1 : Memref sig .tc .vmem S512x2048 .f32) (h1 : a1.IsWhole) (a2 : Memref sig .tc .vmem S1x2048 .f32) (h2 : a2.IsWhole) (a3 : Memref sig .tc .vmem S32x512 .f32) (h3 : a3.IsWhole)
    (a4 : Memref sig .tc .vmem S32x512 .f32) (h4 : a4.IsWhole) (a5 : Memref sig .tc .vmem S512x128 .f32) (h5 : a5.IsWhole) (a6 : Memref sig .tc .vmem S512x128 .f32) (h6 : a6.IsWhole)
    (a7 : Memref sig .tc .vmem S1x2048x1088 .bf16) (h7 : a7.IsWhole) (a8 : Memref sig .tc .vmem S1x512 .f32) (h8 : a8.IsWhole) (a9 : Memref sig .tc .vmem S1x512 .f32) (h9 : a9.IsWhole)
    (a10 : Memref sig .tc .vmem S1x2048x256 .bf16) (h10 : a10.IsWhole) (a11 : Memref sig .tc .vmem S1x512x3072 .bf16) (h11 : a11.IsWhole) (a12 : Memref sig .tc .vmem S1x512x4096 .bf16) (h12 : a12.IsWhole)
    (a13 : Memref sig .tc .vmem S4096x512 .bf16) (h13 : a13.IsWhole) (a14 : Memref sig .tc .vmem S512x4096 .bf16) (h14 : a14.IsWhole) (a15 : Memref sig .tc .vmem S1x2304x512 .bf16) (h15 : a15.IsWhole)
    (a16 : Memref sig .tc .vmem S512x2048 .bf16) (h16 : a16.IsWhole) (a17 : Memref sig .tc .vmem S512x2048 .bf16) (h17 : a17.IsWhole)
    (x0 : Vec Ideal S512x2048 .f32) (x1 : Vec Ideal S1x2048 .f32) (x2 : Vec Ideal S32x512 .f32) (x3 : Vec Ideal S32x512 .f32) (x4 : Vec Ideal S512x128 .f32)
    (x5 : Vec Ideal S512x128 .f32) (x6 : Vec Ideal S1x2048x1088 .bf16) (x7 : Vec Ideal S1x512 .f32) (x8 : Vec Ideal S1x512 .f32) (x9 : Vec Ideal S1x2048x256 .bf16)
    (x10 : Vec Ideal S1x512x3072 .bf16) (x11 : Vec Ideal S1x512x4096 .bf16)

/-- The columns of the first projection without the shared rotated lanes. -/
abbrev ldDown : Vec Ideal S1x2048x1024 .bf16 := View.ld x6 (Rect.unit (s := S1x2048x1088) ![0, 0, 0] S1x2048x1024.size inb_S1x2048x1088_S1x2048x1024_0_0_0)
/-- The up-projected queries of a block. -/
abbrev qB : Vec Ideal S3072x512 .f32 := k0_pay42 (k0_pay38 x0 x1 (ldDown x6)) x7 x10
/-- The normed latent rows of a block. -/
abbrev cB : Vec Ideal S512x512 .bf16 := k0_pay41 (k0_pay39 x0 x1 (ldDown x6)) x8

/-- The queries that the body computes, at a later point. -/
theorem wq_B : kernelRun0_B.sl.r_4 (F := Ideal) c a1 h1 a2 h2 a7 h7 a8 h8 a11 h11 x0 x1 x6 x7 x10 = qB x0 x1 x6 x7 x10 := by
  sl_unfold_words
  simp only [h1.read_unread, h2.read_unread, h7.read_unread, h8.read_unread, h11.read_unread, View.readAt_eq_ld, View.ld_unit_zero (S := S512x2048) hz, View.ld_unit_zero (S := S1x2048) hz, View.ld_unit_zero (S := S32x512) hz, View.ld_unit_zero (S := S512x128) hz, View.ld_unit_zero (S := S1x512) hz, View.ld_unit_zero (S := S1x2048x256) hz3, View.ld_unit_zero (S := S1x512x3072) hz3]

/-- The cosines that it uses, at a later point. -/
theorem wc_B : kernelRun0_B.sl.r_5 (F := Ideal) c a3 h3 x2 = k0_pay43 x2 := by
  sl_unfold_words
  simp only [h3.read_unread, View.readAt_eq_ld, View.ld_unit_zero (S := S512x2048) hz, View.ld_unit_zero (S := S1x2048) hz, View.ld_unit_zero (S := S32x512) hz, View.ld_unit_zero (S := S512x128) hz, View.ld_unit_zero (S := S1x512) hz, View.ld_unit_zero (S := S1x2048x256) hz3, View.ld_unit_zero (S := S1x512x3072) hz3]

/-- The sines that it uses, at a later point. -/
theorem ws_B : kernelRun0_B.sl.r_6 (F := Ideal) c a4 h4 x3 = k0_pay44 x3 := by
  sl_unfold_words
  simp only [h4.read_unread, View.readAt_eq_ld, View.ld_unit_zero (S := S512x2048) hz, View.ld_unit_zero (S := S1x2048) hz, View.ld_unit_zero (S := S32x512) hz, View.ld_unit_zero (S := S512x128) hz, View.ld_unit_zero (S := S1x512) hz, View.ld_unit_zero (S := S1x2048x256) hz3, View.ld_unit_zero (S := S1x512x3072) hz3]

/-- The shared rotated lanes that it computes, at a later point. -/
theorem wp_B : kernelRun0_B.sl.r_2 (F := Ideal) c a1 h1 a2 h2 a5 h5 a6 h6 a10 h10 x0 x1 x4 x5 x9 = k0_pay40 x0 x1 x9 x4 x5 := by
  sl_unfold_words
  simp only [h1.read_unread, h2.read_unread, h5.read_unread, h6.read_unread, h10.read_unread, View.readAt_eq_ld, View.ld_unit_zero (S := S512x2048) hz, View.ld_unit_zero (S := S1x2048) hz, View.ld_unit_zero (S := S32x512) hz, View.ld_unit_zero (S := S512x128) hz, View.ld_unit_zero (S := S1x512) hz, View.ld_unit_zero (S := S1x2048x256) hz3, View.ld_unit_zero (S := S1x512x3072) hz3]

/-- The normed latent rows that it computes, at a later point. -/
theorem wl_B : kernelRun0_B.sl.r_3 (F := Ideal) c a1 h1 a2 h2 a7 h7 a9 h9 x0 x1 x6 x8 = cB x0 x1 x6 x8 := by
  sl_unfold_words
  simp only [h1.read_unread, h2.read_unread, h7.read_unread, h9.read_unread, View.readAt_eq_ld, View.ld_unit_zero (S := S512x2048) hz, View.ld_unit_zero (S := S1x2048) hz, View.ld_unit_zero (S := S32x512) hz, View.ld_unit_zero (S := S512x128) hz, View.ld_unit_zero (S := S1x512) hz, View.ld_unit_zero (S := S1x2048x256) hz3, View.ld_unit_zero (S := S1x512x3072) hz3]

/-- The queries that the body computes, at the first point. -/
theorem wq_A : kernelRun0_A.sl.r_5 (F := Ideal) c a1 h1 a2 h2 a7 h7 a8 h8 a11 h11 x0 x1 x6 x7 x10 = qB x0 x1 x6 x7 x10 := by
  sl_unfold_words
  simp only [h1.read_unread, h2.read_unread, h7.read_unread, h8.read_unread, h11.read_unread, View.readAt_eq_ld, View.ld_unit_zero (S := S512x2048) hz, View.ld_unit_zero (S := S1x2048) hz, View.ld_unit_zero (S := S32x512) hz, View.ld_unit_zero (S := S512x128) hz, View.ld_unit_zero (S := S1x512) hz, View.ld_unit_zero (S := S1x2048x256) hz3, View.ld_unit_zero (S := S1x512x3072) hz3]

/-- The cosines that it uses, at the first point. -/
theorem wc_A : kernelRun0_A.sl.r_6 (F := Ideal) c a3 h3 x2 = k0_pay43 x2 := by
  sl_unfold_words
  simp only [h3.read_unread, View.readAt_eq_ld, View.ld_unit_zero (S := S512x2048) hz, View.ld_unit_zero (S := S1x2048) hz, View.ld_unit_zero (S := S32x512) hz, View.ld_unit_zero (S := S512x128) hz, View.ld_unit_zero (S := S1x512) hz, View.ld_unit_zero (S := S1x2048x256) hz3, View.ld_unit_zero (S := S1x512x3072) hz3]

/-- The sines that it uses, at the first point. -/
theorem ws_A : kernelRun0_A.sl.r_7 (F := Ideal) c a4 h4 x3 = k0_pay44 x3 := by
  sl_unfold_words
  simp only [h4.read_unread, View.readAt_eq_ld, View.ld_unit_zero (S := S512x2048) hz, View.ld_unit_zero (S := S1x2048) hz, View.ld_unit_zero (S := S32x512) hz, View.ld_unit_zero (S := S512x128) hz, View.ld_unit_zero (S := S1x512) hz, View.ld_unit_zero (S := S1x2048x256) hz3, View.ld_unit_zero (S := S1x512x3072) hz3]

/-- The shared rotated lanes that it computes, at the first point. -/
theorem wp_A : kernelRun0_A.sl.r_3 (F := Ideal) c a1 h1 a2 h2 a5 h5 a6 h6 a10 h10 x0 x1 x4 x5 x9 = k0_pay40 x0 x1 x9 x4 x5 := by
  sl_unfold_words
  simp only [h1.read_unread, h2.read_unread, h5.read_unread, h6.read_unread, h10.read_unread, View.readAt_eq_ld, View.ld_unit_zero (S := S512x2048) hz, View.ld_unit_zero (S := S1x2048) hz, View.ld_unit_zero (S := S32x512) hz, View.ld_unit_zero (S := S512x128) hz, View.ld_unit_zero (S := S1x512) hz, View.ld_unit_zero (S := S1x2048x256) hz3, View.ld_unit_zero (S := S1x512x3072) hz3]

/-- The normed latent rows that it computes, at the first point. -/
theorem wl_A : kernelRun0_A.sl.r_4 (F := Ideal) c a1 h1 a2 h2 a7 h7 a9 h9 x0 x1 x6 x8 = cB x0 x1 x6 x8 := by
  sl_unfold_words
  simp only [h1.read_unread, h2.read_unread, h7.read_unread, h9.read_unread, View.readAt_eq_ld, View.ld_unit_zero (S := S512x2048) hz, View.ld_unit_zero (S := S1x2048) hz, View.ld_unit_zero (S := S32x512) hz, View.ld_unit_zero (S := S512x128) hz, View.ld_unit_zero (S := S1x512) hz, View.ld_unit_zero (S := S1x2048x256) hz3, View.ld_unit_zero (S := S1x512x3072) hz3]

/-- The keys that it computes, at a later point. -/
theorem wk_B (s0 : Vec Ideal S512x2048 .bf16) : kernelRun0_B.sl.r_13 (F := Ideal) c a1 h1 a2 h2 a7 h7 a9 h9 a16 h16 x0 x1 x6 x8 s0 = k0_pay82 (cB x0 x1 x6 x8) s0 := by
  rw [← wl_B c a1 h1 a2 h2 a7 h7 a9 h9 x0 x1 x6 x8]
  unfold kernelRun0_B.sl.r_13
  simp only [h16.read_unread, View.readAt_eq_ld, View.ld_unit_zero (S := S512x2048) hz]

/-- The values that it computes, at a later point. -/
theorem wv_B (s1 : Vec Ideal S512x2048 .bf16) : kernelRun0_B.sl.r_14 (F := Ideal) c a1 h1 a2 h2 a7 h7 a9 h9 a17 h17 x0 x1 x6 x8 s1 = k0_pay99 (cB x0 x1 x6 x8) s1 := by
  rw [← wl_B c a1 h1 a2 h2 a7 h7 a9 h9 x0 x1 x6 x8]
  unfold kernelRun0_B.sl.r_14
  simp only [h17.read_unread, View.readAt_eq_ld, View.ld_unit_zero (S := S512x2048) hz]

/-- The queries that any later point stores. -/
theorem out_q_B (hc : ¬cond0_0 i) (s0 s1 : Vec Ideal S512x2048 .bf16) : out0_B_12 (F := Ideal) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 s0 s1 = Gq (qB x0 x1 x6 x7 x10) (k0_pay43 x2) (k0_pay44 x3) := by
  funext y
  unfold out0_B_12
  rw [View.read_writes_junk_eq_canon]
  refine View.canon_apply_of_pieces (Gq (qB x0 x1 x6 x7 x10) (k0_pay43 x2) (k0_pay44 x3)) _ ?_ y (cover0_B_12 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 s0 s1 y)
  rw [← wq_B c a1 h1 a2 h2 a7 h7 a8 h8 a11 h11 x0 x1 x6 x7 x10, ← wc_B c a3 h3 x2, ← ws_B c a4 h4 x3]
  unfold kernelRun0_B
  dsimp only
  refine holds_cons (q_pad _ _ _ 15 (by omega) inb_S4096x512_S64x512_4032_0) ?_
  refine holds_cons (q_pe _ _ _ 15 (by omega) slices_S3072x512_o3008_0_S64x512 inb_S4096x512_S64x512_3968_0) ?_
  refine holds_cons (q_nope (kernelRun0_B.sl.r_4 c a1 h1 a2 h2 a7 h7 a8 h8 a11 h11 x0 x1 x6 x7 x10) _ _ 15 (by omega) slices_S3072x512_o2880_0_S128x512 inb_S4096x512_S128x512_3840_0) ?_
  refine holds_cons (q_pad _ _ _ 14 (by omega) inb_S4096x512_S64x512_3776_0) ?_
  refine holds_cons (q_pe _ _ _ 14 (by omega) slices_S3072x512_o2816_0_S64x512 inb_S4096x512_S64x512_3712_0) ?_
  refine holds_cons (q_nope (kernelRun0_B.sl.r_4 c a1 h1 a2 h2 a7 h7 a8 h8 a11 h11 x0 x1 x6 x7 x10) _ _ 14 (by omega) slices_S3072x512_o2688_0_S128x512 inb_S4096x512_S128x512_3584_0) ?_
  refine holds_cons (q_pad _ _ _ 13 (by omega) inb_S4096x512_S64x512_3520_0) ?_
  refine holds_cons (q_pe _ _ _ 13 (by omega) slices_S3072x512_o2624_0_S64x512 inb_S4096x512_S64x512_3456_0) ?_
  refine holds_cons (q_nope (kernelRun0_B.sl.r_4 c a1 h1 a2 h2 a7 h7 a8 h8 a11 h11 x0 x1 x6 x7 x10) _ _ 13 (by omega) slices_S3072x512_o2496_0_S128x512 inb_S4096x512_S128x512_3328_0) ?_
  refine holds_cons (q_pad _ _ _ 12 (by omega) inb_S4096x512_S64x512_3264_0) ?_
  refine holds_cons (q_pe _ _ _ 12 (by omega) slices_S3072x512_o2432_0_S64x512 inb_S4096x512_S64x512_3200_0) ?_
  refine holds_cons (q_nope (kernelRun0_B.sl.r_4 c a1 h1 a2 h2 a7 h7 a8 h8 a11 h11 x0 x1 x6 x7 x10) _ _ 12 (by omega) slices_S3072x512_o2304_0_S128x512 inb_S4096x512_S128x512_3072_0) ?_
  refine holds_cons (q_pad _ _ _ 11 (by omega) inb_S4096x512_S64x512_3008_0) ?_
  refine holds_cons (q_pe _ _ _ 11 (by omega) slices_S3072x512_o2240_0_S64x512 inb_S4096x512_S64x512_2944_0) ?_
  refine holds_cons (q_nope (kernelRun0_B.sl.r_4 c a1 h1 a2 h2 a7 h7 a8 h8 a11 h11 x0 x1 x6 x7 x10) _ _ 11 (by omega) slices_S3072x512_o2112_0_S128x512 inb_S4096x512_S128x512_2816_0) ?_
  refine holds_cons (q_pad _ _ _ 10 (by omega) inb_S4096x512_S64x512_2752_0) ?_
  refine holds_cons (q_pe _ _ _ 10 (by omega) slices_S3072x512_o2048_0_S64x512 inb_S4096x512_S64x512_2688_0) ?_
  refine holds_cons (q_nope (kernelRun0_B.sl.r_4 c a1 h1 a2 h2 a7 h7 a8 h8 a11 h11 x0 x1 x6 x7 x10) _ _ 10 (by omega) slices_S3072x512_o1920_0_S128x512 inb_S4096x512_S128x512_2560_0) ?_
  refine holds_cons (q_pad _ _ _ 9 (by omega) inb_S4096x512_S64x512_2496_0) ?_
  refine holds_cons (q_pe _ _ _ 9 (by omega) slices_S3072x512_o1856_0_S64x512 inb_S4096x512_S64x512_2432_0) ?_
  refine holds_cons (q_nope (kernelRun0_B.sl.r_4 c a1 h1 a2 h2 a7 h7 a8 h8 a11 h11 x0 x1 x6 x7 x10) _ _ 9 (by omega) slices_S3072x512_o1728_0_S128x512 inb_S4096x512_S128x512_2304_0) ?_
  refine holds_cons (q_pad _ _ _ 8 (by omega) inb_S4096x512_S64x512_2240_0) ?_
  refine holds_cons (q_pe _ _ _ 8 (by omega) slices_S3072x512_o1664_0_S64x512 inb_S4096x512_S64x512_2176_0) ?_
  refine holds_cons (q_nope (kernelRun0_B.sl.r_4 c a1 h1 a2 h2 a7 h7 a8 h8 a11 h11 x0 x1 x6 x7 x10) _ _ 8 (by omega) slices_S3072x512_o1536_0_S128x512 inb_S4096x512_S128x512_2048_0) ?_
  refine holds_cons (q_pad _ _ _ 7 (by omega) inb_S4096x512_S64x512_1984_0) ?_
  refine holds_cons (q_pe _ _ _ 7 (by omega) slices_S3072x512_o1472_0_S64x512 inb_S4096x512_S64x512_1920_0) ?_
  refine holds_cons (q_nope (kernelRun0_B.sl.r_4 c a1 h1 a2 h2 a7 h7 a8 h8 a11 h11 x0 x1 x6 x7 x10) _ _ 7 (by omega) slices_S3072x512_o1344_0_S128x512 inb_S4096x512_S128x512_1792_0) ?_
  refine holds_cons (q_pad _ _ _ 6 (by omega) inb_S4096x512_S64x512_1728_0) ?_
  refine holds_cons (q_pe _ _ _ 6 (by omega) slices_S3072x512_o1280_0_S64x512 inb_S4096x512_S64x512_1664_0) ?_
  refine holds_cons (q_nope (kernelRun0_B.sl.r_4 c a1 h1 a2 h2 a7 h7 a8 h8 a11 h11 x0 x1 x6 x7 x10) _ _ 6 (by omega) slices_S3072x512_o1152_0_S128x512 inb_S4096x512_S128x512_1536_0) ?_
  refine holds_cons (q_pad _ _ _ 5 (by omega) inb_S4096x512_S64x512_1472_0) ?_
  refine holds_cons (q_pe _ _ _ 5 (by omega) slices_S3072x512_o1088_0_S64x512 inb_S4096x512_S64x512_1408_0) ?_
  refine holds_cons (q_nope (kernelRun0_B.sl.r_4 c a1 h1 a2 h2 a7 h7 a8 h8 a11 h11 x0 x1 x6 x7 x10) _ _ 5 (by omega) slices_S3072x512_o960_0_S128x512 inb_S4096x512_S128x512_1280_0) ?_
  refine holds_cons (q_pad _ _ _ 4 (by omega) inb_S4096x512_S64x512_1216_0) ?_
  refine holds_cons (q_pe _ _ _ 4 (by omega) slices_S3072x512_o896_0_S64x512 inb_S4096x512_S64x512_1152_0) ?_
  refine holds_cons (q_nope (kernelRun0_B.sl.r_4 c a1 h1 a2 h2 a7 h7 a8 h8 a11 h11 x0 x1 x6 x7 x10) _ _ 4 (by omega) slices_S3072x512_o768_0_S128x512 inb_S4096x512_S128x512_1024_0) ?_
  refine holds_cons (q_pad _ _ _ 3 (by omega) inb_S4096x512_S64x512_960_0) ?_
  refine holds_cons (q_pe _ _ _ 3 (by omega) slices_S3072x512_o704_0_S64x512 inb_S4096x512_S64x512_896_0) ?_
  refine holds_cons (q_nope (kernelRun0_B.sl.r_4 c a1 h1 a2 h2 a7 h7 a8 h8 a11 h11 x0 x1 x6 x7 x10) _ _ 3 (by omega) slices_S3072x512_o576_0_S128x512 inb_S4096x512_S128x512_768_0) ?_
  refine holds_cons (q_pad _ _ _ 2 (by omega) inb_S4096x512_S64x512_704_0) ?_
  refine holds_cons (q_pe _ _ _ 2 (by omega) slices_S3072x512_o512_0_S64x512 inb_S4096x512_S64x512_640_0) ?_
  refine holds_cons (q_nope (kernelRun0_B.sl.r_4 c a1 h1 a2 h2 a7 h7 a8 h8 a11 h11 x0 x1 x6 x7 x10) _ _ 2 (by omega) slices_S3072x512_o384_0_S128x512 inb_S4096x512_S128x512_512_0) ?_
  refine holds_cons (q_pad _ _ _ 1 (by omega) inb_S4096x512_S64x512_448_0) ?_
  refine holds_cons (q_pe _ _ _ 1 (by omega) slices_S3072x512_o320_0_S64x512 inb_S4096x512_S64x512_384_0) ?_
  refine holds_cons (q_nope (kernelRun0_B.sl.r_4 c a1 h1 a2 h2 a7 h7 a8 h8 a11 h11 x0 x1 x6 x7 x10) _ _ 1 (by omega) slices_S3072x512_o192_0_S128x512 inb_S4096x512_S128x512_256_0) ?_
  refine holds_cons (q_pad _ _ _ 0 (by omega) inb_S4096x512_S64x512_192_0) ?_
  refine holds_cons (q_pe _ _ _ 0 (by omega) slices_S3072x512_o128_0_S64x512 inb_S4096x512_S64x512_128_0) ?_
  refine holds_cons (q_nope (kernelRun0_B.sl.r_4 c a1 h1 a2 h2 a7 h7 a8 h8 a11 h11 x0 x1 x6 x7 x10) _ _ 0 (by omega) slices_S3072x512_o0_0_S128x512 inb_S4096x512_S128x512_0_0) ?_
  exact holds_nil

/-- The keys that any later point stores. -/
theorem out_k_B (hc : ¬cond0_0 i) (s0 s1 : Vec Ideal S512x2048 .bf16) : out0_B_13 (F := Ideal) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 s0 s1 = Gk (k0_pay82 (cB x0 x1 x6 x8) s0) (k0_pay40 x0 x1 x9 x4 x5) := by
  funext y
  unfold out0_B_13
  rw [View.read_writes_junk_eq_canon]
  refine View.canon_apply_of_pieces (Gk (k0_pay82 (cB x0 x1 x6 x8) s0) (k0_pay40 x0 x1 x9 x4 x5)) _ ?_ y (cover0_B_13 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 s0 s1 y)
  rw [← wk_B c a1 h1 a2 h2 a7 h7 a9 h9 a16 h16 x0 x1 x6 x8 s0, ← wp_B c a1 h1 a2 h2 a5 h5 a6 h6 a10 h10 x0 x1 x4 x5 x9]
  unfold kernelRun0_B
  dsimp only
  refine holds_cons (k_pe (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 15 (by omega) inb_S512x4096_S512x128_0_3968) ?_
  refine holds_cons (k_nope (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 15 (by omega) slices_S512x2048_o0_1920_S512x128 inb_S512x4096_S512x128_0_3840) ?_
  refine holds_cons (k_pe (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 14 (by omega) inb_S512x4096_S512x128_0_3712) ?_
  refine holds_cons (k_nope (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 14 (by omega) slices_S512x2048_o0_1792_S512x128 inb_S512x4096_S512x128_0_3584) ?_
  refine holds_cons (k_pe (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 13 (by omega) inb_S512x4096_S512x128_0_3456) ?_
  refine holds_cons (k_nope (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 13 (by omega) slices_S512x2048_o0_1664_S512x128 inb_S512x4096_S512x128_0_3328) ?_
  refine holds_cons (k_pe (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 12 (by omega) inb_S512x4096_S512x128_0_3200) ?_
  refine holds_cons (k_nope (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 12 (by omega) slices_S512x2048_o0_1536_S512x128 inb_S512x4096_S512x128_0_3072) ?_
  refine holds_cons (k_pe (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 11 (by omega) inb_S512x4096_S512x128_0_2944) ?_
  refine holds_cons (k_nope (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 11 (by omega) slices_S512x2048_o0_1408_S512x128 inb_S512x4096_S512x128_0_2816) ?_
  refine holds_cons (k_pe (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 10 (by omega) inb_S512x4096_S512x128_0_2688) ?_
  refine holds_cons (k_nope (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 10 (by omega) slices_S512x2048_o0_1280_S512x128 inb_S512x4096_S512x128_0_2560) ?_
  refine holds_cons (k_pe (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 9 (by omega) inb_S512x4096_S512x128_0_2432) ?_
  refine holds_cons (k_nope (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 9 (by omega) slices_S512x2048_o0_1152_S512x128 inb_S512x4096_S512x128_0_2304) ?_
  refine holds_cons (k_pe (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 8 (by omega) inb_S512x4096_S512x128_0_2176) ?_
  refine holds_cons (k_nope (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 8 (by omega) slices_S512x2048_o0_1024_S512x128 inb_S512x4096_S512x128_0_2048) ?_
  refine holds_cons (k_pe (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 7 (by omega) inb_S512x4096_S512x128_0_1920) ?_
  refine holds_cons (k_nope (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 7 (by omega) slices_S512x2048_o0_896_S512x128 inb_S512x4096_S512x128_0_1792) ?_
  refine holds_cons (k_pe (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 6 (by omega) inb_S512x4096_S512x128_0_1664) ?_
  refine holds_cons (k_nope (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 6 (by omega) slices_S512x2048_o0_768_S512x128 inb_S512x4096_S512x128_0_1536) ?_
  refine holds_cons (k_pe (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 5 (by omega) inb_S512x4096_S512x128_0_1408) ?_
  refine holds_cons (k_nope (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 5 (by omega) slices_S512x2048_o0_640_S512x128 inb_S512x4096_S512x128_0_1280) ?_
  refine holds_cons (k_pe (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 4 (by omega) inb_S512x4096_S512x128_0_1152) ?_
  refine holds_cons (k_nope (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 4 (by omega) slices_S512x2048_o0_512_S512x128 inb_S512x4096_S512x128_0_1024) ?_
  refine holds_cons (k_pe (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 3 (by omega) inb_S512x4096_S512x128_0_896) ?_
  refine holds_cons (k_nope (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 3 (by omega) slices_S512x2048_o0_384_S512x128 inb_S512x4096_S512x128_0_768) ?_
  refine holds_cons (k_pe (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 2 (by omega) inb_S512x4096_S512x128_0_640) ?_
  refine holds_cons (k_nope (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 2 (by omega) slices_S512x2048_o0_256_S512x128 inb_S512x4096_S512x128_0_512) ?_
  refine holds_cons (k_pe (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 1 (by omega) inb_S512x4096_S512x128_0_384) ?_
  refine holds_cons (k_nope (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 1 (by omega) slices_S512x2048_o0_128_S512x128 inb_S512x4096_S512x128_0_256) ?_
  refine holds_cons (k_pe (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 0 (by omega) inb_S512x4096_S512x128_0_128) ?_
  refine holds_cons (k_nope (kernelRun0_B.sl.r_13 c a1 h1 a2 h2 a7 h7 a9 h9 a16 h16 x0 x1 x6 x8 s0) (kernelRun0_B.sl.r_2 c a1 h1 a2 h2 a5 h5 a6 h6 a10 h10 x0 x1 x4 x5 x9) 0 (by omega) slices_S512x2048_o0_0_S512x128 inb_S512x4096_S512x128_0_0) ?_
  exact holds_nil

/-- The values that any later point stores. -/
theorem out_v_B (hc : ¬cond0_0 i) (s0 s1 : Vec Ideal S512x2048 .bf16) : out0_B_14 (F := Ideal) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 s0 s1 = Gv (k0_pay99 (cB x0 x1 x6 x8) s1) := by
  funext y
  unfold out0_B_14
  rw [View.read_writes_junk_eq_canon]
  refine View.canon_apply_of_pieces (Gv (k0_pay99 (cB x0 x1 x6 x8) s1)) _ ?_ y (cover0_B_14 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 s0 s1 y)
  rw [← wv_B c a1 h1 a2 h2 a7 h7 a9 h9 a17 h17 x0 x1 x6 x8 s1]
  unfold kernelRun0_B
  dsimp only
  refine holds_cons (v_ones _ 15 (by omega) inb_S1x2304x512_S1x16x512_0_2288_0) ?_
  refine holds_cons (v_head (kernelRun0_B.sl.r_14 c a1 h1 a2 h2 a7 h7 a9 h9 a17 h17 x0 x1 x6 x8 s1) 15 (by omega) slices_S2048x512_o1920_0_S128x512 inb_S1x2304x512_S1x128x512_0_2160_0) ?_
  refine holds_cons (v_ones _ 14 (by omega) inb_S1x2304x512_S1x16x512_0_2144_0) ?_
  refine holds_cons (v_head (kernelRun0_B.sl.r_14 c a1 h1 a2 h2 a7 h7 a9 h9 a17 h17 x0 x1 x6 x8 s1) 14 (by omega) slices_S2048x512_o1792_0_S128x512 inb_S1x2304x512_S1x128x512_0_2016_0) ?_
  refine holds_cons (v_ones _ 13 (by omega) inb_S1x2304x512_S1x16x512_0_2000_0) ?_
  refine holds_cons (v_head (kernelRun0_B.sl.r_14 c a1 h1 a2 h2 a7 h7 a9 h9 a17 h17 x0 x1 x6 x8 s1) 13 (by omega) slices_S2048x512_o1664_0_S128x512 inb_S1x2304x512_S1x128x512_0_1872_0) ?_
  refine holds_cons (v_ones _ 12 (by omega) inb_S1x2304x512_S1x16x512_0_1856_0) ?_
  refine holds_cons (v_head (kernelRun0_B.sl.r_14 c a1 h1 a2 h2 a7 h7 a9 h9 a17 h17 x0 x1 x6 x8 s1) 12 (by omega) slices_S2048x512_o1536_0_S128x512 inb_S1x2304x512_S1x128x512_0_1728_0) ?_
  refine holds_cons (v_ones _ 11 (by omega) inb_S1x2304x512_S1x16x512_0_1712_0) ?_
  refine holds_cons (v_head (kernelRun0_B.sl.r_14 c a1 h1 a2 h2 a7 h7 a9 h9 a17 h17 x0 x1 x6 x8 s1) 11 (by omega) slices_S2048x512_o1408_0_S128x512 inb_S1x2304x512_S1x128x512_0_1584_0) ?_
  refine holds_cons (v_ones _ 10 (by omega) inb_S1x2304x512_S1x16x512_0_1568_0) ?_
  refine holds_cons (v_head (kernelRun0_B.sl.r_14 c a1 h1 a2 h2 a7 h7 a9 h9 a17 h17 x0 x1 x6 x8 s1) 10 (by omega) slices_S2048x512_o1280_0_S128x512 inb_S1x2304x512_S1x128x512_0_1440_0) ?_
  refine holds_cons (v_ones _ 9 (by omega) inb_S1x2304x512_S1x16x512_0_1424_0) ?_
  refine holds_cons (v_head (kernelRun0_B.sl.r_14 c a1 h1 a2 h2 a7 h7 a9 h9 a17 h17 x0 x1 x6 x8 s1) 9 (by omega) slices_S2048x512_o1152_0_S128x512 inb_S1x2304x512_S1x128x512_0_1296_0) ?_
  refine holds_cons (v_ones _ 8 (by omega) inb_S1x2304x512_S1x16x512_0_1280_0) ?_
  refine holds_cons (v_head (kernelRun0_B.sl.r_14 c a1 h1 a2 h2 a7 h7 a9 h9 a17 h17 x0 x1 x6 x8 s1) 8 (by omega) slices_S2048x512_o1024_0_S128x512 inb_S1x2304x512_S1x128x512_0_1152_0) ?_
  refine holds_cons (v_ones _ 7 (by omega) inb_S1x2304x512_S1x16x512_0_1136_0) ?_
  refine holds_cons (v_head (kernelRun0_B.sl.r_14 c a1 h1 a2 h2 a7 h7 a9 h9 a17 h17 x0 x1 x6 x8 s1) 7 (by omega) slices_S2048x512_o896_0_S128x512 inb_S1x2304x512_S1x128x512_0_1008_0) ?_
  refine holds_cons (v_ones _ 6 (by omega) inb_S1x2304x512_S1x16x512_0_992_0) ?_
  refine holds_cons (v_head (kernelRun0_B.sl.r_14 c a1 h1 a2 h2 a7 h7 a9 h9 a17 h17 x0 x1 x6 x8 s1) 6 (by omega) slices_S2048x512_o768_0_S128x512 inb_S1x2304x512_S1x128x512_0_864_0) ?_
  refine holds_cons (v_ones _ 5 (by omega) inb_S1x2304x512_S1x16x512_0_848_0) ?_
  refine holds_cons (v_head (kernelRun0_B.sl.r_14 c a1 h1 a2 h2 a7 h7 a9 h9 a17 h17 x0 x1 x6 x8 s1) 5 (by omega) slices_S2048x512_o640_0_S128x512 inb_S1x2304x512_S1x128x512_0_720_0) ?_
  refine holds_cons (v_ones _ 4 (by omega) inb_S1x2304x512_S1x16x512_0_704_0) ?_
  refine holds_cons (v_head (kernelRun0_B.sl.r_14 c a1 h1 a2 h2 a7 h7 a9 h9 a17 h17 x0 x1 x6 x8 s1) 4 (by omega) slices_S2048x512_o512_0_S128x512 inb_S1x2304x512_S1x128x512_0_576_0) ?_
  refine holds_cons (v_ones _ 3 (by omega) inb_S1x2304x512_S1x16x512_0_560_0) ?_
  refine holds_cons (v_head (kernelRun0_B.sl.r_14 c a1 h1 a2 h2 a7 h7 a9 h9 a17 h17 x0 x1 x6 x8 s1) 3 (by omega) slices_S2048x512_o384_0_S128x512 inb_S1x2304x512_S1x128x512_0_432_0) ?_
  refine holds_cons (v_ones _ 2 (by omega) inb_S1x2304x512_S1x16x512_0_416_0) ?_
  refine holds_cons (v_head (kernelRun0_B.sl.r_14 c a1 h1 a2 h2 a7 h7 a9 h9 a17 h17 x0 x1 x6 x8 s1) 2 (by omega) slices_S2048x512_o256_0_S128x512 inb_S1x2304x512_S1x128x512_0_288_0) ?_
  refine holds_cons (v_ones _ 1 (by omega) inb_S1x2304x512_S1x16x512_0_272_0) ?_
  refine holds_cons (v_head (kernelRun0_B.sl.r_14 c a1 h1 a2 h2 a7 h7 a9 h9 a17 h17 x0 x1 x6 x8 s1) 1 (by omega) slices_S2048x512_o128_0_S128x512 inb_S1x2304x512_S1x128x512_0_144_0) ?_
  refine holds_cons (v_ones _ 0 (by omega) inb_S1x2304x512_S1x16x512_0_128_0) ?_
  refine holds_cons (v_head (kernelRun0_B.sl.r_14 c a1 h1 a2 h2 a7 h7 a9 h9 a17 h17 x0 x1 x6 x8 s1) 0 (by omega) slices_S2048x512_o0_0_S128x512 inb_S1x2304x512_S1x128x512_0_0_0) ?_
  exact holds_nil

/-- What the first point leaves in the first scratch buffer. -/
theorem canon_0 (hc : cond0_0 i) : View.canon (kernelRun0_A (F := Ideal) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11).2.2.2.1 = Gs x11 0 := by
  funext y
  refine View.canon_apply_of_pieces (Gs x11 0) _ ?_ y (scover0_A_0 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 y)
  unfold kernelRun0_A
  dsimp only
  sl_unfold_words
  simp only [h12.read_unread, View.readAt_eq_ld]
  refine holds_cons (s_head x11 15 0 (by omega) (by omega) inb_S1x512x4096_S1x512x128_0_0_3840 inb_S512x2048_S512x128_0_1920) ?_
  refine holds_cons (s_head x11 14 0 (by omega) (by omega) inb_S1x512x4096_S1x512x128_0_0_3584 inb_S512x2048_S512x128_0_1792) ?_
  refine holds_cons (s_head x11 13 0 (by omega) (by omega) inb_S1x512x4096_S1x512x128_0_0_3328 inb_S512x2048_S512x128_0_1664) ?_
  refine holds_cons (s_head x11 12 0 (by omega) (by omega) inb_S1x512x4096_S1x512x128_0_0_3072 inb_S512x2048_S512x128_0_1536) ?_
  refine holds_cons (s_head x11 11 0 (by omega) (by omega) inb_S1x512x4096_S1x512x128_0_0_2816 inb_S512x2048_S512x128_0_1408) ?_
  refine holds_cons (s_head x11 10 0 (by omega) (by omega) inb_S1x512x4096_S1x512x128_0_0_2560 inb_S512x2048_S512x128_0_1280) ?_
  refine holds_cons (s_head x11 9 0 (by omega) (by omega) inb_S1x512x4096_S1x512x128_0_0_2304 inb_S512x2048_S512x128_0_1152) ?_
  refine holds_cons (s_head x11 8 0 (by omega) (by omega) inb_S1x512x4096_S1x512x128_0_0_2048 inb_S512x2048_S512x128_0_1024) ?_
  refine holds_cons (s_head x11 7 0 (by omega) (by omega) inb_S1x512x4096_S1x512x128_0_0_1792 inb_S512x2048_S512x128_0_896) ?_
  refine holds_cons (s_head x11 6 0 (by omega) (by omega) inb_S1x512x4096_S1x512x128_0_0_1536 inb_S512x2048_S512x128_0_768) ?_
  refine holds_cons (s_head x11 5 0 (by omega) (by omega) inb_S1x512x4096_S1x512x128_0_0_1280 inb_S512x2048_S512x128_0_640) ?_
  refine holds_cons (s_head x11 4 0 (by omega) (by omega) inb_S1x512x4096_S1x512x128_0_0_1024 inb_S512x2048_S512x128_0_512) ?_
  refine holds_cons (s_head x11 3 0 (by omega) (by omega) inb_S1x512x4096_S1x512x128_0_0_768 inb_S512x2048_S512x128_0_384) ?_
  refine holds_cons (s_head x11 2 0 (by omega) (by omega) inb_S1x512x4096_S1x512x128_0_0_512 inb_S512x2048_S512x128_0_256) ?_
  refine holds_cons (s_head x11 1 0 (by omega) (by omega) inb_S1x512x4096_S1x512x128_0_0_256 inb_S512x2048_S512x128_0_128) ?_
  refine holds_cons (s_head x11 0 0 (by omega) (by omega) inb_S1x512x4096_S1x512x128_0_0_0 inb_S512x2048_S512x128_0_0) ?_
  exact holds_nil

/-- So the first scratch buffer holds the copied columns of the keys' weights. -/
theorem sout_0 (hc : cond0_0 i) : sout0_A_0 (F := Ideal) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 = Gs x11 0 := by
  unfold sout0_A_0
  rw [View.read_writes_junk_eq_canon, canon_0]

/-- What the first point leaves in the second scratch buffer. -/
theorem canon_1 (hc : cond0_0 i) : View.canon (kernelRun0_A (F := Ideal) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11).2.2.2.2.1 = Gs x11 128 := by
  funext y
  refine View.canon_apply_of_pieces (Gs x11 128) _ ?_ y (scover0_A_1 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 y)
  unfold kernelRun0_A
  dsimp only
  sl_unfold_words
  simp only [h12.read_unread, View.readAt_eq_ld]
  refine holds_cons (s_head x11 15 128 (by omega) (by omega) inb_S1x512x4096_S1x512x128_0_0_3968 inb_S512x2048_S512x128_0_1920) ?_
  refine holds_cons (s_head x11 14 128 (by omega) (by omega) inb_S1x512x4096_S1x512x128_0_0_3712 inb_S512x2048_S512x128_0_1792) ?_
  refine holds_cons (s_head x11 13 128 (by omega) (by omega) inb_S1x512x4096_S1x512x128_0_0_3456 inb_S512x2048_S512x128_0_1664) ?_
  refine holds_cons (s_head x11 12 128 (by omega) (by omega) inb_S1x512x4096_S1x512x128_0_0_3200 inb_S512x2048_S512x128_0_1536) ?_
  refine holds_cons (s_head x11 11 128 (by omega) (by omega) inb_S1x512x4096_S1x512x128_0_0_2944 inb_S512x2048_S512x128_0_1408) ?_
  refine holds_cons (s_head x11 10 128 (by omega) (by omega) inb_S1x512x4096_S1x512x128_0_0_2688 inb_S512x2048_S512x128_0_1280) ?_
  refine holds_cons (s_head x11 9 128 (by omega) (by omega) inb_S1x512x4096_S1x512x128_0_0_2432 inb_S512x2048_S512x128_0_1152) ?_
  refine holds_cons (s_head x11 8 128 (by omega) (by omega) inb_S1x512x4096_S1x512x128_0_0_2176 inb_S512x2048_S512x128_0_1024) ?_
  refine holds_cons (s_head x11 7 128 (by omega) (by omega) inb_S1x512x4096_S1x512x128_0_0_1920 inb_S512x2048_S512x128_0_896) ?_
  refine holds_cons (s_head x11 6 128 (by omega) (by omega) inb_S1x512x4096_S1x512x128_0_0_1664 inb_S512x2048_S512x128_0_768) ?_
  refine holds_cons (s_head x11 5 128 (by omega) (by omega) inb_S1x512x4096_S1x512x128_0_0_1408 inb_S512x2048_S512x128_0_640) ?_
  refine holds_cons (s_head x11 4 128 (by omega) (by omega) inb_S1x512x4096_S1x512x128_0_0_1152 inb_S512x2048_S512x128_0_512) ?_
  refine holds_cons (s_head x11 3 128 (by omega) (by omega) inb_S1x512x4096_S1x512x128_0_0_896 inb_S512x2048_S512x128_0_384) ?_
  refine holds_cons (s_head x11 2 128 (by omega) (by omega) inb_S1x512x4096_S1x512x128_0_0_640 inb_S512x2048_S512x128_0_256) ?_
  refine holds_cons (s_head x11 1 128 (by omega) (by omega) inb_S1x512x4096_S1x512x128_0_0_384 inb_S512x2048_S512x128_0_128) ?_
  refine holds_cons (s_head x11 0 128 (by omega) (by omega) inb_S1x512x4096_S1x512x128_0_0_128 inb_S512x2048_S512x128_0_0) ?_
  exact holds_nil

/-- So the second scratch buffer holds the copied columns of the values' weights. -/
theorem sout_1 (hc : cond0_0 i) : sout0_A_1 (F := Ideal) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 = Gs x11 128 := by
  unfold sout0_A_1
  rw [View.read_writes_junk_eq_canon, canon_1]

/-- The keys that it computes, at the first point. -/
theorem wk_A (hc : cond0_0 i) (hn : View.canon (kernelRun0_A (F := Ideal) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11).2.2.2.1 = Gs x11 0) : kernelRun0_A.sl.r_14 (F := Ideal) c a1 h1 a2 h2 a7 h7 a9 h9 a12 h12 a16 x0 x1 x6 x8 x11 = k0_pay82 (cB x0 x1 x6 x8) (Gs x11 0) := by
  rw [← wl_A c a1 h1 a2 h2 a7 h7 a9 h9 x0 x1 x6 x8]
  unfold kernelRun0_A.sl.r_14 kernelRun0_A.sl.v376
  unfold kernelRun0_A at hn
  dsimp only at hn
  rw [View.readCov_eq_canon', ← (View.ld_unit_zero (S := S512x2048) hz inb_S512x2048_S512x2048_0_0 _).trans hn]

/-- The values that it computes, at the first point. -/
theorem wv_A (hc : cond0_0 i) (hn : View.canon (kernelRun0_A (F := Ideal) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11).2.2.2.2.1 = Gs x11 128) : kernelRun0_A.sl.r_15 (F := Ideal) c a1 h1 a2 h2 a7 h7 a9 h9 a12 h12 a17 x0 x1 x6 x8 x11 = k0_pay99 (cB x0 x1 x6 x8) (Gs x11 128) := by
  rw [← wl_A c a1 h1 a2 h2 a7 h7 a9 h9 x0 x1 x6 x8]
  unfold kernelRun0_A.sl.r_15 kernelRun0_A.sl.v427
  unfold kernelRun0_A at hn
  dsimp only at hn
  rw [View.readCov_eq_canon', ← (View.ld_unit_zero (S := S512x2048) hz inb_S512x2048_S512x2048_0_0 _).trans hn]

/-- The queries that the first point stores. -/
theorem out_q_A (hc : cond0_0 i) : out0_A_12 (F := Ideal) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 = Gq (qB x0 x1 x6 x7 x10) (k0_pay43 x2) (k0_pay44 x3) := by
  funext y
  unfold out0_A_12
  rw [View.read_writes_junk_eq_canon]
  refine View.canon_apply_of_pieces (Gq (qB x0 x1 x6 x7 x10) (k0_pay43 x2) (k0_pay44 x3)) _ ?_ y (cover0_A_12 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 y)
  rw [← wq_A c a1 h1 a2 h2 a7 h7 a8 h8 a11 h11 x0 x1 x6 x7 x10, ← wc_A c a3 h3 x2, ← ws_A c a4 h4 x3]
  unfold kernelRun0_A
  dsimp only
  refine holds_cons (q_pad _ _ _ 15 (by omega) inb_S4096x512_S64x512_4032_0) ?_
  refine holds_cons (q_pe _ _ _ 15 (by omega) slices_S3072x512_o3008_0_S64x512 inb_S4096x512_S64x512_3968_0) ?_
  refine holds_cons (q_nope (kernelRun0_A.sl.r_5 c a1 h1 a2 h2 a7 h7 a8 h8 a11 h11 x0 x1 x6 x7 x10) _ _ 15 (by omega) slices_S3072x512_o2880_0_S128x512 inb_S4096x512_S128x512_3840_0) ?_
  refine holds_cons (q_pad _ _ _ 14 (by omega) inb_S4096x512_S64x512_3776_0) ?_
  refine holds_cons (q_pe _ _ _ 14 (by omega) slices_S3072x512_o2816_0_S64x512 inb_S4096x512_S64x512_3712_0) ?_
  refine holds_cons (q_nope (kernelRun0_A.sl.r_5 c a1 h1 a2 h2 a7 h7 a8 h8 a11 h11 x0 x1 x6 x7 x10) _ _ 14 (by omega) slices_S3072x512_o2688_0_S128x512 inb_S4096x512_S128x512_3584_0) ?_
  refine holds_cons (q_pad _ _ _ 13 (by omega) inb_S4096x512_S64x512_3520_0) ?_
  refine holds_cons (q_pe _ _ _ 13 (by omega) slices_S3072x512_o2624_0_S64x512 inb_S4096x512_S64x512_3456_0) ?_
  refine holds_cons (q_nope (kernelRun0_A.sl.r_5 c a1 h1 a2 h2 a7 h7 a8 h8 a11 h11 x0 x1 x6 x7 x10) _ _ 13 (by omega) slices_S3072x512_o2496_0_S128x512 inb_S4096x512_S128x512_3328_0) ?_
  refine holds_cons (q_pad _ _ _ 12 (by omega) inb_S4096x512_S64x512_3264_0) ?_
  refine holds_cons (q_pe _ _ _ 12 (by omega) slices_S3072x512_o2432_0_S64x512 inb_S4096x512_S64x512_3200_0) ?_
  refine holds_cons (q_nope (kernelRun0_A.sl.r_5 c a1 h1 a2 h2 a7 h7 a8 h8 a11 h11 x0 x1 x6 x7 x10) _ _ 12 (by omega) slices_S3072x512_o2304_0_S128x512 inb_S4096x512_S128x512_3072_0) ?_
  refine holds_cons (q_pad _ _ _ 11 (by omega) inb_S4096x512_S64x512_3008_0) ?_
  refine holds_cons (q_pe _ _ _ 11 (by omega) slices_S3072x512_o2240_0_S64x512 inb_S4096x512_S64x512_2944_0) ?_
  refine holds_cons (q_nope (kernelRun0_A.sl.r_5 c a1 h1 a2 h2 a7 h7 a8 h8 a11 h11 x0 x1 x6 x7 x10) _ _ 11 (by omega) slices_S3072x512_o2112_0_S128x512 inb_S4096x512_S128x512_2816_0) ?_
  refine holds_cons (q_pad _ _ _ 10 (by omega) inb_S4096x512_S64x512_2752_0) ?_
  refine holds_cons (q_pe _ _ _ 10 (by omega) slices_S3072x512_o2048_0_S64x512 inb_S4096x512_S64x512_2688_0) ?_
  refine holds_cons (q_nope (kernelRun0_A.sl.r_5 c a1 h1 a2 h2 a7 h7 a8 h8 a11 h11 x0 x1 x6 x7 x10) _ _ 10 (by omega) slices_S3072x512_o1920_0_S128x512 inb_S4096x512_S128x512_2560_0) ?_
  refine holds_cons (q_pad _ _ _ 9 (by omega) inb_S4096x512_S64x512_2496_0) ?_
  refine holds_cons (q_pe _ _ _ 9 (by omega) slices_S3072x512_o1856_0_S64x512 inb_S4096x512_S64x512_2432_0) ?_
  refine holds_cons (q_nope (kernelRun0_A.sl.r_5 c a1 h1 a2 h2 a7 h7 a8 h8 a11 h11 x0 x1 x6 x7 x10) _ _ 9 (by omega) slices_S3072x512_o1728_0_S128x512 inb_S4096x512_S128x512_2304_0) ?_
  refine holds_cons (q_pad _ _ _ 8 (by omega) inb_S4096x512_S64x512_2240_0) ?_
  refine holds_cons (q_pe _ _ _ 8 (by omega) slices_S3072x512_o1664_0_S64x512 inb_S4096x512_S64x512_2176_0) ?_
  refine holds_cons (q_nope (kernelRun0_A.sl.r_5 c a1 h1 a2 h2 a7 h7 a8 h8 a11 h11 x0 x1 x6 x7 x10) _ _ 8 (by omega) slices_S3072x512_o1536_0_S128x512 inb_S4096x512_S128x512_2048_0) ?_
  refine holds_cons (q_pad _ _ _ 7 (by omega) inb_S4096x512_S64x512_1984_0) ?_
  refine holds_cons (q_pe _ _ _ 7 (by omega) slices_S3072x512_o1472_0_S64x512 inb_S4096x512_S64x512_1920_0) ?_
  refine holds_cons (q_nope (kernelRun0_A.sl.r_5 c a1 h1 a2 h2 a7 h7 a8 h8 a11 h11 x0 x1 x6 x7 x10) _ _ 7 (by omega) slices_S3072x512_o1344_0_S128x512 inb_S4096x512_S128x512_1792_0) ?_
  refine holds_cons (q_pad _ _ _ 6 (by omega) inb_S4096x512_S64x512_1728_0) ?_
  refine holds_cons (q_pe _ _ _ 6 (by omega) slices_S3072x512_o1280_0_S64x512 inb_S4096x512_S64x512_1664_0) ?_
  refine holds_cons (q_nope (kernelRun0_A.sl.r_5 c a1 h1 a2 h2 a7 h7 a8 h8 a11 h11 x0 x1 x6 x7 x10) _ _ 6 (by omega) slices_S3072x512_o1152_0_S128x512 inb_S4096x512_S128x512_1536_0) ?_
  refine holds_cons (q_pad _ _ _ 5 (by omega) inb_S4096x512_S64x512_1472_0) ?_
  refine holds_cons (q_pe _ _ _ 5 (by omega) slices_S3072x512_o1088_0_S64x512 inb_S4096x512_S64x512_1408_0) ?_
  refine holds_cons (q_nope (kernelRun0_A.sl.r_5 c a1 h1 a2 h2 a7 h7 a8 h8 a11 h11 x0 x1 x6 x7 x10) _ _ 5 (by omega) slices_S3072x512_o960_0_S128x512 inb_S4096x512_S128x512_1280_0) ?_
  refine holds_cons (q_pad _ _ _ 4 (by omega) inb_S4096x512_S64x512_1216_0) ?_
  refine holds_cons (q_pe _ _ _ 4 (by omega) slices_S3072x512_o896_0_S64x512 inb_S4096x512_S64x512_1152_0) ?_
  refine holds_cons (q_nope (kernelRun0_A.sl.r_5 c a1 h1 a2 h2 a7 h7 a8 h8 a11 h11 x0 x1 x6 x7 x10) _ _ 4 (by omega) slices_S3072x512_o768_0_S128x512 inb_S4096x512_S128x512_1024_0) ?_
  refine holds_cons (q_pad _ _ _ 3 (by omega) inb_S4096x512_S64x512_960_0) ?_
  refine holds_cons (q_pe _ _ _ 3 (by omega) slices_S3072x512_o704_0_S64x512 inb_S4096x512_S64x512_896_0) ?_
  refine holds_cons (q_nope (kernelRun0_A.sl.r_5 c a1 h1 a2 h2 a7 h7 a8 h8 a11 h11 x0 x1 x6 x7 x10) _ _ 3 (by omega) slices_S3072x512_o576_0_S128x512 inb_S4096x512_S128x512_768_0) ?_
  refine holds_cons (q_pad _ _ _ 2 (by omega) inb_S4096x512_S64x512_704_0) ?_
  refine holds_cons (q_pe _ _ _ 2 (by omega) slices_S3072x512_o512_0_S64x512 inb_S4096x512_S64x512_640_0) ?_
  refine holds_cons (q_nope (kernelRun0_A.sl.r_5 c a1 h1 a2 h2 a7 h7 a8 h8 a11 h11 x0 x1 x6 x7 x10) _ _ 2 (by omega) slices_S3072x512_o384_0_S128x512 inb_S4096x512_S128x512_512_0) ?_
  refine holds_cons (q_pad _ _ _ 1 (by omega) inb_S4096x512_S64x512_448_0) ?_
  refine holds_cons (q_pe _ _ _ 1 (by omega) slices_S3072x512_o320_0_S64x512 inb_S4096x512_S64x512_384_0) ?_
  refine holds_cons (q_nope (kernelRun0_A.sl.r_5 c a1 h1 a2 h2 a7 h7 a8 h8 a11 h11 x0 x1 x6 x7 x10) _ _ 1 (by omega) slices_S3072x512_o192_0_S128x512 inb_S4096x512_S128x512_256_0) ?_
  refine holds_cons (q_pad _ _ _ 0 (by omega) inb_S4096x512_S64x512_192_0) ?_
  refine holds_cons (q_pe _ _ _ 0 (by omega) slices_S3072x512_o128_0_S64x512 inb_S4096x512_S64x512_128_0) ?_
  refine holds_cons (q_nope (kernelRun0_A.sl.r_5 c a1 h1 a2 h2 a7 h7 a8 h8 a11 h11 x0 x1 x6 x7 x10) _ _ 0 (by omega) slices_S3072x512_o0_0_S128x512 inb_S4096x512_S128x512_0_0) ?_
  exact holds_nil

/-- The keys that the first point stores. -/
theorem out_k_A (hc : cond0_0 i) : out0_A_13 (F := Ideal) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 = Gk (k0_pay82 (cB x0 x1 x6 x8) (Gs x11 0)) (k0_pay40 x0 x1 x9 x4 x5) := by
  funext y
  unfold out0_A_13
  rw [View.read_writes_junk_eq_canon]
  refine View.canon_apply_of_pieces (Gk (k0_pay82 (cB x0 x1 x6 x8) (Gs x11 0)) (k0_pay40 x0 x1 x9 x4 x5)) _ ?_ y (cover0_A_13 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 y)
  rw [← wk_A c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 hc (canon_0 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 hc), ← wp_A c a1 h1 a2 h2 a5 h5 a6 h6 a10 h10 x0 x1 x4 x5 x9]
  unfold kernelRun0_A
  dsimp only
  refine holds_cons (k_pe (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 15 (by omega) inb_S512x4096_S512x128_0_3968) ?_
  refine holds_cons (k_nope (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 15 (by omega) slices_S512x2048_o0_1920_S512x128 inb_S512x4096_S512x128_0_3840) ?_
  refine holds_cons (k_pe (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 14 (by omega) inb_S512x4096_S512x128_0_3712) ?_
  refine holds_cons (k_nope (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 14 (by omega) slices_S512x2048_o0_1792_S512x128 inb_S512x4096_S512x128_0_3584) ?_
  refine holds_cons (k_pe (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 13 (by omega) inb_S512x4096_S512x128_0_3456) ?_
  refine holds_cons (k_nope (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 13 (by omega) slices_S512x2048_o0_1664_S512x128 inb_S512x4096_S512x128_0_3328) ?_
  refine holds_cons (k_pe (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 12 (by omega) inb_S512x4096_S512x128_0_3200) ?_
  refine holds_cons (k_nope (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 12 (by omega) slices_S512x2048_o0_1536_S512x128 inb_S512x4096_S512x128_0_3072) ?_
  refine holds_cons (k_pe (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 11 (by omega) inb_S512x4096_S512x128_0_2944) ?_
  refine holds_cons (k_nope (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 11 (by omega) slices_S512x2048_o0_1408_S512x128 inb_S512x4096_S512x128_0_2816) ?_
  refine holds_cons (k_pe (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 10 (by omega) inb_S512x4096_S512x128_0_2688) ?_
  refine holds_cons (k_nope (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 10 (by omega) slices_S512x2048_o0_1280_S512x128 inb_S512x4096_S512x128_0_2560) ?_
  refine holds_cons (k_pe (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 9 (by omega) inb_S512x4096_S512x128_0_2432) ?_
  refine holds_cons (k_nope (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 9 (by omega) slices_S512x2048_o0_1152_S512x128 inb_S512x4096_S512x128_0_2304) ?_
  refine holds_cons (k_pe (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 8 (by omega) inb_S512x4096_S512x128_0_2176) ?_
  refine holds_cons (k_nope (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 8 (by omega) slices_S512x2048_o0_1024_S512x128 inb_S512x4096_S512x128_0_2048) ?_
  refine holds_cons (k_pe (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 7 (by omega) inb_S512x4096_S512x128_0_1920) ?_
  refine holds_cons (k_nope (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 7 (by omega) slices_S512x2048_o0_896_S512x128 inb_S512x4096_S512x128_0_1792) ?_
  refine holds_cons (k_pe (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 6 (by omega) inb_S512x4096_S512x128_0_1664) ?_
  refine holds_cons (k_nope (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 6 (by omega) slices_S512x2048_o0_768_S512x128 inb_S512x4096_S512x128_0_1536) ?_
  refine holds_cons (k_pe (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 5 (by omega) inb_S512x4096_S512x128_0_1408) ?_
  refine holds_cons (k_nope (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 5 (by omega) slices_S512x2048_o0_640_S512x128 inb_S512x4096_S512x128_0_1280) ?_
  refine holds_cons (k_pe (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 4 (by omega) inb_S512x4096_S512x128_0_1152) ?_
  refine holds_cons (k_nope (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 4 (by omega) slices_S512x2048_o0_512_S512x128 inb_S512x4096_S512x128_0_1024) ?_
  refine holds_cons (k_pe (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 3 (by omega) inb_S512x4096_S512x128_0_896) ?_
  refine holds_cons (k_nope (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 3 (by omega) slices_S512x2048_o0_384_S512x128 inb_S512x4096_S512x128_0_768) ?_
  refine holds_cons (k_pe (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 2 (by omega) inb_S512x4096_S512x128_0_640) ?_
  refine holds_cons (k_nope (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 2 (by omega) slices_S512x2048_o0_256_S512x128 inb_S512x4096_S512x128_0_512) ?_
  refine holds_cons (k_pe (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 1 (by omega) inb_S512x4096_S512x128_0_384) ?_
  refine holds_cons (k_nope (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 1 (by omega) slices_S512x2048_o0_128_S512x128 inb_S512x4096_S512x128_0_256) ?_
  refine holds_cons (k_pe (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 0 (by omega) inb_S512x4096_S512x128_0_128) ?_
  refine holds_cons (k_nope (kernelRun0_A.sl.r_14 c a1 h1 a2 h2 a7 h7 a9 h9 a12 h12 a16 x0 x1 x6 x8 x11) (kernelRun0_A.sl.r_3 c a1 h1 a2 h2 a5 h5 a6 h6 a10 h10 x0 x1 x4 x5 x9) 0 (by omega) slices_S512x2048_o0_0_S512x128 inb_S512x4096_S512x128_0_0) ?_
  exact holds_nil

/-- The values that the first point stores. -/
theorem out_v_A (hc : cond0_0 i) : out0_A_14 (F := Ideal) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 = Gv (k0_pay99 (cB x0 x1 x6 x8) (Gs x11 128)) := by
  funext y
  unfold out0_A_14
  rw [View.read_writes_junk_eq_canon]
  refine View.canon_apply_of_pieces (Gv (k0_pay99 (cB x0 x1 x6 x8) (Gs x11 128))) _ ?_ y (cover0_A_14 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 y)
  rw [← wv_A c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 hc (canon_1 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 hc)]
  unfold kernelRun0_A
  dsimp only
  refine holds_cons (v_ones _ 15 (by omega) inb_S1x2304x512_S1x16x512_0_2288_0) ?_
  refine holds_cons (v_head (kernelRun0_A.sl.r_15 c a1 h1 a2 h2 a7 h7 a9 h9 a12 h12 a17 x0 x1 x6 x8 x11) 15 (by omega) slices_S2048x512_o1920_0_S128x512 inb_S1x2304x512_S1x128x512_0_2160_0) ?_
  refine holds_cons (v_ones _ 14 (by omega) inb_S1x2304x512_S1x16x512_0_2144_0) ?_
  refine holds_cons (v_head (kernelRun0_A.sl.r_15 c a1 h1 a2 h2 a7 h7 a9 h9 a12 h12 a17 x0 x1 x6 x8 x11) 14 (by omega) slices_S2048x512_o1792_0_S128x512 inb_S1x2304x512_S1x128x512_0_2016_0) ?_
  refine holds_cons (v_ones _ 13 (by omega) inb_S1x2304x512_S1x16x512_0_2000_0) ?_
  refine holds_cons (v_head (kernelRun0_A.sl.r_15 c a1 h1 a2 h2 a7 h7 a9 h9 a12 h12 a17 x0 x1 x6 x8 x11) 13 (by omega) slices_S2048x512_o1664_0_S128x512 inb_S1x2304x512_S1x128x512_0_1872_0) ?_
  refine holds_cons (v_ones _ 12 (by omega) inb_S1x2304x512_S1x16x512_0_1856_0) ?_
  refine holds_cons (v_head (kernelRun0_A.sl.r_15 c a1 h1 a2 h2 a7 h7 a9 h9 a12 h12 a17 x0 x1 x6 x8 x11) 12 (by omega) slices_S2048x512_o1536_0_S128x512 inb_S1x2304x512_S1x128x512_0_1728_0) ?_
  refine holds_cons (v_ones _ 11 (by omega) inb_S1x2304x512_S1x16x512_0_1712_0) ?_
  refine holds_cons (v_head (kernelRun0_A.sl.r_15 c a1 h1 a2 h2 a7 h7 a9 h9 a12 h12 a17 x0 x1 x6 x8 x11) 11 (by omega) slices_S2048x512_o1408_0_S128x512 inb_S1x2304x512_S1x128x512_0_1584_0) ?_
  refine holds_cons (v_ones _ 10 (by omega) inb_S1x2304x512_S1x16x512_0_1568_0) ?_
  refine holds_cons (v_head (kernelRun0_A.sl.r_15 c a1 h1 a2 h2 a7 h7 a9 h9 a12 h12 a17 x0 x1 x6 x8 x11) 10 (by omega) slices_S2048x512_o1280_0_S128x512 inb_S1x2304x512_S1x128x512_0_1440_0) ?_
  refine holds_cons (v_ones _ 9 (by omega) inb_S1x2304x512_S1x16x512_0_1424_0) ?_
  refine holds_cons (v_head (kernelRun0_A.sl.r_15 c a1 h1 a2 h2 a7 h7 a9 h9 a12 h12 a17 x0 x1 x6 x8 x11) 9 (by omega) slices_S2048x512_o1152_0_S128x512 inb_S1x2304x512_S1x128x512_0_1296_0) ?_
  refine holds_cons (v_ones _ 8 (by omega) inb_S1x2304x512_S1x16x512_0_1280_0) ?_
  refine holds_cons (v_head (kernelRun0_A.sl.r_15 c a1 h1 a2 h2 a7 h7 a9 h9 a12 h12 a17 x0 x1 x6 x8 x11) 8 (by omega) slices_S2048x512_o1024_0_S128x512 inb_S1x2304x512_S1x128x512_0_1152_0) ?_
  refine holds_cons (v_ones _ 7 (by omega) inb_S1x2304x512_S1x16x512_0_1136_0) ?_
  refine holds_cons (v_head (kernelRun0_A.sl.r_15 c a1 h1 a2 h2 a7 h7 a9 h9 a12 h12 a17 x0 x1 x6 x8 x11) 7 (by omega) slices_S2048x512_o896_0_S128x512 inb_S1x2304x512_S1x128x512_0_1008_0) ?_
  refine holds_cons (v_ones _ 6 (by omega) inb_S1x2304x512_S1x16x512_0_992_0) ?_
  refine holds_cons (v_head (kernelRun0_A.sl.r_15 c a1 h1 a2 h2 a7 h7 a9 h9 a12 h12 a17 x0 x1 x6 x8 x11) 6 (by omega) slices_S2048x512_o768_0_S128x512 inb_S1x2304x512_S1x128x512_0_864_0) ?_
  refine holds_cons (v_ones _ 5 (by omega) inb_S1x2304x512_S1x16x512_0_848_0) ?_
  refine holds_cons (v_head (kernelRun0_A.sl.r_15 c a1 h1 a2 h2 a7 h7 a9 h9 a12 h12 a17 x0 x1 x6 x8 x11) 5 (by omega) slices_S2048x512_o640_0_S128x512 inb_S1x2304x512_S1x128x512_0_720_0) ?_
  refine holds_cons (v_ones _ 4 (by omega) inb_S1x2304x512_S1x16x512_0_704_0) ?_
  refine holds_cons (v_head (kernelRun0_A.sl.r_15 c a1 h1 a2 h2 a7 h7 a9 h9 a12 h12 a17 x0 x1 x6 x8 x11) 4 (by omega) slices_S2048x512_o512_0_S128x512 inb_S1x2304x512_S1x128x512_0_576_0) ?_
  refine holds_cons (v_ones _ 3 (by omega) inb_S1x2304x512_S1x16x512_0_560_0) ?_
  refine holds_cons (v_head (kernelRun0_A.sl.r_15 c a1 h1 a2 h2 a7 h7 a9 h9 a12 h12 a17 x0 x1 x6 x8 x11) 3 (by omega) slices_S2048x512_o384_0_S128x512 inb_S1x2304x512_S1x128x512_0_432_0) ?_
  refine holds_cons (v_ones _ 2 (by omega) inb_S1x2304x512_S1x16x512_0_416_0) ?_
  refine holds_cons (v_head (kernelRun0_A.sl.r_15 c a1 h1 a2 h2 a7 h7 a9 h9 a12 h12 a17 x0 x1 x6 x8 x11) 2 (by omega) slices_S2048x512_o256_0_S128x512 inb_S1x2304x512_S1x128x512_0_288_0) ?_
  refine holds_cons (v_ones _ 1 (by omega) inb_S1x2304x512_S1x16x512_0_272_0) ?_
  refine holds_cons (v_head (kernelRun0_A.sl.r_15 c a1 h1 a2 h2 a7 h7 a9 h9 a12 h12 a17 x0 x1 x6 x8 x11) 1 (by omega) slices_S2048x512_o128_0_S128x512 inb_S1x2304x512_S1x128x512_0_144_0) ?_
  refine holds_cons (v_ones _ 0 (by omega) inb_S1x2304x512_S1x16x512_0_128_0) ?_
  refine holds_cons (v_head (kernelRun0_A.sl.r_15 c a1 h1 a2 h2 a7 h7 a9 h9 a12 h12 a17 x0 x1 x6 x8 x11) 0 (by omega) slices_S2048x512_o0_0_S128x512 inb_S1x2304x512_S1x128x512_0_0_0) ?_
  exact holds_nil

end

end Cert.Kernel7Ideal.Hand
-- ==== Proof.ProjSpec.lean ====
/- The latent projections with their rotations over the extended reals, at coordinates: what both the kernel and the reference compute. -/
module

public import proofs.«01_k».proof.Proof.MI.Spec
public import proofs.«01_k».proof.Proof.KI.Spec
public import Idealize.ShloMosaic.Lib.Pointwise

@[expose] public section

noncomputable section

namespace Cert.Proj

open Idealize.ShloMosaic Cert.Mlp

/-- A row of 512 entries divided by its root mean square, and scaled. -/
def rms512 (u g : Fin 512 → EReal) (j : Fin 512) : EReal :=
  u j * Ideal.rsqrt (Ideal.div (∑ l, u l * u l) (Ideal.ofBits .f32 0x44000000#32) + small) * g j

/-- A rotated lane: `y` holds 64 lanes, lane `e` turns with lane `e + 32` or `e - 32` by the angle of index `e % 32`. -/
def rope (y : ℕ → EReal) (cs sn : Fin 32 → EReal) (e : ℕ) : EReal :=
  if e < 32 then y e * cs (Fin.ofNat 32 e) - y (e + 32) * sn (Fin.ofNat 32 e)
  else y e * cs (Fin.ofNat 32 e) + y (e - 32) * sn (Fin.ofNat 32 e)

section
variable (x : Fin 8192 → Fin 2048 → EReal) (g : Fin 2048 → EReal) (cs sn : Fin 32 → Fin 8192 → EReal) (wi : Fin 2048 → Fin 1088 → EReal)
  (qg kg : Fin 512 → EReal) (wq : Fin 512 → Fin 3072 → EReal) (wk : Fin 512 → Fin 4096 → EReal)

/-- The first projection of the normed row `p`. -/
def down (p : Fin 8192) (k : Fin 1088) : EReal := ∑ l, rms (x p) g l * wi l k

/-- The up-projected queries. -/
def up_q (p : Fin 8192) (k : Fin 3072) : EReal := ∑ l, rms512 (fun j => down x g wi p ⟨j.val, by omega⟩) qg l * wq l k

/-- The up-projected keys and values. -/
def up_kv (p : Fin 8192) (k : Fin 4096) : EReal := ∑ l, rms512 (fun j => down x g wi p ⟨512 + j.val, by omega⟩) kg l * wk l k

/-- The queries: a head's 256 lanes are 128 plain ones and 64 rotated ones, all scaled, and zeros. -/
def queries (n : Fin 4096) (p : Fin 8192) : EReal :=
  let h := n.val / 256
  let d := n.val % 256
  let y := fun k => up_q x g wi qg wq p (Fin.ofNat 3072 (192 * h + k))
  if d < 128 then y d * Ideal.ofBits .f32 0x3DD53B95#32
  else if d < 192 then rope (fun e => y (128 + e)) (fun e => cs e p) (fun e => sn e p) (d - 128) * Ideal.ofBits .f32 0x3DD53B95#32
  else 0

/-- The keys: a head's 256 lanes are 128 plain ones, the 64 rotated ones that all heads share, and zeros. -/
def keys (p : Fin 8192) (n : Fin 4096) : EReal :=
  let h := n.val / 256
  let d := n.val % 256
  if d < 128 then up_kv x g wi kg wk p (Fin.ofNat 4096 (256 * h + d))
  else if d < 192 then rope (fun e => down x g wi p (Fin.ofNat 1088 (1024 + e))) (fun e => cs e p) (fun e => sn e p) (d - 128)
  else 0

/-- The values: a head's 144 lanes are 128 plain ones, and ones. -/
def values (p : Fin 8192) (n : Fin 2304) : EReal :=
  let h := n.val / 144
  let d := n.val % 144
  if d < 128 then up_kv x g wi kg wk p (Fin.ofNat 4096 (256 * h + 128 + d)) else 1

end

/-- A rotated lane as one sum: the first half of the lanes takes the other half negated. -/
theorem rope_eq (y : ℕ → EReal) (cs sn : Fin 32 → EReal) (e : ℕ) :
    rope y cs sn e = y e * cs (Fin.ofNat 32 e) + (if e < 32 then 0 - y (e + 32) else y (e - 32)) * sn (Fin.ofNat 32 e) := by
  unfold rope
  split
  · rw [sub_eq_add_neg, sub_eq_add_neg, zero_add, EReal.neg_mul]
  · rfl

/-! ### Where negating the weights negates the product -/

/-- The small number is a positive real. -/
theorem small_pos : ∃ s : ℝ, small = s ∧ 0 < s := by
  refine ⟨8796093 * ((2 : ℝ) ^ 43)⁻¹, ?_, by positivity⟩
  simp [small, Ideal.ofBits, Ideal.ieee]

/-- The number 2048 is itself. -/
theorem width_eq : width = ((2048 : ℝ) : EReal) := by
  simp [width, Ideal.ofBits, Ideal.ieee]
  rw [← EReal.coe_mul]
  congr 1
  norm_num

/-- A square is at least zero. -/
theorem sq_nonneg (x : EReal) : 0 ≤ x * x := by
  induction x with
  | bot => simp
  | top => simp
  | coe r => rw [← EReal.coe_mul]; exact_mod_cast mul_self_nonneg r

/-- An entry of a normed row is a real when the norm's factors are: a row with an infinite entry is divided by infinity. -/
theorem rms_real (u g : Fin 2048 → EReal) (hg : ∀ j, ∃ r : ℝ, g j = r) (j : Fin 2048) : ∃ r : ℝ, rms u g j = r := by
  obtain ⟨s, hs, hs0⟩ := small_pos
  obtain ⟨b, hb⟩ := hg j
  suffices h : ∃ r : ℝ, u j * Ideal.rsqrt (Ideal.div (∑ l, u l * u l) width + small) = r by
    obtain ⟨a, ha⟩ := h
    exact ⟨a * b, by rw [rms, ha, hb, EReal.coe_mul]⟩
  have hw : width ≠ 0 := by rw [width_eq]; exact_mod_cast (by norm_num : (2048 : ℝ) ≠ 0)
  rw [Ideal.div, if_neg hw, hs, width_eq, ← EReal.coe_inv]
  by_cases hu : ∀ l, ∃ r : ℝ, u l = r
  · choose a ha using hu
    have h1 : (∑ l, u l * u l) = ((∑ l, a l * a l : ℝ) : EReal) := by
      simp only [ha, ← EReal.coe_mul]
      exact (map_sum (⟨⟨Real.toEReal, EReal.coe_zero⟩, EReal.coe_add⟩ : ℝ →+ EReal) _ _).symm
    have h2 : 0 ≤ ∑ l, a l * a l := Finset.sum_nonneg fun l _ => mul_self_nonneg _
    have h3 : 0 < (∑ l, a l * a l) * (2048 : ℝ)⁻¹ + s := by positivity
    rw [h1, ← EReal.coe_mul, ← EReal.coe_add, ha j]
    refine ⟨a j * (Real.sqrt ((∑ l, a l * a l) * (2048 : ℝ)⁻¹ + s))⁻¹, ?_⟩
    show _ * (if _ then _ else if _ then _ else _) = _
    rw [if_neg (not_lt.mpr h3.le), if_neg h3.ne', EReal.coe_mul]
  · obtain ⟨l, hl⟩ := not_forall.mp hu
    have h1 : u l * u l = ⊤ := by
      generalize u l = z at hl
      induction z with
      | bot => simp
      | top => simp
      | coe r => exact absurd ⟨r, rfl⟩ hl
    have h2 : (∑ l, u l * u l) = ⊤ := by
      refine top_le_iff.mp ?_
      rw [← h1]
      exact Finset.single_le_sum (f := fun l => u l * u l) (fun i _ => sq_nonneg (u i)) (Finset.mem_univ l)
    have h3 : ((0 : ℝ) : EReal) < ((2048 : ℝ)⁻¹ : ℝ) := by exact_mod_cast (by norm_num : (0 : ℝ) < (2048 : ℝ)⁻¹)
    rw [h2, EReal.top_mul_of_pos h3, EReal.top_add_coe]
    exact ⟨0, by show _ * (0 : EReal) = _; simp⟩

/-- With real factors, negating the weights negates the product of a normed row and a column. -/
theorem sum_neg (u g w : Fin 2048 → EReal) (hg : ∀ j, ∃ r : ℝ, g j = r) (hw : ∀ j, ∃ r : ℝ, w j = r) :
    ∑ l, rms u g l * -(w l) = -∑ l, rms u g l * w l := by
  choose a ha using rms_real u g hg
  choose b hb using hw
  have coe_sum (f : Fin 2048 → ℝ) : ((∑ l, f l : ℝ) : EReal) = ∑ l, (f l : EReal) :=
    map_sum (⟨⟨Real.toEReal, EReal.coe_zero⟩, EReal.coe_add⟩ : ℝ →+ EReal) _ _
  simp only [ha, hb, ← EReal.coe_neg, ← EReal.coe_mul, ← coe_sum]
  congr 1
  simp

end Cert.Proj

end
-- ==== Proof.ProjValue.lean ====
/- The value of the latent projections' kernel: its arrays after the run are the queries, keys and values of its arguments, over the extended reals. -/
module

public import proofs.«01_k».proof.Proof.ProjBlocks
public import proofs.«01_k».proof.Proof.ProjSpec
public import Idealize.ShloMosaic.Lib.StableHlo.ReadAt
public import Idealize.ShloMosaic.Lib.Claim

@[expose] public section

set_option maxRecDepth 16384

noncomputable section

namespace Cert.Kernel7Ideal.Hand

open Idealize.ShloMosaic Idealize.ShloMosaic.TcCoe Idealize.ShloMosaic.Tactic Idealize.SL.Sem
open Idealize.ShloMosaic.Pipeline (Dat Cfg Window)
open Cert.Kernel7Ideal.Gen Cert.Mlp Cert.Proj

/-- The norm of a row of a block. -/
theorem norm_apply (x : Vec Ideal S512x2048 .f32) (g : Vec Ideal S1x2048 .f32) (r : Fin 512) (j : Fin 2048) :
    k0_pay36 x g (ix2 r j) = rms (fun l => x (ix2 r l)) (fun l => g (ix2 0 l)) j := by
  unfold_payloads
  pointwise
  rfl

/-- The first projection of a normed row. -/
theorem down_apply (x : Vec Ideal S512x2048 .f32) (g : Vec Ideal S1x2048 .f32) (w : Vec Ideal S1x2048x1024 .bf16) (r : Fin 512) (k : Fin 1024) :
    k0_pay37 x g w (ix2 r k) = ∑ l, rms (fun l => x (ix2 r l)) (fun l => g (ix2 0 l)) l * w (ix3 0 l k) := by
  simp only [← norm_apply]
  unfold k0_pay37
  pointwise

/-- The queries' half of the first projection. -/
theorem left_apply (x : Vec Ideal S512x2048 .f32) (g : Vec Ideal S1x2048 .f32) (w : Vec Ideal S1x2048x1024 .bf16) (r : Fin 512) (k : Fin 512) :
    k0_pay38 x g w (ix2 r k) = k0_pay37 x g w (ix2 r (⟨k.val, by omega⟩ : Fin 1024)) := by
  unfold k0_pay38
  pointwise

/-- The keys' and values' half of the first projection. -/
theorem right_apply (x : Vec Ideal S512x2048 .f32) (g : Vec Ideal S1x2048 .f32) (w : Vec Ideal S1x2048x1024 .bf16) (r : Fin 512) (k : Fin 512) :
    k0_pay39 x g w (ix2 r k) = k0_pay37 x g w (ix2 r (⟨512 + k.val, by omega⟩ : Fin 1024)) := by
  unfold k0_pay39
  pointwise

/-- The up-projected queries. -/
theorem q_apply (u : Vec Ideal S512x512 .f32) (g : Vec Ideal S1x512 .f32) (w : Vec Ideal S1x512x3072 .bf16) (n : Fin 3072) (r : Fin 512) :
    k0_pay42 u g w (ix2 n r) = ∑ l, w (ix3 0 l n) * rms512 (fun l => u (ix2 r l)) (fun l => g (ix2 0 l)) l := by
  unfold k0_pay42
  pointwise
  rfl

/-- The normed latent rows. -/
theorem c_apply (u : Vec Ideal S512x512 .f32) (g : Vec Ideal S1x512 .f32) (r : Fin 512) (j : Fin 512) :
    k0_pay41 u g (ix2 r j) = rms512 (fun l => u (ix2 r l)) (fun l => g (ix2 0 l)) j := by
  unfold k0_pay41
  pointwise
  rfl

/-- The up-projected keys. -/
theorem k_apply (u : Vec Ideal S512x512 .bf16) (w : Vec Ideal S512x2048 .bf16) (r : Fin 512) (n : Fin 2048) :
    k0_pay82 u w (ix2 r n) = ∑ l, u (ix2 r l) * w (ix2 l n) := by
  unfold k0_pay82
  pointwise

/-- The up-projected values. -/
theorem v_apply (u : Vec Ideal S512x512 .bf16) (w : Vec Ideal S512x2048 .bf16) (n : Fin 2048) (r : Fin 512) :
    k0_pay99 u w (ix2 n r) = ∑ l, w (ix2 l n) * u (ix2 r l) := by
  unfold k0_pay99
  pointwise

/-- The shared rotated lanes. -/
theorem kpe_apply (x : Vec Ideal S512x2048 .f32) (g : Vec Ideal S1x2048 .f32) (w : Vec Ideal S1x2048x256 .bf16) (a b : Vec Ideal S512x128 .f32) (r : Fin 512) (d : Fin 128) :
    k0_pay40 x g w a b (ix2 r d) = (∑ l, rms (fun l => x (ix2 r l)) (fun l => g (ix2 0 l)) l * w (ix3 0 l (⟨d.val, by omega⟩ : Fin 256))) * a (ix2 r d)
      + (∑ l, rms (fun l => x (ix2 r l)) (fun l => g (ix2 0 l)) l * w (ix3 0 l (⟨128 + d.val, by omega⟩ : Fin 256))) * b (ix2 r d) := by
  simp only [← norm_apply]
  unfold k0_pay40
  pointwise

/-- The cosines, once for each half of the lanes. -/
theorem cos_apply (x : Vec Ideal S32x512 .f32) (e : Fin 64) (j : Fin 512) : k0_pay43 x (ix2 e j) = x (ix2 (⟨e.val % 32, by omega⟩ : Fin 32) j) := by
  unfold k0_pay43
  pointwise
  have he := e.isLt
  split
  · rename_i h
    exact congrArg (fun z : Fin 32 => x (ix2 z j)) (Fin.ext (Nat.mod_eq_of_lt h).symm)
  · rename_i h
    exact congrArg (fun z : Fin 32 => x (ix2 z j)) (Fin.ext (show e.val - 32 = e.val % 32 by omega))

/-- The sines, once for each half of the lanes. -/
theorem sin_apply (x : Vec Ideal S32x512 .f32) (e : Fin 64) (j : Fin 512) : k0_pay44 x (ix2 e j) = x (ix2 (⟨e.val % 32, by omega⟩ : Fin 32) j) := by
  unfold k0_pay44
  pointwise
  have he := e.isLt
  split
  · rename_i h
    exact congrArg (fun z : Fin 32 => x (ix2 z j)) (Fin.ext (Nat.mod_eq_of_lt h).symm)
  · rename_i h
    exact congrArg (fun z : Fin 32 => x (ix2 z j)) (Fin.ext (show e.val - 32 = e.val % 32 by omega))

variable (m : (ℓ : Loc nD τ sig) → Buf (Elt Ideal) ℓ) (ρ : Dev nD → PrngReg)

/-- The table of the cosines that the host lays out in rows: the angles' entries twice, then zeros. -/
theorem host_v2 (c : Dev nD) (p : Fin 8192) (d : Fin 128) : V m c main_v2 (ix2 p d)
    = (if d.val < 64 then V m c main_arg2 (ix2 (⟨d.val % 32, by omega⟩ : Fin 32) p) else 0 : EReal) := by
  have hd := d.isLt
  unfold V
  after_reads_at
  after_reads_at
  by_cases h1 : d.val < 32
  · have h2 : d.val < 64 := by omega
    simp only [h1, h2, dif_pos, if_true]
    exact congrArg (fun z : Fin 32 => m (c, Proc.tc.devRef main_arg2) (ix2 z p)) (Fin.ext (show d.val = d.val % 32 by omega))
  · by_cases h2 : d.val < 64
    · have h3 : d.val - 32 < 32 := by omega
      simp only [h1, h2, h3, dif_pos, dif_neg, if_true, not_false_eq_true]
      exact congrArg (fun z : Fin 32 => m (c, Proc.tc.devRef main_arg2) (ix2 z p)) (Fin.ext (show d.val - 32 = d.val % 32 by omega))
    · have h3 : ¬d.val - 32 < 32 := by omega
      simp only [h1, h2, h3, dif_neg, if_false, not_false_eq_true]

/-- The table of the sines that the host lays out in rows: the angles' entries twice, then zeros. -/
theorem host_v4 (c : Dev nD) (p : Fin 8192) (d : Fin 128) : V m c main_v4 (ix2 p d)
    = (if d.val < 64 then V m c main_arg3 (ix2 (⟨d.val % 32, by omega⟩ : Fin 32) p) else 0 : EReal) := by
  have hd := d.isLt
  unfold V
  after_reads_at
  after_reads_at
  by_cases h1 : d.val < 32
  · have h2 : d.val < 64 := by omega
    simp only [h1, h2, dif_pos, if_true]
    exact congrArg (fun z : Fin 32 => m (c, Proc.tc.devRef main_arg3) (ix2 z p)) (Fin.ext (show d.val = d.val % 32 by omega))
  · by_cases h2 : d.val < 64
    · have h3 : d.val - 32 < 32 := by omega
      simp only [h1, h2, h3, dif_pos, dif_neg, if_true, not_false_eq_true]
      exact congrArg (fun z : Fin 32 => m (c, Proc.tc.devRef main_arg3) (ix2 z p)) (Fin.ext (show d.val - 32 = d.val % 32 by omega))
    · have h3 : ¬d.val - 32 < 32 := by omega
      simp only [h1, h2, h3, dif_neg, if_false, not_false_eq_true]

/-- The laid out weights of the rotated lanes: themselves, then zeros. -/
theorem host_left (c : Dev nD) (l : Fin 2048) (d : Fin 128) : V m c main_v13 (ix3 1 l (⟨d.val, by omega⟩ : Fin 256))
    = (if d.val < 64 then V m c main_arg4 (ix3 1 l (⟨1024 + d.val % 64, by omega⟩ : Fin 1088)) else 0 : EReal) := by
  have hd := d.isLt
  unfold V
  after_reads_at
  after_reads_at
  by_cases h1 : d.val < 64
  · simp only [h1, dif_pos, if_true]
    exact congrArg (fun z : Fin 1088 => m (c, Proc.tc.devRef main_arg4) (ix3 1 l z)) (Fin.ext (show 1024 + d.val = 1024 + d.val % 64 by omega))
  · have h2 : d.val - 64 < 64 := by omega
    simp only [h1, h2, dif_pos, dif_neg, if_false, not_false_eq_true]

/-- The laid out weights of the rotated lanes: the second half negated, the first half, then zeros. -/
theorem host_right (c : Dev nD) (l : Fin 2048) (d : Fin 128) : V m c main_v13 (ix3 1 l (⟨128 + d.val, by omega⟩ : Fin 256))
    = (if d.val < 32 then Neg.neg (α := EReal) (V m c main_arg4 (ix3 1 l (⟨1056 + d.val % 32, by omega⟩ : Fin 1088)))
      else if d.val < 64 then V m c main_arg4 (ix3 1 l (⟨1024 + d.val % 32, by omega⟩ : Fin 1088)) else 0 : EReal) := by
  have hd := d.isLt
  unfold V
  after_reads_at
  after_reads_at
  have h0 : ¬128 + d.val < 64 := by omega
  have h1 : ¬128 + d.val - 64 < 64 := by omega
  by_cases h2 : d.val < 32
  · have h3 : 128 + d.val - 64 - 64 < 32 := by omega
    simp only [h0, h1, h2, h3, dif_pos, dif_neg, if_true, not_false_eq_true]
    exact congrArg (fun z : Fin 1088 => Neg.neg (α := EReal) (m (c, Proc.tc.devRef main_arg4) (ix3 1 l z))) (Fin.ext (show 1024 + (32 + (128 + d.val - 64 - 64)) = 1056 + d.val % 32 by omega))
  · have h3 : ¬128 + d.val - 64 - 64 < 32 := by omega
    by_cases h4 : d.val < 64
    · have h5 : 128 + d.val - 64 - 64 - 32 < 32 := by omega
      simp only [h0, h1, h2, h3, h4, h5, dif_pos, dif_neg, if_true, if_false, not_false_eq_true]
      exact congrArg (fun z : Fin 1088 => m (c, Proc.tc.devRef main_arg4) (ix3 1 l z)) (Fin.ext (show 1024 + (128 + d.val - 64 - 64 - 32) = 1024 + d.val % 32 by omega))
    · have h5 : ¬128 + d.val - 64 - 64 - 32 < 32 := by omega
      simp only [h0, h1, h2, h3, h4, h5, dif_neg, if_false, not_false_eq_true]

/-- The cast of the first projection's weights changes no entry. -/
theorem host_v5 (c : Dev nD) (l : Fin 2048) (k : Fin 1088) : V m c main_v5 (ix3 1 l k) = V m c main_arg4 (ix3 1 l k) := by
  unfold V
  after_reads_at

/-- Nor does the cast of the queries' weights. -/
theorem host_v6 (c : Dev nD) (l : Fin 512) (k : Fin 3072) : V m c main_v6 (ix3 1 l k) = V m c main_arg7 (ix3 1 l k) := by
  unfold V
  after_reads_at

/-- Nor does the cast of the keys' and values' weights. -/
theorem host_v7 (c : Dev nD) (l : Fin 512) (k : Fin 4096) : V m c main_v7 (ix3 1 l k) = V m c main_arg8 (ix3 1 l k) := by
  unfold V
  after_reads_at

end Cert.Kernel7Ideal.Hand

end
-- ==== Proof.ProjArr.lean ====
/- The arrays of the latent projections' kernel after its run: the queries, keys and values of its arguments, over the extended reals. -/
module

public import proofs.«01_k».proof.Proof.ProjValue

@[expose] public section

set_option maxRecDepth 16384

noncomputable section

namespace Cert.Kernel7Ideal.Hand

open Idealize.ShloMosaic Idealize.ShloMosaic.TcCoe Idealize.ShloMosaic.Tactic Idealize.SL.Sem
open Idealize.ShloMosaic.Pipeline (Dat Cfg Window)
open Cert.Kernel7Ideal.Gen Cert.Mlp Cert.Proj

variable (m : (ℓ : Loc nD τ sig) → Buf (Elt Ideal) ℓ) (ρ : Dev nD → PrngReg)

/-- Which block of the rows a point uses. -/
theorem e0 : ∀ t : Fin cfg0.N, win0_0.index t = ![t.val, 0] := (by decide +kernel : ∀ t : Fin grid0.N, _)
/-- Which block of the norm's factors a point uses. -/
theorem e1 : ∀ t : Fin cfg0.N, win0_1.index t = ![0, 0] := (by decide +kernel : ∀ t : Fin grid0.N, _)
/-- Which block of the cosines' columns a point uses. -/
theorem e2 : ∀ t : Fin cfg0.N, win0_2.index t = ![0, t.val] := (by decide +kernel : ∀ t : Fin grid0.N, _)
/-- Which block of the sines' columns a point uses. -/
theorem e3 : ∀ t : Fin cfg0.N, win0_3.index t = ![0, t.val] := (by decide +kernel : ∀ t : Fin grid0.N, _)
/-- Which block of the cosines' rows a point uses. -/
theorem e4 : ∀ t : Fin cfg0.N, win0_4.index t = ![t.val, 0] := (by decide +kernel : ∀ t : Fin grid0.N, _)
/-- Which block of the sines' rows a point uses. -/
theorem e5 : ∀ t : Fin cfg0.N, win0_5.index t = ![t.val, 0] := (by decide +kernel : ∀ t : Fin grid0.N, _)
/-- Which block of the first projection's weights a point uses. -/
theorem e6 : ∀ t : Fin cfg0.N, win0_6.index t = ![1, 0, 0] := (by decide +kernel : ∀ t : Fin grid0.N, _)
/-- Which block of the factors of the queries' norm a point uses. -/
theorem e7 : ∀ t : Fin cfg0.N, win0_7.index t = ![0, 0] := (by decide +kernel : ∀ t : Fin grid0.N, _)
/-- Which block of the factors of the keys' and values' norm a point uses. -/
theorem e8 : ∀ t : Fin cfg0.N, win0_8.index t = ![0, 0] := (by decide +kernel : ∀ t : Fin grid0.N, _)
/-- Which block of the rotated lanes' laid out weights a point uses. -/
theorem e9 : ∀ t : Fin cfg0.N, win0_9.index t = ![1, 0, 0] := (by decide +kernel : ∀ t : Fin grid0.N, _)
/-- Which block of the queries' weights a point uses. -/
theorem e10 : ∀ t : Fin cfg0.N, win0_10.index t = ![1, 0, 0] := (by decide +kernel : ∀ t : Fin grid0.N, _)
/-- Which block of the keys' and values' weights a point uses. -/
theorem e11 : ∀ t : Fin cfg0.N, win0_11.index t = ![1, 0, 0] := (by decide +kernel : ∀ t : Fin grid0.N, _)
/-- Which block of the queries' array a point uses. -/
theorem e12 : ∀ t : Fin cfg0.N, win0_12.index t = ![0, t.val] := (by decide +kernel : ∀ t : Fin grid0.N, _)
/-- Which block of the keys' array a point uses. -/
theorem e13 : ∀ t : Fin cfg0.N, win0_13.index t = ![t.val, 0] := (by decide +kernel : ∀ t : Fin grid0.N, _)
/-- Which block of the values' array a point uses. -/
theorem e14 : ∀ t : Fin cfg0.N, win0_14.index t = ![t.val, 0, 0] := (by decide +kernel : ∀ t : Fin grid0.N, _)

/-- There are sixteen grid points. -/
theorem N16 (t : Fin cfg0.N) : t.val < 16 := t.isLt

/-- The rows at coordinates. -/
abbrev X (c : Dev nD) (p : Fin 8192) (j : Fin 2048) : EReal := V m c main_arg0 (ix2 p j)
/-- The norm's factors at coordinates. -/
abbrev G (c : Dev nD) (j : Fin 2048) : EReal := V m c main_arg1 (ix2 0 j)
/-- The angles' cosines at coordinates. -/
abbrev Cs (c : Dev nD) (e : Fin 32) (p : Fin 8192) : EReal := V m c main_arg2 (ix2 e p)
/-- The angles' sines at coordinates. -/
abbrev Sn (c : Dev nD) (e : Fin 32) (p : Fin 8192) : EReal := V m c main_arg3 (ix2 e p)
/-- The first projection's weights at coordinates. -/
abbrev Wi (c : Dev nD) (l : Fin 2048) (k : Fin 1088) : EReal := V m c main_arg4 (ix3 1 l k)
/-- The factors of the queries' norm at coordinates. -/
abbrev QG (c : Dev nD) (j : Fin 512) : EReal := V m c main_arg5 (ix2 0 j)
/-- The factors of the keys' and values' norm at coordinates. -/
abbrev KG (c : Dev nD) (j : Fin 512) : EReal := V m c main_arg6 (ix2 0 j)
/-- The queries' weights at coordinates. -/
abbrev WQ (c : Dev nD) (l : Fin 512) (k : Fin 3072) : EReal := V m c main_arg7 (ix3 1 l k)
/-- The keys' and values' weights at coordinates. -/
abbrev WK (c : Dev nD) (l : Fin 512) (k : Fin 4096) : EReal := V m c main_arg8 (ix3 1 l k)

/-- The row of the whole array that row `r` of a point's block is. -/
abbrev row (n : ℕ) (r : Fin 512) : Fin 8192 := ⟨(512 * n + r.val) % 8192, by omega⟩

/-- An entry of a point's block of the rows. -/
theorem blk0 (c : Dev nD) (t : Fin cfg0.N) (r : Fin 512) (j : Fin 2048) : iblk m c 0 t (ix2 r j) = X m c (row t.val r) j := by
  have ht := N16 t
  blk_simp [iblk]
  refine congrArg (V m c main_arg0) ?_
  blk_ext [e0]

/-- An entry of a point's block of the norm's factors. -/
theorem blk1 (c : Dev nD) (t : Fin cfg0.N) (j : Fin 2048) : iblk m c 1 t (ix2 0 j) = G m c j := by
  have ht := N16 t
  blk_simp [iblk]
  refine congrArg (V m c main_arg1) ?_
  blk_ext [e1]

/-- An entry of a point's block of the cosines' columns. -/
theorem blk2 (c : Dev nD) (t : Fin cfg0.N) (e : Fin 32) (r : Fin 512) : iblk m c 2 t (ix2 e r) = Cs m c e (row t.val r) := by
  have ht := N16 t
  blk_simp [iblk]
  refine congrArg (V m c main_arg2) ?_
  blk_ext [e2]

/-- An entry of a point's block of the sines' columns. -/
theorem blk3 (c : Dev nD) (t : Fin cfg0.N) (e : Fin 32) (r : Fin 512) : iblk m c 3 t (ix2 e r) = Sn m c e (row t.val r) := by
  have ht := N16 t
  blk_simp [iblk]
  refine congrArg (V m c main_arg3) ?_
  blk_ext [e3]

/-- An entry of a point's block of the cosines' rows. -/
theorem blk4 (c : Dev nD) (t : Fin cfg0.N) (r : Fin 512) (d : Fin 128) : iblk m c 4 t (ix2 r d) = (if d.val < 64 then Cs m c ⟨d.val % 32, by omega⟩ (row t.val r) else 0 : EReal) := by
  have ht := N16 t
  refine Eq.trans ?_ (host_v2 m c (row t.val r) d)
  blk_simp [iblk]
  refine congrArg (V m c main_v2) ?_
  blk_ext [e4]

/-- An entry of a point's block of the sines' rows. -/
theorem blk5 (c : Dev nD) (t : Fin cfg0.N) (r : Fin 512) (d : Fin 128) : iblk m c 5 t (ix2 r d) = (if d.val < 64 then Sn m c ⟨d.val % 32, by omega⟩ (row t.val r) else 0 : EReal) := by
  have ht := N16 t
  refine Eq.trans ?_ (host_v4 m c (row t.val r) d)
  blk_simp [iblk]
  refine congrArg (V m c main_v4) ?_
  blk_ext [e5]

/-- An entry of a point's block of the first projection's weights. -/
theorem blk6 (c : Dev nD) (t : Fin cfg0.N) (l : Fin 2048) (k : Fin 1088) : iblk m c 6 t (ix3 0 l k) = Wi m c l k := by
  have ht := N16 t
  refine Eq.trans ?_ (host_v5 m c l k)
  blk_simp [iblk]
  refine congrArg (V m c main_v5) ?_
  blk_ext [e6]

/-- An entry of a point's block of the factors of the queries' norm. -/
theorem blk7 (c : Dev nD) (t : Fin cfg0.N) (j : Fin 512) : iblk m c 7 t (ix2 0 j) = QG m c j := by
  have ht := N16 t
  blk_simp [iblk]
  refine congrArg (V m c main_arg5) ?_
  blk_ext [e7]

/-- An entry of a point's block of the factors of the keys' and values' norm. -/
theorem blk8 (c : Dev nD) (t : Fin cfg0.N) (j : Fin 512) : iblk m c 8 t (ix2 0 j) = KG m c j := by
  have ht := N16 t
  blk_simp [iblk]
  refine congrArg (V m c main_arg6) ?_
  blk_ext [e8]

/-- An entry of a point's block of the rotated lanes' laid out weights. -/
theorem blk9 (c : Dev nD) (t : Fin cfg0.N) (l : Fin 2048) (k : Fin 256) : iblk m c 9 t (ix3 0 l k) = V m c main_v13 (ix3 1 l k) := by
  have ht := N16 t
  blk_simp [iblk]
  refine congrArg (V m c main_v13) ?_
  blk_ext [e9]

/-- An entry of a point's block of the queries' weights. -/
theorem blk10 (c : Dev nD) (t : Fin cfg0.N) (l : Fin 512) (k : Fin 3072) : iblk m c 10 t (ix3 0 l k) = WQ m c l k := by
  have ht := N16 t
  refine Eq.trans ?_ (host_v6 m c l k)
  blk_simp [iblk]
  refine congrArg (V m c main_v6) ?_
  blk_ext [e10]

/-- An entry of a point's block of the keys' and values' weights. -/
theorem blk11 (c : Dev nD) (t : Fin cfg0.N) (l : Fin 512) (k : Fin 4096) : iblk m c 11 t (ix3 0 l k) = WK m c l k := by
  have ht := N16 t
  refine Eq.trans ?_ (host_v7 m c l k)
  blk_simp [iblk]
  refine congrArg (V m c main_v7) ?_
  blk_ext [e11]

/-- The copied columns of the weights, for either kind. -/
def S (c : Dev nD) (o : ℕ) : Vec Ideal S512x2048 .bf16 := fun y =>
  WK m c (y 0 : Fin 512) (⟨(256 * ((y 1).val / 128) + o + (y 1).val % 128) % 4096, Nat.mod_lt _ (by omega)⟩ : Fin 4096)

/-- At every point the copied columns are those of the weights. -/
theorem copied (c : Dev nD) (t : Fin cfg0.N) (o : ℕ) : Gs (iblk m c 11 t) o = S m c o := funext fun y => blk11 m c t _ _

/-- The block of the first projection's weights that both latent halves use. -/
theorem ld_w (x : Vec Ideal S1x2048x1088 .bf16) (l : Fin 2048) (k : Fin 1024) : ldDown x (ix3 0 l k) = x (ix3 0 l (⟨k.val, by omega⟩ : Fin 1088)) :=
  View.ld_unit_apply_of x _ _ _ _ _ fun a => by fin_cases a <;> simp [ix3]

/-- The first projection of a point's rows. -/
theorem down_blk (c : Dev nD) (t : Fin cfg0.N) (r : Fin 512) (k : Fin 1024) :
    k0_pay37 (iblk m c 0 t) (iblk m c 1 t) (ldDown (iblk m c 6 t)) (ix2 r k) = down (X m c) (G m c) (Wi m c) (row t.val r) ⟨k.val, by omega⟩ := by
  refine (down_apply _ _ _ r k).trans ?_
  rw [funext fun l => blk0 m c t r l, funext fun l => blk1 m c t l]
  exact Finset.sum_congr rfl fun l _ => congrArg _ ((ld_w _ l k).trans (blk6 m c t l _))

/-- The up-projected queries of a point's rows. -/
theorem q_blk (c : Dev nD) (t : Fin cfg0.N) (n : Fin 3072) (r : Fin 512) :
    qB (iblk m c 0 t) (iblk m c 1 t) (iblk m c 6 t) (iblk m c 7 t) (iblk m c 10 t) (ix2 n r) = up_q (X m c) (G m c) (Wi m c) (QG m c) (WQ m c) (row t.val r) n := by
  refine (q_apply _ _ _ n r).trans ?_
  rw [funext fun l => (left_apply (iblk m c 0 t) (iblk m c 1 t) (ldDown (iblk m c 6 t)) r l).trans (down_blk m c t r _), funext fun l => blk7 m c t l]
  exact Finset.sum_congr rfl fun l _ => (congrArg (fun z : EReal => z * (_ : EReal)) (blk10 m c t l n)).trans (mul_comm (_ : EReal) _)

/-- The normed latent rows of a point. -/
theorem c_blk (c : Dev nD) (t : Fin cfg0.N) (r j : Fin 512) :
    cB (iblk m c 0 t) (iblk m c 1 t) (iblk m c 6 t) (iblk m c 8 t) (ix2 r j)
      = rms512 (fun j => down (X m c) (G m c) (Wi m c) (row t.val r) ⟨512 + j.val, by omega⟩) (KG m c) j := by
  refine (c_apply _ _ r j).trans ?_
  rw [funext fun l => (right_apply (iblk m c 0 t) (iblk m c 1 t) (ldDown (iblk m c 6 t)) r l).trans (down_blk m c t r _), funext fun l => blk8 m c t l]

/-- The up-projected keys of a point's rows. -/
theorem k_blk (c : Dev nD) (t : Fin cfg0.N) (r : Fin 512) (n : Fin 2048) :
    k0_pay82 (cB (iblk m c 0 t) (iblk m c 1 t) (iblk m c 6 t) (iblk m c 8 t)) (S m c 0) (ix2 r n)
      = up_kv (X m c) (G m c) (Wi m c) (KG m c) (WK m c) (row t.val r) (Fin.ofNat 4096 (256 * (n.val / 128) + 0 + n.val % 128)) := by
  refine (k_apply _ _ r n).trans ?_
  exact Finset.sum_congr rfl fun l _ => congrArg (· * _) (c_blk m c t r l)

/-- The up-projected values of a point's rows. -/
theorem v_blk (c : Dev nD) (t : Fin cfg0.N) (n : Fin 2048) (r : Fin 512) :
    k0_pay99 (cB (iblk m c 0 t) (iblk m c 1 t) (iblk m c 6 t) (iblk m c 8 t)) (S m c 128) (ix2 n r)
      = up_kv (X m c) (G m c) (Wi m c) (KG m c) (WK m c) (row t.val r) (Fin.ofNat 4096 (256 * (n.val / 128) + 128 + n.val % 128)) := by
  refine (v_apply _ _ n r).trans ?_
  exact Finset.sum_congr rfl fun l _ => (congrArg (_ * ·) (c_blk m c t r l)).trans (mul_comm _ _)

/-- What the precondition says: the norm's factors and the negated weights are reals. -/
structure Ok (c : Dev nD) : Prop where
  g : ∀ j, ∃ r : ℝ, G m c j = r
  w : ∀ (l : Fin 2048) (k : Fin 32), ∃ r : ℝ, Wi m c l ⟨1056 + k.val, by omega⟩ = r

/-- The shared rotated lanes of a point's rows. -/
theorem pe_blk (c : Dev nD) (H : Ok m c) (t : Fin cfg0.N) (r : Fin 512) (d : Fin 128) :
    k0_pay40 (iblk m c 0 t) (iblk m c 1 t) (iblk m c 9 t) (iblk m c 4 t) (iblk m c 5 t) (ix2 r d)
      = (if d.val < 64 then rope (fun e => down (X m c) (G m c) (Wi m c) (row t.val r) (Fin.ofNat 1088 (1024 + e))) (fun e => Cs m c e (row t.val r)) (fun e => Sn m c e (row t.val r)) d.val
        else 0 : EReal) := by
  have hd := d.isLt
  refine (kpe_apply _ _ _ _ _ r d).trans ?_
  rw [funext fun l => blk0 m c t r l, funext fun l => blk1 m c t l, blk4, blk5]
  have aL (l : Fin 2048) := (blk9 m c t l (⟨d.val, by omega⟩ : Fin 256)).trans (host_left m c l d)
  have aR (l : Fin 2048) := (blk9 m c t l (⟨128 + d.val, by omega⟩ : Fin 256)).trans (host_right m c l d)
  simp only [aL, aR]
  by_cases h1 : d.val < 32
  · have h2 : d.val < 64 := by omega
    simp only [h1, h2, if_true]
    rw [sum_neg _ _ (fun l => Wi m c l ⟨1056 + d.val % 32, by omega⟩) H.g (fun l => H.w l ⟨d.val % 32, by omega⟩), EReal.neg_mul, ← sub_eq_add_neg, rope, if_pos h1]
    have i1 : (⟨1024 + d.val % 64, by omega⟩ : Fin 1088) = Fin.ofNat 1088 (1024 + d.val) := Fin.ext (by simp only [Fin.ofNat]; omega)
    have i2 : (⟨1056 + d.val % 32, by omega⟩ : Fin 1088) = Fin.ofNat 1088 (1024 + (d.val + 32)) := Fin.ext (by simp only [Fin.ofNat]; omega)
    rw [i1, i2]
    rfl
  · by_cases h2 : d.val < 64
    · simp only [h1, h2, if_true, if_false]
      rw [rope, if_neg h1]
      have i1 : (⟨1024 + d.val % 64, by omega⟩ : Fin 1088) = Fin.ofNat 1088 (1024 + d.val) := Fin.ext (by simp only [Fin.ofNat]; omega)
      have i2 : (⟨1024 + d.val % 32, by omega⟩ : Fin 1088) = Fin.ofNat 1088 (1024 + (d.val - 32)) := Fin.ext (by simp only [Fin.ofNat]; omega)
      rw [i1, i2]
      rfl
    · simp only [h1, h2, if_false, mul_zero, add_zero]

/-- After each point the scratch buffers hold the copied weights, and the outputs the point's blocks. -/
theorem outs (c : Dev nD) : ∀ (n : ℕ) (h : n < cfg0.N),
    (outsAt0 m c n h).2.2.2.1 = S m c 0 ∧ (outsAt0 m c n h).2.2.2.2 = S m c 128 ∧
    (outsAt0 m c n h).1 = Gq (qB (iblk m c 0 ⟨n, h⟩) (iblk m c 1 ⟨n, h⟩) (iblk m c 6 ⟨n, h⟩) (iblk m c 7 ⟨n, h⟩) (iblk m c 10 ⟨n, h⟩)) (k0_pay43 (iblk m c 2 ⟨n, h⟩)) (k0_pay44 (iblk m c 3 ⟨n, h⟩)) ∧
    (outsAt0 m c n h).2.1 = Gk (k0_pay82 (cB (iblk m c 0 ⟨n, h⟩) (iblk m c 1 ⟨n, h⟩) (iblk m c 6 ⟨n, h⟩) (iblk m c 8 ⟨n, h⟩)) (S m c 0))
      (k0_pay40 (iblk m c 0 ⟨n, h⟩) (iblk m c 1 ⟨n, h⟩) (iblk m c 9 ⟨n, h⟩) (iblk m c 4 ⟨n, h⟩) (iblk m c 5 ⟨n, h⟩)) ∧
    (outsAt0 m c n h).2.2.1 = Gv (k0_pay99 (cB (iblk m c 0 ⟨n, h⟩) (iblk m c 1 ⟨n, h⟩) (iblk m c 6 ⟨n, h⟩) (iblk m c 8 ⟨n, h⟩)) (S m c 128)) := by
  intro n
  induction n using Nat.strong_induction_on with
  | _ n ih =>
    intro h
    by_cases h0 : n % 16 = 0
    · rw [outsAt0_A m c ⟨n, h⟩ h0]
      dsimp only
      rw [sout_0, sout_1, out_q_A, out_k_A, out_v_A, copied, copied]
      exact ⟨rfl, rfl, rfl, rfl, rfl⟩
    · obtain ⟨i1, i2, -⟩ := ih (n - 1) (by omega) (by omega)
      rw [outsAt0_B m c ⟨n, h⟩ h0]
      dsimp only
      rw [out_q_B, out_k_B, out_v_B]
      exact ⟨i1, i2, rfl, by rw [i1], by rw [i2]⟩

/-- An entry of a block of the queries. -/
theorem Gq_apply (Q : Vec Ideal S3072x512 .f32) (C S : Vec Ideal S64x512 .f32) (n : Fin 4096) (r : Fin 512) : Gq Q C S (ix2 n r)
    = (if n.val % 256 < 128 then Q (ix2 (Fin.ofNat 3072 (192 * (n.val / 256) + n.val % 256)) r) * σ
      else if n.val % 256 < 192 then (Q (ix2 (Fin.ofNat 3072 (192 * (n.val / 256) + n.val % 256)) r) * C (ix2 (Fin.ofNat 64 (n.val % 256 - 128)) r)
        + (if n.val % 256 < 160 then 0 - Q (ix2 (Fin.ofNat 3072 (192 * (n.val / 256) + n.val % 256 + 32)) r)
          else Q (ix2 (Fin.ofNat 3072 (192 * (n.val / 256) + n.val % 256 - 32)) r)) * S (ix2 (Fin.ofNat 64 (n.val % 256 - 128)) r)) * σ
      else Scalar.ofBits (F := Ideal) .bf16 0x0000#16 : EReal) := rfl

/-- An entry of a block of the keys. -/
theorem Gk_apply (K : Vec Ideal S512x2048 .bf16) (P : Vec Ideal S512x128 .bf16) (r : Fin 512) (n : Fin 4096) : Gk K P (ix2 r n)
    = (if n.val % 256 < 128 then K (ix2 r (Fin.ofNat 2048 (128 * (n.val / 256) + n.val % 256))) else P (ix2 r (Fin.ofNat 128 (n.val % 256 - 128))) : EReal) := rfl

/-- An entry of a block of the values. -/
theorem Gv_apply (W : Vec Ideal S2048x512 .bf16) (n : Fin 2304) (r : Fin 512) : Gv W (ix3 0 n r)
    = (if n.val % 144 < 128 then W (ix2 (Fin.ofNat 2048 (128 * (n.val / 144) + n.val % 144)) r) else Scalar.ofBits (F := Ideal) .bf16 0x3F80#16 : EReal) := rfl

/-- The cosine of a rotated lane of a point's row. -/
theorem cos_blk (c : Dev nD) (t : Fin cfg0.N) (e : ℕ) (he : e < 64) (r : Fin 512) : k0_pay43 (iblk m c 2 t) (ix2 (Fin.ofNat 64 e) r) = Cs m c (Fin.ofNat 32 e) (row t.val r) := by
  refine (cos_apply _ _ r).trans ((blk2 m c t _ r).trans ?_)
  exact congrArg (fun z => Cs m c z (row t.val r)) (Fin.ext (by simp only [Fin.ofNat]; omega))

/-- The sine of a rotated lane of a point's row. -/
theorem sin_blk (c : Dev nD) (t : Fin cfg0.N) (e : ℕ) (he : e < 64) (r : Fin 512) : k0_pay44 (iblk m c 3 t) (ix2 (Fin.ofNat 64 e) r) = Sn m c (Fin.ofNat 32 e) (row t.val r) := by
  refine (sin_apply _ _ r).trans ((blk3 m c t _ r).trans ?_)
  exact congrArg (fun z => Sn m c z (row t.val r)) (Fin.ext (by simp only [Fin.ofNat]; omega))

/-- An entry of a point's block of the queries. -/
theorem queries_blk (c : Dev nD) (t : Fin cfg0.N) (n : Fin 4096) (r : Fin 512) :
    Gq (qB (iblk m c 0 t) (iblk m c 1 t) (iblk m c 6 t) (iblk m c 7 t) (iblk m c 10 t)) (k0_pay43 (iblk m c 2 t)) (k0_pay44 (iblk m c 3 t)) (ix2 n r)
      = queries (X m c) (G m c) (Cs m c) (Sn m c) (Wi m c) (QG m c) (WQ m c) n (row t.val r) := by
  rw [Gq_apply, queries]
  have hd : n.val % 256 < 256 := Nat.mod_lt _ (by omega)
  generalize n.val / 256 = h
  generalize n.val % 256 = d at hd
  dsimp only
  have q (k : ℕ) := q_blk m c t (Fin.ofNat 3072 k) r
  by_cases h1 : d < 128
  · simp only [h1, if_true]
    exact congrArg (· * _) (q _)
  · by_cases h2 : d < 192
    · obtain ⟨e, rfl⟩ : ∃ e, d = 128 + e := ⟨d - 128, by omega⟩
      have he : e < 64 := by omega
      simp only [h1, h2, if_true, if_false, Nat.add_sub_cancel_left]
      rw [cos_blk m c t e he, sin_blk m c t e he, q, q, q, rope_eq]
      by_cases h3 : e < 32
      · have h4 : 128 + e < 160 := by omega
        simp only [h3, h4, if_true, ← Nat.add_assoc]
        rfl
      · have h4 : ¬128 + e < 160 := by omega
        simp only [h3, h4, if_false]
        rw [show 192 * h + (128 + e) - 32 = 192 * h + (128 + (e - 32)) by omega]
        rfl
    · simp only [h1, h2, if_false]
      exact Ideal.ofBits_zero _

/-- An entry of a point's block of the keys. -/
theorem keys_blk (c : Dev nD) (H : Ok m c) (t : Fin cfg0.N) (r : Fin 512) (n : Fin 4096) :
    Gk (k0_pay82 (cB (iblk m c 0 t) (iblk m c 1 t) (iblk m c 6 t) (iblk m c 8 t)) (S m c 0)) (k0_pay40 (iblk m c 0 t) (iblk m c 1 t) (iblk m c 9 t) (iblk m c 4 t) (iblk m c 5 t)) (ix2 r n)
      = keys (X m c) (G m c) (Cs m c) (Sn m c) (Wi m c) (KG m c) (WK m c) (row t.val r) n := by
  rw [Gk_apply, keys]
  have hd : n.val % 256 < 256 := Nat.mod_lt _ (by omega)
  have hh : n.val / 256 < 16 := by omega
  generalize n.val / 256 = h at hh
  generalize n.val % 256 = d at hd
  by_cases h1 : d < 128
  · simp only [h1, if_true]
    refine (k_blk m c t r _).trans (congrArg _ (Fin.ext ?_))
    simp only [Fin.ofNat]
    omega
  · have h2 : (Fin.ofNat 128 (d - 128)).val = d - 128 := Nat.mod_eq_of_lt (by omega)
    simp only [h1, if_false]
    refine (pe_blk m c H t r _).trans ?_
    rw [h2]
    by_cases h3 : d < 192
    · rw [if_pos (by omega), if_pos h3]
    · rw [if_neg (by omega), if_neg h3]

/-- An entry of a point's block of the values. -/
theorem values_blk (c : Dev nD) (t : Fin cfg0.N) (n : Fin 2304) (r : Fin 512) :
    Gv (k0_pay99 (cB (iblk m c 0 t) (iblk m c 1 t) (iblk m c 6 t) (iblk m c 8 t)) (S m c 128)) (ix3 0 n r)
      = values (X m c) (G m c) (Wi m c) (KG m c) (WK m c) (row t.val r) n := by
  rw [Gv_apply, values]
  have hd : n.val % 144 < 144 := Nat.mod_lt _ (by omega)
  have hh : n.val / 144 < 16 := by omega
  generalize n.val / 144 = h at hh
  generalize n.val % 144 = d at hd
  by_cases h1 : d < 128
  · simp only [h1, if_true]
    refine (v_blk m c t _ r).trans (congrArg _ (Fin.ext ?_))
    simp only [Fin.ofNat]
    omega
  · simp only [h1, if_false]
    simp [Scalar.ofBits, Ideal.ofBits, Ideal.ieee]
    rw [← EReal.coe_mul]
    norm_num

/-- The first result is the queries. -/
abbrev result0 (c : Dev nD) : Buf (Elt Ideal) ((c.tc : Thread nD τ).loc main_v14_0) :=
  fun i => queries (X m c) (G m c) (Cs m c) (Sn m c) (Wi m c) (QG m c) (WQ m c) (i 0) (i 1)
/-- The second result is the keys. -/
abbrev result1 (c : Dev nD) : Buf (Elt Ideal) ((c.tc : Thread nD τ).loc main_v14_1) :=
  fun i => keys (X m c) (G m c) (Cs m c) (Sn m c) (Wi m c) (KG m c) (WK m c) (i 0) (i 1)
/-- The third result is the values, in chunks of 512 rows. -/
abbrev result2 (c : Dev nD) : Buf (Elt Ideal) ((c.tc : Thread nD τ).loc main_v14_2) :=
  fun i => values (X m c) (G m c) (Wi m c) (KG m c) (WK m c) (Fin.ofNat 8192 (512 * (i 0).val + (i 2).val)) (i 1)

/-- The queries' array after the run. -/
theorem arr12 (c : Dev nD) : (dats m 0 c).arrAt 12 cfg0.N = result0 m c := by
  refine (dats m 0 c).arrAt_eq_of_covers 12 _ (by decide +kernel) fun t hf y => ?_
  blk_simp
  rw [after0_12]
  have ht := N16 t
  have h0 : (y 0).val < 4096 := (y 0).isLt
  have h1 : (y 1).val < 512 := (y 1).isLt
  have r0 : ((win0_12.blk t).view.emb y 0 : ℕ) = (y 0).val := by blk_simp [e12]
  have r1 : ((win0_12.blk t).view.emb y 1 : ℕ) = t.val * 512 + (y 1).val := by blk_simp [e12]
  have hy : y = ix2 (⟨(y 0).val, h0⟩ : Fin 4096) (⟨(y 1).val, h1⟩ : Fin 512) := by
    funext a; fin_cases a <;> rfl
  refine (congrFun (outs m c t.val t.isLt).2.2.1 y).trans ((congrArg _ hy).trans ((queries_blk m c t ⟨(y 0).val, h0⟩ ⟨(y 1).val, h1⟩).trans ?_))
  have q0 : (win0_12.blk t).view.emb y 0 = (⟨(y 0).val, h0⟩ : Fin 4096) := Fin.ext r0
  have q1 : (win0_12.blk t).view.emb y 1 = row t.val ⟨(y 1).val, h1⟩ := by apply Fin.ext; simp only [r1]; omega
  show _ = queries _ _ _ _ _ _ _ _ _
  rw [← q0, ← q1]

/-- The keys' array after the run. -/
theorem arr13 (c : Dev nD) (H : Ok m c) : (dats m 0 c).arrAt 13 cfg0.N = result1 m c := by
  refine (dats m 0 c).arrAt_eq_of_covers 13 _ (by decide +kernel) fun t hf y => ?_
  blk_simp
  rw [after0_13]
  have ht := N16 t
  have h0 : (y 0).val < 512 := (y 0).isLt
  have h1 : (y 1).val < 4096 := (y 1).isLt
  have r0 : ((win0_13.blk t).view.emb y 0 : ℕ) = t.val * 512 + (y 0).val := by blk_simp [e13]
  have r1 : ((win0_13.blk t).view.emb y 1 : ℕ) = (y 1).val := by blk_simp [e13]
  have hy : y = ix2 (⟨(y 0).val, h0⟩ : Fin 512) (⟨(y 1).val, h1⟩ : Fin 4096) := by
    funext a; fin_cases a <;> rfl
  refine (congrFun (outs m c t.val t.isLt).2.2.2.1 y).trans ((congrArg _ hy).trans ((keys_blk m c H t ⟨(y 0).val, h0⟩ ⟨(y 1).val, h1⟩).trans ?_))
  have q0 : (win0_13.blk t).view.emb y 0 = row t.val ⟨(y 0).val, h0⟩ := by apply Fin.ext; simp only [r0]; omega
  have q1 : (win0_13.blk t).view.emb y 1 = (⟨(y 1).val, h1⟩ : Fin 4096) := Fin.ext r1
  show _ = keys _ _ _ _ _ _ _ _ _
  rw [← q0, ← q1]

/-- The values' array after the run. -/
theorem arr14 (c : Dev nD) : (dats m 0 c).arrAt 14 cfg0.N = result2 m c := by
  refine (dats m 0 c).arrAt_eq_of_covers 14 _ (by decide +kernel) fun t hf y => ?_
  blk_simp
  rw [after0_14]
  have ht := N16 t
  have h0 : (y 0).val < 1 := (y 0).isLt
  have h1 : (y 1).val < 2304 := (y 1).isLt
  have h2 : (y 2).val < 512 := (y 2).isLt
  have r0 : ((win0_14.blk t).view.emb y 0 : ℕ) = t.val := by blk_simp [e14]
  have r1 : ((win0_14.blk t).view.emb y 1 : ℕ) = (y 1).val := by blk_simp [e14]
  have r2 : ((win0_14.blk t).view.emb y 2 : ℕ) = (y 2).val := by blk_simp [e14]
  have hy : y = ix3 (0 : Fin 1) (⟨(y 1).val, h1⟩ : Fin 2304) (⟨(y 2).val, h2⟩ : Fin 512) := by
    funext a
    fin_cases a
    · exact Fin.ext (by show (y 0).val = 0; omega)
    · rfl
    · rfl
  refine (congrFun (outs m c t.val t.isLt).2.2.2.2 y).trans ((congrArg _ hy).trans ((values_blk m c t ⟨(y 1).val, h1⟩ ⟨(y 2).val, h2⟩).trans ?_))
  have q1 : (win0_14.blk t).view.emb y 1 = (⟨(y 1).val, h1⟩ : Fin 2304) := Fin.ext r1
  have q0 : Fin.ofNat 8192 (512 * ((win0_14.blk t).view.emb y 0 : ℕ) + ((win0_14.blk t).view.emb y 2 : ℕ)) = row t.val ⟨(y 2).val, h2⟩ := by
    apply Fin.ext; simp only [r0, r2, Fin.ofNat]
  show _ = values _ _ _ _ _ _ _
  rw [← q0, ← q1]

/-- The run: the results are the queries, keys and values of the arguments, and the arguments end unchanged. -/
theorem run_all (H : ∀ c, Ok m c) : θ_run defs (onTc (τ := τ) (main (F := Ideal))) ⟨m, fun _ => 0, ρ⟩ fun r => ∀ c : Dev nD,
    r.2.mem ((c.tc : Thread nD τ).loc main_v14_0) = result0 m c
    ∧ r.2.mem ((c.tc : Thread nD τ).loc main_v14_1) = result1 m c
    ∧ r.2.mem ((c.tc : Thread nD τ).loc main_v14_2) = result2 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  (θ_run defs _ _).mono (fun _ h c => ⟨((h.2 c).1 12).trans (arr12 m c), ((h.2 c).1 13).trans (arr13 m c (H c)), ((h.2 c).1 14).trans (arr14 m c), h.1 c⟩) (θ_run_and (unchanged m ρ) (run_main m ρ))

end Cert.Kernel7Ideal.Hand

end
-- ==== Proof.ProjRef.lean ====
/- The reference of the latent projections' call: its norms and projections, over the extended reals. -/
module

public import proofs.«01_k».proof.Proof.ProjSpec
public import proofs.«01_k».proof.Proof.Gen.Reference7Ideal.Read
public import Idealize.ShloMosaic.Lib.Pointwise

@[expose] public section

set_option maxRecDepth 16384

noncomputable section

namespace Cert.Reference7Ideal.Hand

open Idealize.ShloMosaic Idealize.ShloMosaic.TcCoe
open Cert.Reference7Ideal.Read Cert.Mlp Cert.Proj

variable (x : Vec Ideal S8192x2048 .f32) (g : Vec Ideal S1x2048 .f32) (cs sn : Vec Ideal S32x8192 .f32) (wi : Vec Ideal S2x2048x1088 .f32)
  (qg kg : Vec Ideal S1x512 .f32) (wq : Vec Ideal S2x512x3072 .f32) (wk : Vec Ideal S2x512x4096 .f32)

/-- The rows at coordinates. -/
abbrev X (p : Fin 8192) (j : Fin 2048) : EReal := x (ix2 p j)
/-- The norm's factors at coordinates. -/
abbrev G (j : Fin 2048) : EReal := g (ix2 0 j)
/-- The angles' cosines or sines at coordinates. -/
abbrev A (e : Fin 32) (p : Fin 8192) : EReal := cs (ix2 e p)
/-- The first projection's weights at coordinates. -/
abbrev Wi (l : Fin 2048) (k : Fin 1088) : EReal := wi (ix3 1 l k)
/-- The factors of a latent norm at coordinates. -/
abbrev L (j : Fin 512) : EReal := qg (ix2 0 j)
/-- The queries' weights at coordinates. -/
abbrev WQ (l : Fin 512) (k : Fin 3072) : EReal := wq (ix3 1 l k)
/-- The keys' and values' weights at coordinates. -/
abbrev WK (l : Fin 512) (k : Fin 4096) : EReal := wk (ix3 1 l k)

/-- The norm. -/
theorem norm_ref (p : Fin 8192) (j : Fin 2048) : val_main_v13 (F := Ideal) x g (ix2 p j) = rms (X x p) (G g) j := by
  pointwise [val_main_v13, val_main_v12, val_main_v11, val_main_v10, val_main_v9, val_main_v8, val_main_v7, val_main_v6, val_main_v5, val_main_v4, val_main_v3, val_main_v2, val_main_cst, val_main_cst_0, val_main_cst_1]
  rfl

/-- The first projection. -/
theorem down_ref (p : Fin 8192) (k : Fin 1088) : val_main_v16 (F := Ideal) x g wi (ix2 p k) = down (X x) (G g) (Wi wi) p k := by
  pointwise [val_main_v16, val_main_v15, val_main_v14]
  simp only [norm_ref]
  rfl

/-- The queries' half of the first projection. -/
theorem left_ref (p : Fin 8192) (k : Fin 512) : val_main_v17 (F := Ideal) x g wi (ix2 p k) = down (X x) (G g) (Wi wi) p ⟨k.val, by omega⟩ := by
  rw [val_main_v17_apply, ← down_ref]
  congr 1; funext a; apply Fin.ext; fin_cases a <;> simp [idx_main_v17, ix2]

/-- The keys' and values' half of the first projection. -/
theorem mid_ref (p : Fin 8192) (k : Fin 512) : val_main_v18 (F := Ideal) x g wi (ix2 p k) = down (X x) (G g) (Wi wi) p ⟨512 + k.val, by omega⟩ := by
  rw [val_main_v18_apply, ← down_ref]
  congr 1; funext a; apply Fin.ext; fin_cases a <;> simp [idx_main_v18, ix2]

/-- The rotated lanes of the first projection. -/
theorem pe_ref (p : Fin 8192) (k : Fin 64) : val_main_v19 (F := Ideal) x g wi (ix2 p k) = down (X x) (G g) (Wi wi) p ⟨1024 + k.val, by omega⟩ := by
  rw [val_main_v19_apply, ← down_ref]
  congr 1; funext a; apply Fin.ext; fin_cases a <;> simp [idx_main_v19, ix2]

/-- The queries' latent norm. -/
theorem cq_ref (p : Fin 8192) (j : Fin 512) : val_main_v31 (F := Ideal) x g wi qg (ix2 p j)
    = rms512 (fun j => down (X x) (G g) (Wi wi) p ⟨j.val, by omega⟩) (L qg) j := by
  simp only [← left_ref]
  pointwise [val_main_v31, val_main_v30, val_main_v29, val_main_v28, val_main_v27, val_main_v26, val_main_v25, val_main_v24, val_main_v23, val_main_v22, val_main_v21, val_main_v20, val_main_cst_2, val_main_cst_3, val_main_cst_4]
  rfl

/-- The up-projected queries. -/
theorem q_ref (p : Fin 8192) (k : Fin 3072) : val_main_v34 (F := Ideal) x g wi qg wq (ix2 p k) = up_q (X x) (G g) (Wi wi) (L qg) (WQ wq) p k := by
  pointwise [val_main_v34, val_main_v33, val_main_v32]
  simp only [cq_ref]
  rfl

/-- The latent norm of the keys and values. -/
theorem ckv_ref (p : Fin 8192) (j : Fin 512) : val_main_v73 (F := Ideal) x g wi kg (ix2 p j)
    = rms512 (fun j => down (X x) (G g) (Wi wi) p ⟨512 + j.val, by omega⟩) (L kg) j := by
  simp only [← mid_ref]
  pointwise [val_main_v73, val_main_v72, val_main_v71, val_main_v70, val_main_v69, val_main_v68, val_main_v67, val_main_v66, val_main_v65, val_main_v64, val_main_v63, val_main_v62, val_main_cst_5, val_main_cst_6, val_main_cst_7]
  rfl

/-- The up-projected keys and values. -/
theorem kv_ref (p : Fin 8192) (k : Fin 4096) : val_main_v76 (F := Ideal) x g wi kg wk (ix2 p k) = up_kv (X x) (G g) (Wi wi) (L kg) (WK wk) p k := by
  pointwise [val_main_v76, val_main_v75, val_main_v74]
  simp only [ckv_ref]
  rfl

end Cert.Reference7Ideal.Hand

end
-- ==== Proof.ProjRefOut.lean ====
/- The results of the latent projections' reference: the queries, keys and values of its arguments, over the extended reals. -/
module

public import proofs.«01_k».proof.Proof.ProjRef
public import Idealize.ShloMosaic.Lib.Pointwise

@[expose] public section

set_option maxRecDepth 16384

noncomputable section

namespace Cert.Reference7Ideal.Hand

open Idealize.ShloMosaic Idealize.ShloMosaic.TcCoe
open Cert.Reference7Ideal.Read Cert.Mlp Cert.Proj

variable (x : Vec Ideal S8192x2048 .f32) (g : Vec Ideal S1x2048 .f32) (cs sn : Vec Ideal S32x8192 .f32) (wi : Vec Ideal S2x2048x1088 .f32)
  (qg kg : Vec Ideal S1x512 .f32) (wq : Vec Ideal S2x512x3072 .f32) (wk : Vec Ideal S2x512x4096 .f32)

/-- The shared rotated lanes. -/
theorem kpe_ref (p : Fin 8192) (e : Fin 64) : val_main_v61 (F := Ideal) x g cs sn wi (ix2 p e)
    = rope (fun e => down (X x) (G g) (Wi wi) p (Fin.ofNat 1088 (1024 + e))) (fun e => A cs e p) (fun e => A sn e p) e.val := by
  pointwise [val_main_v61, val_main_v60, val_main_v59, val_main_v58, val_main_v57, val_main_v56, val_main_v55, val_main_v54, val_main_v53, val_main_v1, val_main_v0]
  have he := e.isLt
  unfold rope
  by_cases h1 : e.val < 32
  · simp only [h1, dif_pos, if_true, pe_ref]
    have i0 : (⟨e.val, h1⟩ : Fin 32) = Fin.ofNat 32 e.val := Fin.ext (by simp only [Fin.ofNat]; omega)
    have i1 : (⟨1024 + e.val, by omega⟩ : Fin 1088) = Fin.ofNat 1088 (1024 + e.val) := Fin.ext (by simp only [Fin.ofNat]; omega)
    have i2 : (⟨1024 + (32 + e.val), by omega⟩ : Fin 1088) = Fin.ofNat 1088 (1024 + (e.val + 32)) := Fin.ext (by simp only [Fin.ofNat]; omega)
    exact congrArg₂ (fun a b : EReal => a - b) (congrArg₂ (fun a b : EReal => a * b) (congrArg _ i1) (congrArg (fun z => cs (ix2 z p)) i0))
      (congrArg₂ (fun a b : EReal => a * b) (congrArg _ i2) (congrArg (fun z => sn (ix2 z p)) i0))
  · simp only [h1, dif_neg, not_false_eq_true, if_false, pe_ref]
    have i0 : (⟨e.val - 32, by omega⟩ : Fin 32) = Fin.ofNat 32 e.val := Fin.ext (by simp only [Fin.ofNat]; omega)
    have i1 : (⟨1024 + (32 + (e.val - 32)), by omega⟩ : Fin 1088) = Fin.ofNat 1088 (1024 + e.val) := Fin.ext (by simp only [Fin.ofNat]; omega)
    have i2 : (⟨1024 + (e.val - 32), by omega⟩ : Fin 1088) = Fin.ofNat 1088 (1024 + (e.val - 32)) := Fin.ext (by simp only [Fin.ofNat]; omega)
    exact congrArg₂ (fun a b : EReal => a + b) (congrArg₂ (fun a b : EReal => a * b) (congrArg _ i1) (congrArg (fun z => cs (ix2 z p)) i0))
      (congrArg₂ (fun a b : EReal => a * b) (congrArg _ i2) (congrArg (fun z => sn (ix2 z p)) i0))

/-- The rotated lanes of the queries. -/
theorem qpe_ref (p : Fin 8192) (h : Fin 16) (e : Fin 64) : val_main_v52 (F := Ideal) x g cs sn wi qg wq (ix3 p h e)
    = rope (fun e => up_q (X x) (G g) (Wi wi) (L qg) (WQ wq) p (Fin.ofNat 3072 (192 * h.val + (128 + e)))) (fun e => A cs e p) (fun e => A sn e p) e.val := by
  pointwise [val_main_v52, val_main_v51, val_main_v50, val_main_v49, val_main_v48, val_main_v47, val_main_v46, val_main_v45, val_main_v44, val_main_v43, val_main_v42, val_main_v41, val_main_v40, val_main_v39, val_main_v38, val_main_v37, val_main_v35, val_main_v1, val_main_v0]
  have he := e.isLt
  have hh := h.isLt
  unfold rope
  by_cases h1 : e.val < 32
  · simp only [h1, dif_pos, if_true, q_ref]
    have i0 : (⟨e.val, h1⟩ : Fin 32) = Fin.ofNat 32 e.val := Fin.ext (by simp only [Fin.ofNat]; omega)
    have i1 : (⟨h.val * 192 + (128 + e.val), by omega⟩ : Fin 3072) = Fin.ofNat 3072 (192 * h.val + (128 + e.val)) := Fin.ext (by simp only [Fin.ofNat]; omega)
    have i2 : (⟨h.val * 192 + (128 + (32 + e.val)), by omega⟩ : Fin 3072) = Fin.ofNat 3072 (192 * h.val + (128 + (e.val + 32))) := Fin.ext (by simp only [Fin.ofNat]; omega)
    exact congrArg₂ (fun a b : EReal => a - b) (congrArg₂ (fun a b : EReal => a * b) (congrArg _ i1) (congrArg (fun z => cs (ix2 z p)) i0))
      (congrArg₂ (fun a b : EReal => a * b) (congrArg _ i2) (congrArg (fun z => sn (ix2 z p)) i0))
  · simp only [h1, dif_neg, not_false_eq_true, if_false, q_ref]
    have i0 : (⟨e.val - 32, by omega⟩ : Fin 32) = Fin.ofNat 32 e.val := Fin.ext (by simp only [Fin.ofNat]; omega)
    have i1 : (⟨h.val * 192 + (128 + (32 + (e.val - 32))), by omega⟩ : Fin 3072) = Fin.ofNat 3072 (192 * h.val + (128 + e.val)) := Fin.ext (by simp only [Fin.ofNat]; omega)
    have i2 : (⟨h.val * 192 + (128 + (e.val - 32)), by omega⟩ : Fin 3072) = Fin.ofNat 3072 (192 * h.val + (128 + (e.val - 32))) := Fin.ext (by simp only [Fin.ofNat]; omega)
    exact congrArg₂ (fun a b : EReal => a + b) (congrArg₂ (fun a b : EReal => a * b) (congrArg _ i1) (congrArg (fun z => cs (ix2 z p)) i0))
      (congrArg₂ (fun a b : EReal => a * b) (congrArg _ i2) (congrArg (fun z => sn (ix2 z p)) i0))

/-- The first result is the queries. -/
theorem queries_ref : val_main_v96 (F := Ideal) x g cs sn wi qg wq
    = fun i => queries (X x) (G g) (A cs) (A sn) (Wi wi) (L qg) (WQ wq) (i 0) (i 1) := by
  funext i
  obtain ⟨n, p, rfl⟩ : ∃ (n : Fin 4096) (p : Fin 8192), i = ix2 n p := ⟨i 0, i 1, eq_ix2 i⟩
  pointwise [val_main_v96, val_main_v87, val_main_v86, val_main_v85, val_main_v84, val_main_v83, val_main_v82, val_main_v81, val_main_v80, val_main_v36, val_main_v35, val_main_cst_8, val_main_cst_9, val_main_cst_10]
  have hn := n.isLt
  have hd : n.val % 256 < 256 := Nat.mod_lt _ (by omega)
  unfold queries
  dsimp only
  by_cases h1 : n.val % 256 < 128
  · simp only [h1, dif_pos, if_true, q_ref]
    refine congrArg (· * _) (congrArg _ (Fin.ext ?_))
    simp only [Fin.ofNat]
    omega
  · by_cases h2 : n.val % 256 < 192
    · have h3 : n.val % 256 - 128 < 64 := by omega
      simp only [h1, h2, h3, dif_pos, dif_neg, not_false_eq_true, if_true, if_false, qpe_ref]
    · have h3 : ¬n.val % 256 - 128 < 64 := by omega
      simp only [h1, h2, h3, dif_neg, not_false_eq_true, if_false]

/-- The second result is the keys. -/
theorem keys_ref : val_main_v97 (F := Ideal) x g cs sn wi kg wk
    = fun i => keys (X x) (G g) (A cs) (A sn) (Wi wi) (L kg) (WK wk) (i 0) (i 1) := by
  funext i
  obtain ⟨p, n, rfl⟩ : ∃ (p : Fin 8192) (n : Fin 4096), i = ix2 p n := ⟨i 0, i 1, eq_ix2 i⟩
  pointwise [val_main_v97, val_main_v91, val_main_v90, val_main_v89, val_main_v88, val_main_v80, val_main_v78, val_main_v77, val_main_cst_8]
  have hn := n.isLt
  have hd : n.val % 256 < 256 := Nat.mod_lt _ (by omega)
  unfold keys
  dsimp only
  by_cases h1 : n.val % 256 < 128
  · simp only [h1, dif_pos, if_true, kv_ref]
    refine congrArg _ (Fin.ext ?_)
    simp only [Fin.ofNat]
    omega
  · by_cases h2 : n.val % 256 < 192
    · have h3 : n.val % 256 - 128 < 64 := by omega
      simp only [h1, h2, h3, dif_pos, dif_neg, not_false_eq_true, if_true, if_false, kpe_ref]
    · have h3 : ¬n.val % 256 - 128 < 64 := by omega
      simp only [h1, h2, h3, dif_neg, not_false_eq_true, if_false]

/-- The third result is the values, in chunks of 512 rows. -/
theorem values_ref : val_main_v98 (F := Ideal) x g wi kg wk
    = fun i => values (X x) (G g) (Wi wi) (L kg) (WK wk) (Fin.ofNat 8192 (512 * (i 0).val + (i 2).val)) (i 1) := by
  funext i
  obtain ⟨a, n, r, rfl⟩ : ∃ (a : Fin 16) (n : Fin 2304) (r : Fin 512), i = ix3 a n r := ⟨i 0, i 1, i 2, eq_ix3 i⟩
  pointwise [val_main_v98, val_main_v95, val_main_v94, val_main_v93, val_main_v92, val_main_v79, val_main_v77, val_main_cst_11]
  have hn := n.isLt
  have ha := a.isLt
  have hr := r.isLt
  unfold values
  dsimp only
  by_cases h1 : n.val % 144 < 128
  · simp only [h1, dif_pos, if_true, kv_ref]
    have i0 : (⟨a.val * 512 + r.val, by omega⟩ : Fin 8192) = Fin.ofNat 8192 (512 * a.val + r.val) := Fin.ext (by simp only [Fin.ofNat]; omega)
    have i1 : (⟨n.val / 144 * 256 + (128 + n.val % 144), by omega⟩ : Fin 4096) = Fin.ofNat 4096 (256 * (n.val / 144) + 128 + n.val % 144) := Fin.ext (by simp only [Fin.ofNat]; omega)
    rw [i0, i1]
  · simp only [h1, dif_neg, not_false_eq_true, if_false]

end Cert.Reference7Ideal.Hand

end
-- ==== Proof.Proj.lean ====
/- The claims on the latent projections' call. -/
module

public import proofs.«01_k».proof.Defs
public import proofs.«01_k».proof.Proof.Gen.Kernel7.Frame
public import proofs.«01_k».proof.Proof.Gen.Pre_finite_rope_weights
public import proofs.«01_k».proof.Proof.Pre
public import proofs.«01_k».proof.Proof.ProjArr
public import proofs.«01_k».proof.Proof.ProjRefOut
public import proofs.«01_k».proof.Proof.Gen.Reference7Ideal.Run

@[expose] public section

set_option maxRecDepth 16384

noncomputable section

namespace Cert.Pre_finite_rope_weights.Hand

open Idealize.ShloMosaic Idealize.ShloMosaic.TcCoe
open Cert.Pre_finite_rope_weights Cert.Pre_finite_and_ones.Hand

variable (x : Vec Ideal S8192x2048 .f32) (g : Vec Ideal S1x2048 .f32) (cs sn : Vec Ideal S32x8192 .f32) (wi : Vec Ideal S2x2048x1088 .f32)
  (qg kg : Vec Ideal S1x512 .f32) (wq : Vec Ideal S2x512x3072 .f32) (wk : Vec Ideal S2x512x4096 .f32)

/-- The precondition's first part: every factor of the norm is below infinity in absolute value. -/
theorem fn1 (j : Fin 2048) : (fn (F := Ideal) x g cs sn wi qg kg wq wk).1 (ix2 0 j) = BitVec.ofBool (decide (max (g (ix2 0 j)) (-(g (ix2 0 j))) < (⊤ : EReal))) := by
  pointwise [fn]
  rw [ofBits_inf]; rfl

/-- The precondition's second part: so is every weight that the kernel negates. -/
theorem fn2 (l : Fin 2048) (k : Fin 32) : (fn (F := Ideal) x g cs sn wi qg kg wq wk).2 (ix2 l k)
    = BitVec.ofBool (decide (max (wi (ix3 1 l (⟨1056 + k.val, by omega⟩ : Fin 1088))) (-(wi (ix3 1 l (⟨1056 + k.val, by omega⟩ : Fin 1088)))) < (⊤ : EReal))) := by
  pointwise [fn]
  rw [ofBits_inf]; rfl

/-- Under the precondition the norm's factors are reals. -/
theorem real_g (h : (fn (F := Ideal) x g cs sn wi qg kg wq wk).1 = fun _ => 1#1) (j : Fin 2048) : ∃ r : ℝ, g (ix2 0 j) = r :=
  real_of_abs_lt ((fn1 x g cs sn wi qg kg wq wk j).symm.trans (congrFun h _))

/-- Under the precondition the negated weights are reals. -/
theorem real_w (h : (fn (F := Ideal) x g cs sn wi qg kg wq wk).2 = fun _ => 1#1) (l : Fin 2048) (k : Fin 32) :
    ∃ r : ℝ, wi (ix3 1 l (⟨1056 + k.val, by omega⟩ : Fin 1088)) = r :=
  real_of_abs_lt ((fn2 x g cs sn wi qg kg wq wk l k).symm.trans (congrFun h _))

end Cert.Pre_finite_rope_weights.Hand

namespace Cert.Proof

open Idealize.ShloMosaic Idealize.SL.Sem

/-- The kernel's frame. -/
theorem proj_frame : Cert.quiescent_Kernel7 := fun m ρ _ => Cert.Kernel7.Gen.frame m ρ

/-- The idealized kernel's frame. -/
theorem proj_ideal_frame : Cert.quiescent_Kernel7Ideal := fun m ρ _ => Cert.Kernel7Ideal.Gen.frame m ρ

/-- The reference's frame: it writes none of its arguments, and it has no semaphore. -/
theorem proj_ref_frame : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run m ρ)

/-- From finite factors of the norm and finite weights of the negated lanes, the kernel and the reference end with the same queries, keys and values. -/
theorem proj_algebraic : Cert.algebraic_Kernel7Ideal_Reference7Ideal_pre_finite_rope_weights := by
  intro m g m' g' hpre hag
  refine ⟨Cert.Kernel7Ideal.Hand.result0 m, Cert.Kernel7Ideal.Hand.result1 m, Cert.Kernel7Ideal.Hand.result2 m,
    Cert.Kernel7Ideal.Hand.run_all m g fun c =>
      ⟨Cert.Pre_finite_rope_weights.Hand.real_g _ _ _ _ _ _ _ _ _ (hpre c).1, Cert.Pre_finite_rope_weights.Hand.real_w _ _ _ _ _ _ _ _ _ (hpre c).2⟩, ?_⟩
  refine (θ_run Cert.Reference7Ideal.defs _ _).mono (fun r h c => ?_) (Cert.Reference7Ideal.Value.run m' g')
  obtain ⟨h0, h1, h2, hargs⟩ := h c
  obtain ⟨e0, e1, e2, e3, e4, e5, e6, e7, e8⟩ := hag c
  refine ⟨?_, ?_, ?_, hargs⟩
  · rw [h0, Cert.Reference7Ideal.Read.val_main_v96_eq, Cert.Reference7Ideal.Hand.queries_ref, e0, e1, e2, e3, e4, e5, e7]
    rfl
  · rw [h1, Cert.Reference7Ideal.Read.val_main_v97_eq, Cert.Reference7Ideal.Hand.keys_ref, e0, e1, e2, e3, e4, e6, e8]
    rfl
  · rw [h2, Cert.Reference7Ideal.Read.val_main_v98_eq, Cert.Reference7Ideal.Hand.values_ref, e0, e1, e4, e6, e8]
    rfl

end Cert.Proof

end
-- ==== Proof.lean ====
/- The certificate's claims. -/
module

public import proofs.«01_k».proof.Defs
public import proofs.«01_k».proof.Proof.K.Frame
public import proofs.«01_k».proof.Proof.KI.Value
public import proofs.«01_k».proof.Proof.RefValue
public import proofs.«01_k».proof.Proof.Pre
public import proofs.«01_k».proof.Proof.M.Claim
public import proofs.«01_k».proof.Proof.MF.Claim
public import proofs.«01_k».proof.Proof.Glu
public import proofs.«01_k».proof.Proof.Linear
public import proofs.«01_k».proof.Proof.LinearPlain
public import proofs.«01_k».proof.Proof.Proj
public import proofs.«01_k».proof.Proof.Gen.Pre_finite_and_ones
public import proofs.«01_k».proof.Proof.Gen.ReferenceIdeal.Run

@[expose] public section

noncomputable section

namespace Cert.Proof

open Idealize.ShloMosaic Idealize.SL.Sem

/-- The reference's frame: it writes none of its arguments, and it has no semaphore. -/
theorem ref_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

/-- The idealized kernel's frame. -/
theorem kernel_frame : Cert.quiescent_KernelIdeal := fun m ρ _ =>
  (θ_run Cert.KernelIdeal.defs _ _).mono (fun _ h => ⟨fun c => (h.1 c).2, h.2⟩) (Cert.KernelIdeal.Hand.run_all m ρ)

/-- From finite queries and keys, and values with their ones rows, the kernel and the reference end with the same three arrays: the chunk-masked attention,
    and the last slices of the two weight arrays. -/
theorem algebraic : Cert.algebraic_KernelIdeal_ReferenceIdeal_pre_finite_and_ones := by
  intro m g m' g' hpre hag
  refine ⟨fun c => Cert.Attn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => fun i => m ((c.tc : Thread Cert.KernelIdeal.nD Cert.KernelIdeal.τ).loc Cert.KernelIdeal.main_arg3) (ix3 3 (i 0) (i 1)),
    fun c => fun i => m ((c.tc : Thread Cert.KernelIdeal.nD Cert.KernelIdeal.τ).loc Cert.KernelIdeal.main_arg4) (ix3 3 (i 0) (i 1)), ?_, ?_⟩
  · refine (θ_run Cert.KernelIdeal.defs _ _).mono (fun r h c => ?_) (Cert.KernelIdeal.Hand.run_all m g)
    obtain ⟨⟨h0, h1, h2⟩, hargs⟩ := h.1 c
    obtain ⟨p1, p2, p3⟩ := hpre c
    exact ⟨h0.trans (Cert.KernelIdeal.Hand.arr6 m c (Cert.Pre_finite_and_ones.Hand.ok _ _ _ _ _ p1 p2 p3)), h1.trans (Cert.KernelIdeal.Hand.arr7 m c),
      h2.trans (Cert.KernelIdeal.Hand.arr8 m c), hargs⟩
  · refine (θ_run Cert.ReferenceIdeal.defs _ _).mono (fun r h c => ?_) (Cert.ReferenceIdeal.Value.run m' g')
    obtain ⟨h0, h1, h2, hargs⟩ := h c
    obtain ⟨e0, e1, e2, e3, e4⟩ := hag c
    refine ⟨?_, ?_, ?_, hargs⟩
    · rw [h0, Cert.ReferenceIdeal.Read.val_main_v33_eq, Cert.ReferenceIdeal.Hand.att_ref, e0, e1, e2]
    · rw [h1, Cert.ReferenceIdeal.Read.val_main_v36_eq, Cert.ReferenceIdeal.Hand.cast36, e3]; rfl
    · rw [h2, Cert.ReferenceIdeal.Read.val_main_v39_eq, Cert.ReferenceIdeal.Hand.cast39, e4]; rfl

/-- The certificate's claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  Cert.Pre_finite_and_ones.Gen.facts, Cert.Pre_finite_rope_weights.Gen.facts,
  fun m ρ _ => Cert.Kernel.Hand.frame m ρ, kernel_frame, fun m ρ _ => kernel_frame m ρ trivial, ref_frame, fun m ρ _ => ref_frame m ρ trivial,
  mlp_frame, mlp_ideal_frame, mlp_ref_frame, last_frame, last_ideal_frame, last_ref_frame, glu_frame, glu_ideal_frame, glu_ref_frame, linear_frame, linear_ideal_frame, linear_ref_frame, plain_frame, plain_ideal_frame, plain_ref_frame,
  proj_frame, proj_ideal_frame, fun m ρ _ => proj_ideal_frame m ρ trivial, proj_ref_frame, fun m ρ _ => proj_ref_frame m ρ trivial,
  trivial, algebraic, trivial, mlp_algebraic, trivial, last_algebraic, trivial, glu_algebraic, trivial, linear_algebraic, trivial, plain_algebraic, trivial, proj_algebraic⟩

end Cert.Proof

end
